-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S2x256x1024 : Shape := ⟨3, ![2, 256, 1024]⟩
abbrev S4x256x1024 : Shape := ⟨3, ![4, 256, 1024]⟩
abbrev S16 : Shape := ⟨1, ![16]⟩
abbrev S8 : Shape := ⟨1, ![8]⟩
abbrev S2 : Shape := ⟨1, ![2]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S32768x1024, .f32⟩
  | .local _ .vmem, ⟨0, _⟩ => ⟨S2x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 146 → Bool
  | ⟨i, _⟩ => dmaSemScopedAt i

abbrev sig : RefSig :=
  (ofTc nBuf bufTy 6 146 bufScoped semScoped dmaSemScoped tileCredit tileCredit_eq_zero tileCredit_pos).withBarriers [(0, 5)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 5

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v44 : BitVec 32 := Scalar.muli v2 c8_i32_24
  let v45 : BitVec 32 := Scalar.addi c0_i32_25 v44
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_26 : BitVec 32 := 4#32
  let v46 : BitVec 32 := Scalar.muli v19 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v48 : BitVec 32 := Scalar.muli v8 c1_i32_27
  let v49 : BitVec 32 := Scalar.addi v47 v48
  v49.toNat
def k0_dev2 (d0 : Dev nD) : Nat :=
  let c0_i32_30 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_29 : BitVec 32 := 8#32
  let v50 : BitVec 32 := Scalar.muli v20 c8_i32_29
  let v51 : BitVec 32 := Scalar.addi c0_i32_30 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v52 : BitVec 32 := Scalar.muli v5 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.muli v8 c1_i32_32
  let v55 : BitVec 32 := Scalar.addi v53 v54
  v55.toNat
def k0_dev3 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v56 : BitVec 32 := Scalar.muli v2 c8_i32_34
  let v57 : BitVec 32 := Scalar.addi c0_i32_35 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v58 : BitVec 32 := Scalar.muli v5 c4_i32_36
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_37 : BitVec 32 := 1#32
  let v60 : BitVec 32 := Scalar.muli v23 c1_i32_37
  let v61 : BitVec 32 := Scalar.addi v59 v60
  v61.toNat
def k0_off1 (d0 : Dev nD) (c0_i32_38 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v24 : BitVec 32 := Scalar.muli v2 c8192_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c4096_i32 : BitVec 32 := 4096#32
  let v25 : BitVec 32 := Scalar.muli v18 c4096_i32
  let v26 : BitVec 32 := Scalar.addi v24 v25
  let v62 : BitVec 32 := Scalar.addi v26 c0_i32_38
  let c0_i32_43 : BitVec 32 := 0#32
  ![v62.toNat, 0]
def k0_dev4 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v73 : BitVec 32 := Scalar.muli v2 c8_i32_53
  let v74 : BitVec 32 := Scalar.addi c0_i32_54 v73
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_55 : BitVec 32 := 4#32
  let v75 : BitVec 32 := Scalar.muli v19 c4_i32_55
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v77 : BitVec 32 := Scalar.muli v8 c1_i32_56
  let v78 : BitVec 32 := Scalar.addi v76 v77
  v78.toNat
def k0_off2 (d0 : Dev nD) (c0_i32_61 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v40 : BitVec 32 := Scalar.muli v5 c16384_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v24 : BitVec 32 := Scalar.muli v2 c8192_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c4096_i32 : BitVec 32 := 4096#32
  let v25 : BitVec 32 := Scalar.muli v18 c4096_i32
  let v26 : BitVec 32 := Scalar.addi v24 v25
  let v87 : BitVec 32 := Scalar.addi v40 v26
  let v88 : BitVec 32 := Scalar.addi v87 c0_i32_61
  let c0_i32_64 : BitVec 32 := 0#32
  ![v88.toNat, 0]
def k0_off3 (d0 : Dev nD) (c0_i32_67 : BitVec 32) : Fin 2 → Nat :=
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c8192_i32_12 : BitVec 32 := 8192#32
  let v28 : BitVec 32 := Scalar.muli v27 c8192_i32_12
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c4096_i32_13 : BitVec 32 := 4096#32
  let v29 : BitVec 32 := Scalar.muli v18 c4096_i32_13
  let v30 : BitVec 32 := Scalar.addi v28 v29
  let v94 : BitVec 32 := Scalar.addi v30 c0_i32_67
  let c0_i32_72 : BitVec 32 := 0#32
  ![v94.toNat, 0]
def k0_off4 (d0 : Dev nD) (c0_i32_78 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v40 : BitVec 32 := Scalar.muli v5 c16384_i32
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c8192_i32_12 : BitVec 32 := 8192#32
  let v28 : BitVec 32 := Scalar.muli v27 c8192_i32_12
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c4096_i32_13 : BitVec 32 := 4096#32
  let v29 : BitVec 32 := Scalar.muli v18 c4096_i32_13
  let v30 : BitVec 32 := Scalar.addi v28 v29
  let v105 : BitVec 32 := Scalar.addi v40 v30
  let v106 : BitVec 32 := Scalar.addi v105 c0_i32_78
  let c0_i32_81 : BitVec 32 := 0#32
  ![v106.toNat, 0]
def k0_off5 (d0 : Dev nD) (c0_i32_84 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32_14 : BitVec 32 := 8192#32
  let v31 : BitVec 32 := Scalar.muli v2 c8192_i32_14
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_15 v18
  let c4096_i32_16 : BitVec 32 := 4096#32
  let v33 : BitVec 32 := Scalar.muli v32 c4096_i32_16
  let v34 : BitVec 32 := Scalar.addi v31 v33
  let v112 : BitVec 32 := Scalar.addi v34 c0_i32_84
  let c0_i32_89 : BitVec 32 := 0#32
  ![v112.toNat, 0]
def k0_off6 (d0 : Dev nD) (c0_i32_95 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v40 : BitVec 32 := Scalar.muli v5 c16384_i32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32_14 : BitVec 32 := 8192#32
  let v31 : BitVec 32 := Scalar.muli v2 c8192_i32_14
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_15 v18
  let c4096_i32_16 : BitVec 32 := 4096#32
  let v33 : BitVec 32 := Scalar.muli v32 c4096_i32_16
  let v34 : BitVec 32 := Scalar.addi v31 v33
  let v123 : BitVec 32 := Scalar.addi v40 v34
  let v124 : BitVec 32 := Scalar.addi v123 c0_i32_95
  let c0_i32_98 : BitVec 32 := 0#32
  ![v124.toNat, 0]
def k0_off7 (d0 : Dev nD) (c0_i32_106 : BitVec 32) : Fin 2 → Nat :=
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let c8192_i32_18 : BitVec 32 := 8192#32
  let v36 : BitVec 32 := Scalar.muli v35 c8192_i32_18
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_19 v18
  let c4096_i32_20 : BitVec 32 := 4096#32
  let v38 : BitVec 32 := Scalar.muli v37 c4096_i32_20
  let v39 : BitVec 32 := Scalar.addi v36 v38
  let v135 : BitVec 32 := Scalar.addi v39 c0_i32_106
  let c0_i32_111 : BitVec 32 := 0#32
  ![v135.toNat, 0]
def k0_off8 (d0 : Dev nD) (c0_i32_117 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v40 : BitVec 32 := Scalar.muli v5 c16384_i32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let c8192_i32_18 : BitVec 32 := 8192#32
  let v36 : BitVec 32 := Scalar.muli v35 c8192_i32_18
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_19 v18
  let c4096_i32_20 : BitVec 32 := 4096#32
  let v38 : BitVec 32 := Scalar.muli v37 c4096_i32_20
  let v39 : BitVec 32 := Scalar.addi v36 v38
  let v146 : BitVec 32 := Scalar.addi v40 v39
  let v147 : BitVec 32 := Scalar.addi v146 c0_i32_117
  let c0_i32_120 : BitVec 32 := 0#32
  ![v147.toNat, 0]
def k0_dev5 (d0 : Dev nD) : Nat :=
  let c0_i32_138 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_137 : BitVec 32 := 8#32
  let v164 : BitVec 32 := Scalar.muli v2 c8_i32_137
  let v165 : BitVec 32 := Scalar.addi c0_i32_138 v164
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_139 : BitVec 32 := 4#32
  let v166 : BitVec 32 := Scalar.muli v19 c4_i32_139
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_140 : BitVec 32 := 1#32
  let v168 : BitVec 32 := Scalar.muli v8 c1_i32_140
  let v169 : BitVec 32 := Scalar.addi v167 v168
  v169.toNat
def k0_off9 (d0 : Dev nD) (c0_i32_163 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_21 v5
  let c16384_i32_22 : BitVec 32 := 16384#32
  let v42 : BitVec 32 := Scalar.muli v41 c16384_i32_22
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v24 : BitVec 32 := Scalar.muli v2 c8192_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c4096_i32 : BitVec 32 := 4096#32
  let v25 : BitVec 32 := Scalar.muli v18 c4096_i32
  let v26 : BitVec 32 := Scalar.addi v24 v25
  let v197 : BitVec 32 := Scalar.addi v42 v26
  let v198 : BitVec 32 := Scalar.addi v197 c0_i32_163
  let c0_i32_166 : BitVec 32 := 0#32
  ![v198.toNat, 0]
def k0_dev6 (d0 : Dev nD) : Nat :=
  let c0_i32_174 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_173 : BitVec 32 := 8#32
  let v204 : BitVec 32 := Scalar.muli v20 c8_i32_173
  let v205 : BitVec 32 := Scalar.addi c0_i32_174 v204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v206 : BitVec 32 := Scalar.muli v5 c4_i32_175
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v208 : BitVec 32 := Scalar.muli v8 c1_i32_176
  let v209 : BitVec 32 := Scalar.addi v207 v208
  v209.toNat
def k0_dev7 (d0 : Dev nD) : Nat :=
  let c0_i32_186 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_185 : BitVec 32 := 8#32
  let v218 : BitVec 32 := Scalar.muli v2 c8_i32_185
  let v219 : BitVec 32 := Scalar.addi c0_i32_186 v218
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_187 : BitVec 32 := 4#32
  let v220 : BitVec 32 := Scalar.muli v5 c4_i32_187
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_188 : BitVec 32 := 1#32
  let v222 : BitVec 32 := Scalar.muli v23 c1_i32_188
  let v223 : BitVec 32 := Scalar.addi v221 v222
  v223.toNat
def k0_dev8 (d0 : Dev nD) : Nat :=
  let c0_i32_288 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_287 : BitVec 32 := 8#32
  let v323 : BitVec 32 := Scalar.muli v2 c8_i32_287
  let v324 : BitVec 32 := Scalar.addi c0_i32_288 v323
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_289 : BitVec 32 := 4#32
  let v325 : BitVec 32 := Scalar.muli v19 c4_i32_289
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_290 : BitVec 32 := 1#32
  let v327 : BitVec 32 := Scalar.muli v8 c1_i32_290
  let v328 : BitVec 32 := Scalar.addi v326 v327
  v328.toNat
def k0_dev9 (d0 : Dev nD) : Nat :=
  let c0_i32_324 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_323 : BitVec 32 := 8#32
  let v363 : BitVec 32 := Scalar.muli v20 c8_i32_323
  let v364 : BitVec 32 := Scalar.addi c0_i32_324 v363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_325 : BitVec 32 := 4#32
  let v365 : BitVec 32 := Scalar.muli v5 c4_i32_325
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v367 : BitVec 32 := Scalar.muli v8 c1_i32_326
  let v368 : BitVec 32 := Scalar.addi v366 v367
  v368.toNat
def k0_dev10 (d0 : Dev nD) : Nat :=
  let c0_i32_336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_335 : BitVec 32 := 8#32
  let v377 : BitVec 32 := Scalar.muli v2 c8_i32_335
  let v378 : BitVec 32 := Scalar.addi c0_i32_336 v377
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v379 : BitVec 32 := Scalar.muli v5 c4_i32_337
  let v380 : BitVec 32 := Scalar.addi v378 v379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_338 : BitVec 32 := 1#32
  let v381 : BitVec 32 := Scalar.muli v23 c1_i32_338
  let v382 : BitVec 32 := Scalar.addi v380 v381
  v382.toNat
def k0_off10 (d0 : Dev nD) (c0_i32_355 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_21 v5
  let c16384_i32_22 : BitVec 32 := 16384#32
  let v42 : BitVec 32 := Scalar.muli v41 c16384_i32_22
  let c1_i32_11 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_11 v2
  let c8192_i32_12 : BitVec 32 := 8192#32
  let v28 : BitVec 32 := Scalar.muli v27 c8192_i32_12
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c4096_i32_13 : BitVec 32 := 4096#32
  let v29 : BitVec 32 := Scalar.muli v18 c4096_i32_13
  let v30 : BitVec 32 := Scalar.addi v28 v29
  let v403 : BitVec 32 := Scalar.addi v42 v30
  let v404 : BitVec 32 := Scalar.addi v403 c0_i32_355
  let c0_i32_358 : BitVec 32 := 0#32
  ![v404.toNat, 0]
def k0_off11 (d0 : Dev nD) (c0_i32_373 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_21 v5
  let c16384_i32_22 : BitVec 32 := 16384#32
  let v42 : BitVec 32 := Scalar.muli v41 c16384_i32_22
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32_14 : BitVec 32 := 8192#32
  let v31 : BitVec 32 := Scalar.muli v2 c8192_i32_14
  let c1_i32_15 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v32 : BitVec 32 := Scalar.subi c1_i32_15 v18
  let c4096_i32_16 : BitVec 32 := 4096#32
  let v33 : BitVec 32 := Scalar.muli v32 c4096_i32_16
  let v34 : BitVec 32 := Scalar.addi v31 v33
  let v422 : BitVec 32 := Scalar.addi v42 v34
  let v423 : BitVec 32 := Scalar.addi v422 c0_i32_373
  let c0_i32_376 : BitVec 32 := 0#32
  ![v423.toNat, 0]
def k0_dev11 (d0 : Dev nD) : Nat :=
  let c0_i32_384 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_383 : BitVec 32 := 8#32
  let v429 : BitVec 32 := Scalar.muli v20 c8_i32_383
  let v430 : BitVec 32 := Scalar.addi c0_i32_384 v429
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v431 : BitVec 32 := Scalar.muli v5 c4_i32_385
  let v432 : BitVec 32 := Scalar.addi v430 v431
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_386 : BitVec 32 := 1#32
  let v433 : BitVec 32 := Scalar.muli v8 c1_i32_386
  let v434 : BitVec 32 := Scalar.addi v432 v433
  v434.toNat
def k0_dev12 (d0 : Dev nD) : Nat :=
  let c0_i32_486 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_485 : BitVec 32 := 8#32
  let v534 : BitVec 32 := Scalar.muli v2 c8_i32_485
  let v535 : BitVec 32 := Scalar.addi c0_i32_486 v534
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_487 : BitVec 32 := 4#32
  let v536 : BitVec 32 := Scalar.muli v19 c4_i32_487
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_488 : BitVec 32 := 1#32
  let v538 : BitVec 32 := Scalar.muli v8 c1_i32_488
  let v539 : BitVec 32 := Scalar.addi v537 v538
  v539.toNat
def k0_dev13 (d0 : Dev nD) : Nat :=
  let c0_i32_524 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_523 : BitVec 32 := 8#32
  let v572 : BitVec 32 := Scalar.muli v2 c8_i32_523
  let v573 : BitVec 32 := Scalar.addi c0_i32_524 v572
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_525 : BitVec 32 := 4#32
  let v574 : BitVec 32 := Scalar.muli v19 c4_i32_525
  let v575 : BitVec 32 := Scalar.addi v573 v574
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v576 : BitVec 32 := Scalar.muli v8 c1_i32_526
  let v577 : BitVec 32 := Scalar.addi v575 v576
  v577.toNat
def k0_dev14 (d0 : Dev nD) : Nat :=
  let c0_i32_550 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_549 : BitVec 32 := 8#32
  let v597 : BitVec 32 := Scalar.muli v20 c8_i32_549
  let v598 : BitVec 32 := Scalar.addi c0_i32_550 v597
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_551 : BitVec 32 := 4#32
  let v599 : BitVec 32 := Scalar.muli v5 c4_i32_551
  let v600 : BitVec 32 := Scalar.addi v598 v599
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_552 : BitVec 32 := 1#32
  let v601 : BitVec 32 := Scalar.muli v8 c1_i32_552
  let v602 : BitVec 32 := Scalar.addi v600 v601
  v602.toNat
def k0_dev15 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_561 : BitVec 32 := 8#32
  let v611 : BitVec 32 := Scalar.muli v2 c8_i32_561
  let v612 : BitVec 32 := Scalar.addi c0_i32_562 v611
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_563 : BitVec 32 := 4#32
  let v613 : BitVec 32 := Scalar.muli v5 c4_i32_563
  let v614 : BitVec 32 := Scalar.addi v612 v613
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_564 : BitVec 32 := 1#32
  let v615 : BitVec 32 := Scalar.muli v23 c1_i32_564
  let v616 : BitVec 32 := Scalar.addi v614 v615
  v616.toNat
def k0_dev16 (d0 : Dev nD) : Nat :=
  let c0_i32_610 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_609 : BitVec 32 := 8#32
  let v663 : BitVec 32 := Scalar.muli v2 c8_i32_609
  let v664 : BitVec 32 := Scalar.addi c0_i32_610 v663
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_611 : BitVec 32 := 4#32
  let v665 : BitVec 32 := Scalar.muli v5 c4_i32_611
  let v666 : BitVec 32 := Scalar.addi v664 v665
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_612 : BitVec 32 := 1#32
  let v667 : BitVec 32 := Scalar.muli v23 c1_i32_612
  let v668 : BitVec 32 := Scalar.addi v666 v667
  v668.toNat
def k0_off12 (d0 : Dev nD) (c0_i32_629 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.subi c1_i32_21 v5
  let c16384_i32_22 : BitVec 32 := 16384#32
  let v42 : BitVec 32 := Scalar.muli v41 c16384_i32_22
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let c8192_i32_18 : BitVec 32 := 8192#32
  let v36 : BitVec 32 := Scalar.muli v35 c8192_i32_18
  let c1_i32_19 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.subi c1_i32_19 v18
  let c4096_i32_20 : BitVec 32 := 4096#32
  let v38 : BitVec 32 := Scalar.muli v37 c4096_i32_20
  let v39 : BitVec 32 := Scalar.addi v36 v38
  let v689 : BitVec 32 := Scalar.addi v42 v39
  let v690 : BitVec 32 := Scalar.addi v689 c0_i32_629
  let c0_i32_632 : BitVec 32 := 0#32
  ![v690.toNat, 0]
def k0_dev17 (d0 : Dev nD) : Nat :=
  let c0_i32_732 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_731 : BitVec 32 := 8#32
  let v787 : BitVec 32 := Scalar.muli v2 c8_i32_731
  let v788 : BitVec 32 := Scalar.addi c0_i32_732 v787
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_733 : BitVec 32 := 4#32
  let v789 : BitVec 32 := Scalar.muli v19 c4_i32_733
  let v790 : BitVec 32 := Scalar.addi v788 v789
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_734 : BitVec 32 := 1#32
  let v791 : BitVec 32 := Scalar.muli v8 c1_i32_734
  let v792 : BitVec 32 := Scalar.addi v790 v791
  v792.toNat
def k0_dev18 (d0 : Dev nD) : Nat :=
  let c0_i32_770 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_769 : BitVec 32 := 8#32
  let v825 : BitVec 32 := Scalar.muli v2 c8_i32_769
  let v826 : BitVec 32 := Scalar.addi c0_i32_770 v825
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_771 : BitVec 32 := 4#32
  let v827 : BitVec 32 := Scalar.muli v19 c4_i32_771
  let v828 : BitVec 32 := Scalar.addi v826 v827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_772 : BitVec 32 := 1#32
  let v829 : BitVec 32 := Scalar.muli v8 c1_i32_772
  let v830 : BitVec 32 := Scalar.addi v828 v829
  v830.toNat
def k0_dev19 (d0 : Dev nD) : Nat :=
  let c0_i32_796 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_795 : BitVec 32 := 8#32
  let v850 : BitVec 32 := Scalar.muli v20 c8_i32_795
  let v851 : BitVec 32 := Scalar.addi c0_i32_796 v850
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_797 : BitVec 32 := 4#32
  let v852 : BitVec 32 := Scalar.muli v5 c4_i32_797
  let v853 : BitVec 32 := Scalar.addi v851 v852
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_798 : BitVec 32 := 1#32
  let v854 : BitVec 32 := Scalar.muli v8 c1_i32_798
  let v855 : BitVec 32 := Scalar.addi v853 v854
  v855.toNat
def k0_dev20 (d0 : Dev nD) : Nat :=
  let c0_i32_808 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_807 : BitVec 32 := 8#32
  let v864 : BitVec 32 := Scalar.muli v2 c8_i32_807
  let v865 : BitVec 32 := Scalar.addi c0_i32_808 v864
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_809 : BitVec 32 := 4#32
  let v866 : BitVec 32 := Scalar.muli v5 c4_i32_809
  let v867 : BitVec 32 := Scalar.addi v865 v866
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_810 : BitVec 32 := 1#32
  let v868 : BitVec 32 := Scalar.muli v23 c1_i32_810
  let v869 : BitVec 32 := Scalar.addi v867 v868
  v869.toNat
def k0_dev21 (d0 : Dev nD) : Nat :=
  let c0_i32_822 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_821 : BitVec 32 := 8#32
  let v883 : BitVec 32 := Scalar.muli v20 c8_i32_821
  let v884 : BitVec 32 := Scalar.addi c0_i32_822 v883
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_823 : BitVec 32 := 4#32
  let v885 : BitVec 32 := Scalar.muli v5 c4_i32_823
  let v886 : BitVec 32 := Scalar.addi v884 v885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_824 : BitVec 32 := 1#32
  let v887 : BitVec 32 := Scalar.muli v8 c1_i32_824
  let v888 : BitVec 32 := Scalar.addi v886 v887
  v888.toNat
def k0_dev22 (d0 : Dev nD) : Nat :=
  let c0_i32_841 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_840 : BitVec 32 := 8#32
  let v900 : BitVec 32 := Scalar.muli v2 c8_i32_840
  let v901 : BitVec 32 := Scalar.addi c0_i32_841 v900
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_842 : BitVec 32 := 4#32
  let v902 : BitVec 32 := Scalar.muli v5 c4_i32_842
  let v903 : BitVec 32 := Scalar.addi v901 v902
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_843 : BitVec 32 := 1#32
  let v904 : BitVec 32 := Scalar.muli v23 c1_i32_843
  let v905 : BitVec 32 := Scalar.addi v903 v904
  v905.toNat
def k0_dev23 (d0 : Dev nD) : Nat :=
  let c0_i32_885 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_884 : BitVec 32 := 8#32
  let v944 : BitVec 32 := Scalar.muli v20 c8_i32_884
  let v945 : BitVec 32 := Scalar.addi c0_i32_885 v944
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_886 : BitVec 32 := 4#32
  let v946 : BitVec 32 := Scalar.muli v5 c4_i32_886
  let v947 : BitVec 32 := Scalar.addi v945 v946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_887 : BitVec 32 := 1#32
  let v948 : BitVec 32 := Scalar.muli v8 c1_i32_887
  let v949 : BitVec 32 := Scalar.addi v947 v948
  v949.toNat
def k0_dev24 (d0 : Dev nD) : Nat :=
  let c0_i32_1006 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1005 : BitVec 32 := 8#32
  let v1068 : BitVec 32 := Scalar.muli v2 c8_i32_1005
  let v1069 : BitVec 32 := Scalar.addi c0_i32_1006 v1068
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1007 : BitVec 32 := 4#32
  let v1070 : BitVec 32 := Scalar.muli v19 c4_i32_1007
  let v1071 : BitVec 32 := Scalar.addi v1069 v1070
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1008 : BitVec 32 := 1#32
  let v1072 : BitVec 32 := Scalar.muli v8 c1_i32_1008
  let v1073 : BitVec 32 := Scalar.addi v1071 v1072
  v1073.toNat
def k0_dev25 (d0 : Dev nD) : Nat :=
  let c0_i32_1044 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1043 : BitVec 32 := 8#32
  let v1106 : BitVec 32 := Scalar.muli v2 c8_i32_1043
  let v1107 : BitVec 32 := Scalar.addi c0_i32_1044 v1106
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1045 : BitVec 32 := 4#32
  let v1108 : BitVec 32 := Scalar.muli v19 c4_i32_1045
  let v1109 : BitVec 32 := Scalar.addi v1107 v1108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1046 : BitVec 32 := 1#32
  let v1110 : BitVec 32 := Scalar.muli v8 c1_i32_1046
  let v1111 : BitVec 32 := Scalar.addi v1109 v1110
  v1111.toNat
def k0_dev26 (d0 : Dev nD) : Nat :=
  let c0_i32_1072 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1071 : BitVec 32 := 8#32
  let v1131 : BitVec 32 := Scalar.muli v20 c8_i32_1071
  let v1132 : BitVec 32 := Scalar.addi c0_i32_1072 v1131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1073 : BitVec 32 := 4#32
  let v1133 : BitVec 32 := Scalar.muli v5 c4_i32_1073
  let v1134 : BitVec 32 := Scalar.addi v1132 v1133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1074 : BitVec 32 := 1#32
  let v1135 : BitVec 32 := Scalar.muli v8 c1_i32_1074
  let v1136 : BitVec 32 := Scalar.addi v1134 v1135
  v1136.toNat
def k0_dev27 (d0 : Dev nD) : Nat :=
  let c0_i32_1086 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1085 : BitVec 32 := 8#32
  let v1145 : BitVec 32 := Scalar.muli v2 c8_i32_1085
  let v1146 : BitVec 32 := Scalar.addi c0_i32_1086 v1145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1087 : BitVec 32 := 4#32
  let v1147 : BitVec 32 := Scalar.muli v5 c4_i32_1087
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1088 : BitVec 32 := 1#32
  let v1149 : BitVec 32 := Scalar.muli v23 c1_i32_1088
  let v1150 : BitVec 32 := Scalar.addi v1148 v1149
  v1150.toNat
def k0_dev28 (d0 : Dev nD) : Nat :=
  let c0_i32_1109 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1108 : BitVec 32 := 8#32
  let v1170 : BitVec 32 := Scalar.muli v20 c8_i32_1108
  let v1171 : BitVec 32 := Scalar.addi c0_i32_1109 v1170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1110 : BitVec 32 := 4#32
  let v1172 : BitVec 32 := Scalar.muli v5 c4_i32_1110
  let v1173 : BitVec 32 := Scalar.addi v1171 v1172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1111 : BitVec 32 := 1#32
  let v1174 : BitVec 32 := Scalar.muli v8 c1_i32_1111
  let v1175 : BitVec 32 := Scalar.addi v1173 v1174
  v1175.toNat
def k0_dev29 (d0 : Dev nD) : Nat :=
  let c0_i32_1119 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1118 : BitVec 32 := 8#32
  let v1181 : BitVec 32 := Scalar.muli v2 c8_i32_1118
  let v1182 : BitVec 32 := Scalar.addi c0_i32_1119 v1181
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1120 : BitVec 32 := 4#32
  let v1183 : BitVec 32 := Scalar.muli v5 c4_i32_1120
  let v1184 : BitVec 32 := Scalar.addi v1182 v1183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1121 : BitVec 32 := 1#32
  let v1185 : BitVec 32 := Scalar.muli v23 c1_i32_1121
  let v1186 : BitVec 32 := Scalar.addi v1184 v1185
  v1186.toNat
def k0_dev30 (d0 : Dev nD) : Nat :=
  let c0_i32_1163 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1162 : BitVec 32 := 8#32
  let v1225 : BitVec 32 := Scalar.muli v2 c8_i32_1162
  let v1226 : BitVec 32 := Scalar.addi c0_i32_1163 v1225
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1164 : BitVec 32 := 4#32
  let v1227 : BitVec 32 := Scalar.muli v5 c4_i32_1164
  let v1228 : BitVec 32 := Scalar.addi v1226 v1227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1165 : BitVec 32 := 1#32
  let v1229 : BitVec 32 := Scalar.muli v23 c1_i32_1165
  let v1230 : BitVec 32 := Scalar.addi v1228 v1229
  v1230.toNat
def k0_dev31 (d0 : Dev nD) : Nat :=
  let c0_i32_1177 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1176 : BitVec 32 := 8#32
  let v1244 : BitVec 32 := Scalar.muli v20 c8_i32_1176
  let v1245 : BitVec 32 := Scalar.addi c0_i32_1177 v1244
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1178 : BitVec 32 := 4#32
  let v1246 : BitVec 32 := Scalar.muli v5 c4_i32_1178
  let v1247 : BitVec 32 := Scalar.addi v1245 v1246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1179 : BitVec 32 := 1#32
  let v1248 : BitVec 32 := Scalar.muli v8 c1_i32_1179
  let v1249 : BitVec 32 := Scalar.addi v1247 v1248
  v1249.toNat
def k0_dev32 (d0 : Dev nD) : Nat :=
  let c0_i32_1294 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1293 : BitVec 32 := 8#32
  let v1360 : BitVec 32 := Scalar.muli v2 c8_i32_1293
  let v1361 : BitVec 32 := Scalar.addi c0_i32_1294 v1360
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1295 : BitVec 32 := 4#32
  let v1362 : BitVec 32 := Scalar.muli v19 c4_i32_1295
  let v1363 : BitVec 32 := Scalar.addi v1361 v1362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1296 : BitVec 32 := 1#32
  let v1364 : BitVec 32 := Scalar.muli v8 c1_i32_1296
  let v1365 : BitVec 32 := Scalar.addi v1363 v1364
  v1365.toNat
def k0_dev33 (d0 : Dev nD) : Nat :=
  let c0_i32_1332 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1331 : BitVec 32 := 8#32
  let v1398 : BitVec 32 := Scalar.muli v2 c8_i32_1331
  let v1399 : BitVec 32 := Scalar.addi c0_i32_1332 v1398
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1333 : BitVec 32 := 4#32
  let v1400 : BitVec 32 := Scalar.muli v19 c4_i32_1333
  let v1401 : BitVec 32 := Scalar.addi v1399 v1400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1334 : BitVec 32 := 1#32
  let v1402 : BitVec 32 := Scalar.muli v8 c1_i32_1334
  let v1403 : BitVec 32 := Scalar.addi v1401 v1402
  v1403.toNat
def k0_dev34 (d0 : Dev nD) : Nat :=
  let c0_i32_1360 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1359 : BitVec 32 := 8#32
  let v1423 : BitVec 32 := Scalar.muli v20 c8_i32_1359
  let v1424 : BitVec 32 := Scalar.addi c0_i32_1360 v1423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1361 : BitVec 32 := 4#32
  let v1425 : BitVec 32 := Scalar.muli v5 c4_i32_1361
  let v1426 : BitVec 32 := Scalar.addi v1424 v1425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1362 : BitVec 32 := 1#32
  let v1427 : BitVec 32 := Scalar.muli v8 c1_i32_1362
  let v1428 : BitVec 32 := Scalar.addi v1426 v1427
  v1428.toNat
def k0_dev35 (d0 : Dev nD) : Nat :=
  let c0_i32_1374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1373 : BitVec 32 := 8#32
  let v1437 : BitVec 32 := Scalar.muli v2 c8_i32_1373
  let v1438 : BitVec 32 := Scalar.addi c0_i32_1374 v1437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1375 : BitVec 32 := 4#32
  let v1439 : BitVec 32 := Scalar.muli v5 c4_i32_1375
  let v1440 : BitVec 32 := Scalar.addi v1438 v1439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1376 : BitVec 32 := 1#32
  let v1441 : BitVec 32 := Scalar.muli v23 c1_i32_1376
  let v1442 : BitVec 32 := Scalar.addi v1440 v1441
  v1442.toNat
def k0_dev36 (d0 : Dev nD) : Nat :=
  let c0_i32_1388 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1387 : BitVec 32 := 8#32
  let v1456 : BitVec 32 := Scalar.muli v20 c8_i32_1387
  let v1457 : BitVec 32 := Scalar.addi c0_i32_1388 v1456
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1389 : BitVec 32 := 4#32
  let v1458 : BitVec 32 := Scalar.muli v5 c4_i32_1389
  let v1459 : BitVec 32 := Scalar.addi v1457 v1458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1390 : BitVec 32 := 1#32
  let v1460 : BitVec 32 := Scalar.muli v8 c1_i32_1390
  let v1461 : BitVec 32 := Scalar.addi v1459 v1460
  v1461.toNat
def k0_dev37 (d0 : Dev nD) : Nat :=
  let c0_i32_1407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1406 : BitVec 32 := 8#32
  let v1473 : BitVec 32 := Scalar.muli v2 c8_i32_1406
  let v1474 : BitVec 32 := Scalar.addi c0_i32_1407 v1473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1408 : BitVec 32 := 4#32
  let v1475 : BitVec 32 := Scalar.muli v5 c4_i32_1408
  let v1476 : BitVec 32 := Scalar.addi v1474 v1475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1409 : BitVec 32 := 1#32
  let v1477 : BitVec 32 := Scalar.muli v23 c1_i32_1409
  let v1478 : BitVec 32 := Scalar.addi v1476 v1477
  v1478.toNat
def k0_dev38 (d0 : Dev nD) : Nat :=
  let c0_i32_1453 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1452 : BitVec 32 := 8#32
  let v1517 : BitVec 32 := Scalar.muli v20 c8_i32_1452
  let v1518 : BitVec 32 := Scalar.addi c0_i32_1453 v1517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1454 : BitVec 32 := 4#32
  let v1519 : BitVec 32 := Scalar.muli v5 c4_i32_1454
  let v1520 : BitVec 32 := Scalar.addi v1518 v1519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1455 : BitVec 32 := 1#32
  let v1521 : BitVec 32 := Scalar.muli v8 c1_i32_1455
  let v1522 : BitVec 32 := Scalar.addi v1520 v1521
  v1522.toNat
def k0_dev39 (d0 : Dev nD) : Nat :=
  let c0_i32_1467 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1466 : BitVec 32 := 8#32
  let v1536 : BitVec 32 := Scalar.muli v2 c8_i32_1466
  let v1537 : BitVec 32 := Scalar.addi c0_i32_1467 v1536
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1468 : BitVec 32 := 4#32
  let v1538 : BitVec 32 := Scalar.muli v5 c4_i32_1468
  let v1539 : BitVec 32 := Scalar.addi v1537 v1538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1469 : BitVec 32 := 1#32
  let v1540 : BitVec 32 := Scalar.muli v23 c1_i32_1469
  let v1541 : BitVec 32 := Scalar.addi v1539 v1540
  v1541.toNat
def k0_dev40 (d0 : Dev nD) : Nat :=
  let c0_i32_1584 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1583 : BitVec 32 := 8#32
  let v1652 : BitVec 32 := Scalar.muli v2 c8_i32_1583
  let v1653 : BitVec 32 := Scalar.addi c0_i32_1584 v1652
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1585 : BitVec 32 := 4#32
  let v1654 : BitVec 32 := Scalar.muli v19 c4_i32_1585
  let v1655 : BitVec 32 := Scalar.addi v1653 v1654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1586 : BitVec 32 := 1#32
  let v1656 : BitVec 32 := Scalar.muli v8 c1_i32_1586
  let v1657 : BitVec 32 := Scalar.addi v1655 v1656
  v1657.toNat
def k0_dev41 (d0 : Dev nD) : Nat :=
  let c0_i32_1622 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1621 : BitVec 32 := 8#32
  let v1690 : BitVec 32 := Scalar.muli v2 c8_i32_1621
  let v1691 : BitVec 32 := Scalar.addi c0_i32_1622 v1690
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1623 : BitVec 32 := 4#32
  let v1692 : BitVec 32 := Scalar.muli v19 c4_i32_1623
  let v1693 : BitVec 32 := Scalar.addi v1691 v1692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1624 : BitVec 32 := 1#32
  let v1694 : BitVec 32 := Scalar.muli v8 c1_i32_1624
  let v1695 : BitVec 32 := Scalar.addi v1693 v1694
  v1695.toNat
def k0_dev42 (d0 : Dev nD) : Nat :=
  let c0_i32_1650 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1649 : BitVec 32 := 8#32
  let v1715 : BitVec 32 := Scalar.muli v20 c8_i32_1649
  let v1716 : BitVec 32 := Scalar.addi c0_i32_1650 v1715
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1651 : BitVec 32 := 4#32
  let v1717 : BitVec 32 := Scalar.muli v5 c4_i32_1651
  let v1718 : BitVec 32 := Scalar.addi v1716 v1717
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1652 : BitVec 32 := 1#32
  let v1719 : BitVec 32 := Scalar.muli v8 c1_i32_1652
  let v1720 : BitVec 32 := Scalar.addi v1718 v1719
  v1720.toNat
def k0_dev43 (d0 : Dev nD) : Nat :=
  let c0_i32_1664 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1663 : BitVec 32 := 8#32
  let v1729 : BitVec 32 := Scalar.muli v2 c8_i32_1663
  let v1730 : BitVec 32 := Scalar.addi c0_i32_1664 v1729
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1665 : BitVec 32 := 4#32
  let v1731 : BitVec 32 := Scalar.muli v5 c4_i32_1665
  let v1732 : BitVec 32 := Scalar.addi v1730 v1731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1666 : BitVec 32 := 1#32
  let v1733 : BitVec 32 := Scalar.muli v23 c1_i32_1666
  let v1734 : BitVec 32 := Scalar.addi v1732 v1733
  v1734.toNat
def k0_dev44 (d0 : Dev nD) : Nat :=
  let c0_i32_1687 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1686 : BitVec 32 := 8#32
  let v1754 : BitVec 32 := Scalar.muli v20 c8_i32_1686
  let v1755 : BitVec 32 := Scalar.addi c0_i32_1687 v1754
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1688 : BitVec 32 := 4#32
  let v1756 : BitVec 32 := Scalar.muli v5 c4_i32_1688
  let v1757 : BitVec 32 := Scalar.addi v1755 v1756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1689 : BitVec 32 := 1#32
  let v1758 : BitVec 32 := Scalar.muli v8 c1_i32_1689
  let v1759 : BitVec 32 := Scalar.addi v1757 v1758
  v1759.toNat
def k0_dev45 (d0 : Dev nD) : Nat :=
  let c0_i32_1697 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1696 : BitVec 32 := 8#32
  let v1765 : BitVec 32 := Scalar.muli v2 c8_i32_1696
  let v1766 : BitVec 32 := Scalar.addi c0_i32_1697 v1765
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1698 : BitVec 32 := 4#32
  let v1767 : BitVec 32 := Scalar.muli v5 c4_i32_1698
  let v1768 : BitVec 32 := Scalar.addi v1766 v1767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1699 : BitVec 32 := 1#32
  let v1769 : BitVec 32 := Scalar.muli v23 c1_i32_1699
  let v1770 : BitVec 32 := Scalar.addi v1768 v1769
  v1770.toNat
def k0_dev46 (d0 : Dev nD) : Nat :=
  let c0_i32_1743 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1742 : BitVec 32 := 8#32
  let v1809 : BitVec 32 := Scalar.muli v2 c8_i32_1742
  let v1810 : BitVec 32 := Scalar.addi c0_i32_1743 v1809
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1744 : BitVec 32 := 4#32
  let v1811 : BitVec 32 := Scalar.muli v5 c4_i32_1744
  let v1812 : BitVec 32 := Scalar.addi v1810 v1811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1745 : BitVec 32 := 1#32
  let v1813 : BitVec 32 := Scalar.muli v23 c1_i32_1745
  let v1814 : BitVec 32 := Scalar.addi v1812 v1813
  v1814.toNat
def k0_dev47 (d0 : Dev nD) : Nat :=
  let c0_i32_1757 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1756 : BitVec 32 := 8#32
  let v1828 : BitVec 32 := Scalar.muli v20 c8_i32_1756
  let v1829 : BitVec 32 := Scalar.addi c0_i32_1757 v1828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1758 : BitVec 32 := 4#32
  let v1830 : BitVec 32 := Scalar.muli v5 c4_i32_1758
  let v1831 : BitVec 32 := Scalar.addi v1829 v1830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1759 : BitVec 32 := 1#32
  let v1832 : BitVec 32 := Scalar.muli v8 c1_i32_1759
  let v1833 : BitVec 32 := Scalar.addi v1831 v1832
  v1833.toNat
def k0_dev48 (d0 : Dev nD) : Nat :=
  let c0_i32_1875 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1874 : BitVec 32 := 8#32
  let v1944 : BitVec 32 := Scalar.muli v2 c8_i32_1874
  let v1945 : BitVec 32 := Scalar.addi c0_i32_1875 v1944
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1876 : BitVec 32 := 4#32
  let v1946 : BitVec 32 := Scalar.muli v19 c4_i32_1876
  let v1947 : BitVec 32 := Scalar.addi v1945 v1946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1877 : BitVec 32 := 1#32
  let v1948 : BitVec 32 := Scalar.muli v8 c1_i32_1877
  let v1949 : BitVec 32 := Scalar.addi v1947 v1948
  v1949.toNat
def k0_dev49 (d0 : Dev nD) : Nat :=
  let c0_i32_1913 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1912 : BitVec 32 := 8#32
  let v1982 : BitVec 32 := Scalar.muli v2 c8_i32_1912
  let v1983 : BitVec 32 := Scalar.addi c0_i32_1913 v1982
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_1914 : BitVec 32 := 4#32
  let v1984 : BitVec 32 := Scalar.muli v19 c4_i32_1914
  let v1985 : BitVec 32 := Scalar.addi v1983 v1984
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1915 : BitVec 32 := 1#32
  let v1986 : BitVec 32 := Scalar.muli v8 c1_i32_1915
  let v1987 : BitVec 32 := Scalar.addi v1985 v1986
  v1987.toNat
def k0_dev50 (d0 : Dev nD) : Nat :=
  let c0_i32_1941 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1940 : BitVec 32 := 8#32
  let v2007 : BitVec 32 := Scalar.muli v20 c8_i32_1940
  let v2008 : BitVec 32 := Scalar.addi c0_i32_1941 v2007
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1942 : BitVec 32 := 4#32
  let v2009 : BitVec 32 := Scalar.muli v5 c4_i32_1942
  let v2010 : BitVec 32 := Scalar.addi v2008 v2009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1943 : BitVec 32 := 1#32
  let v2011 : BitVec 32 := Scalar.muli v8 c1_i32_1943
  let v2012 : BitVec 32 := Scalar.addi v2010 v2011
  v2012.toNat
def k0_dev51 (d0 : Dev nD) : Nat :=
  let c0_i32_1955 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1954 : BitVec 32 := 8#32
  let v2021 : BitVec 32 := Scalar.muli v2 c8_i32_1954
  let v2022 : BitVec 32 := Scalar.addi c0_i32_1955 v2021
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1956 : BitVec 32 := 4#32
  let v2023 : BitVec 32 := Scalar.muli v5 c4_i32_1956
  let v2024 : BitVec 32 := Scalar.addi v2022 v2023
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1957 : BitVec 32 := 1#32
  let v2025 : BitVec 32 := Scalar.muli v23 c1_i32_1957
  let v2026 : BitVec 32 := Scalar.addi v2024 v2025
  v2026.toNat
def k0_dev52 (d0 : Dev nD) : Nat :=
  let c0_i32_1969 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_1968 : BitVec 32 := 8#32
  let v2040 : BitVec 32 := Scalar.muli v20 c8_i32_1968
  let v2041 : BitVec 32 := Scalar.addi c0_i32_1969 v2040
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1970 : BitVec 32 := 4#32
  let v2042 : BitVec 32 := Scalar.muli v5 c4_i32_1970
  let v2043 : BitVec 32 := Scalar.addi v2041 v2042
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1971 : BitVec 32 := 1#32
  let v2044 : BitVec 32 := Scalar.muli v8 c1_i32_1971
  let v2045 : BitVec 32 := Scalar.addi v2043 v2044
  v2045.toNat
def k0_dev53 (d0 : Dev nD) : Nat :=
  let c0_i32_1988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1987 : BitVec 32 := 8#32
  let v2057 : BitVec 32 := Scalar.muli v2 c8_i32_1987
  let v2058 : BitVec 32 := Scalar.addi c0_i32_1988 v2057
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1989 : BitVec 32 := 4#32
  let v2059 : BitVec 32 := Scalar.muli v5 c4_i32_1989
  let v2060 : BitVec 32 := Scalar.addi v2058 v2059
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_1990 : BitVec 32 := 1#32
  let v2061 : BitVec 32 := Scalar.muli v23 c1_i32_1990
  let v2062 : BitVec 32 := Scalar.addi v2060 v2061
  v2062.toNat
def k0_dev54 (d0 : Dev nD) : Nat :=
  let c0_i32_2034 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2033 : BitVec 32 := 8#32
  let v2101 : BitVec 32 := Scalar.muli v20 c8_i32_2033
  let v2102 : BitVec 32 := Scalar.addi c0_i32_2034 v2101
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2035 : BitVec 32 := 4#32
  let v2103 : BitVec 32 := Scalar.muli v5 c4_i32_2035
  let v2104 : BitVec 32 := Scalar.addi v2102 v2103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2036 : BitVec 32 := 1#32
  let v2105 : BitVec 32 := Scalar.muli v8 c1_i32_2036
  let v2106 : BitVec 32 := Scalar.addi v2104 v2105
  v2106.toNat
def k0_dev55 (d0 : Dev nD) : Nat :=
  let c0_i32_2048 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2047 : BitVec 32 := 8#32
  let v2120 : BitVec 32 := Scalar.muli v2 c8_i32_2047
  let v2121 : BitVec 32 := Scalar.addi c0_i32_2048 v2120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2049 : BitVec 32 := 4#32
  let v2122 : BitVec 32 := Scalar.muli v5 c4_i32_2049
  let v2123 : BitVec 32 := Scalar.addi v2121 v2122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2050 : BitVec 32 := 1#32
  let v2124 : BitVec 32 := Scalar.muli v23 c1_i32_2050
  let v2125 : BitVec 32 := Scalar.addi v2123 v2124
  v2125.toNat
def k0_dev56 (d0 : Dev nD) : Nat :=
  let c0_i32_2165 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2164 : BitVec 32 := 8#32
  let v2236 : BitVec 32 := Scalar.muli v2 c8_i32_2164
  let v2237 : BitVec 32 := Scalar.addi c0_i32_2165 v2236
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_2166 : BitVec 32 := 4#32
  let v2238 : BitVec 32 := Scalar.muli v19 c4_i32_2166
  let v2239 : BitVec 32 := Scalar.addi v2237 v2238
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2167 : BitVec 32 := 1#32
  let v2240 : BitVec 32 := Scalar.muli v8 c1_i32_2167
  let v2241 : BitVec 32 := Scalar.addi v2239 v2240
  v2241.toNat
def k0_dev57 (d0 : Dev nD) : Nat :=
  let c0_i32_2203 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2202 : BitVec 32 := 8#32
  let v2274 : BitVec 32 := Scalar.muli v2 c8_i32_2202
  let v2275 : BitVec 32 := Scalar.addi c0_i32_2203 v2274
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_2204 : BitVec 32 := 4#32
  let v2276 : BitVec 32 := Scalar.muli v19 c4_i32_2204
  let v2277 : BitVec 32 := Scalar.addi v2275 v2276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2205 : BitVec 32 := 1#32
  let v2278 : BitVec 32 := Scalar.muli v8 c1_i32_2205
  let v2279 : BitVec 32 := Scalar.addi v2277 v2278
  v2279.toNat
def k0_dev58 (d0 : Dev nD) : Nat :=
  let c0_i32_2231 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2230 : BitVec 32 := 8#32
  let v2299 : BitVec 32 := Scalar.muli v20 c8_i32_2230
  let v2300 : BitVec 32 := Scalar.addi c0_i32_2231 v2299
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2232 : BitVec 32 := 4#32
  let v2301 : BitVec 32 := Scalar.muli v5 c4_i32_2232
  let v2302 : BitVec 32 := Scalar.addi v2300 v2301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2233 : BitVec 32 := 1#32
  let v2303 : BitVec 32 := Scalar.muli v8 c1_i32_2233
  let v2304 : BitVec 32 := Scalar.addi v2302 v2303
  v2304.toNat
def k0_dev59 (d0 : Dev nD) : Nat :=
  let c0_i32_2245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2244 : BitVec 32 := 8#32
  let v2313 : BitVec 32 := Scalar.muli v2 c8_i32_2244
  let v2314 : BitVec 32 := Scalar.addi c0_i32_2245 v2313
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2246 : BitVec 32 := 4#32
  let v2315 : BitVec 32 := Scalar.muli v5 c4_i32_2246
  let v2316 : BitVec 32 := Scalar.addi v2314 v2315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2247 : BitVec 32 := 1#32
  let v2317 : BitVec 32 := Scalar.muli v23 c1_i32_2247
  let v2318 : BitVec 32 := Scalar.addi v2316 v2317
  v2318.toNat
def k0_dev60 (d0 : Dev nD) : Nat :=
  let c0_i32_2268 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2267 : BitVec 32 := 8#32
  let v2338 : BitVec 32 := Scalar.muli v20 c8_i32_2267
  let v2339 : BitVec 32 := Scalar.addi c0_i32_2268 v2338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2269 : BitVec 32 := 4#32
  let v2340 : BitVec 32 := Scalar.muli v5 c4_i32_2269
  let v2341 : BitVec 32 := Scalar.addi v2339 v2340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2270 : BitVec 32 := 1#32
  let v2342 : BitVec 32 := Scalar.muli v8 c1_i32_2270
  let v2343 : BitVec 32 := Scalar.addi v2341 v2342
  v2343.toNat
def k0_dev61 (d0 : Dev nD) : Nat :=
  let c0_i32_2278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2277 : BitVec 32 := 8#32
  let v2349 : BitVec 32 := Scalar.muli v2 c8_i32_2277
  let v2350 : BitVec 32 := Scalar.addi c0_i32_2278 v2349
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2279 : BitVec 32 := 4#32
  let v2351 : BitVec 32 := Scalar.muli v5 c4_i32_2279
  let v2352 : BitVec 32 := Scalar.addi v2350 v2351
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2280 : BitVec 32 := 1#32
  let v2353 : BitVec 32 := Scalar.muli v23 c1_i32_2280
  let v2354 : BitVec 32 := Scalar.addi v2352 v2353
  v2354.toNat
def k0_dev62 (d0 : Dev nD) : Nat :=
  let c0_i32_2324 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2323 : BitVec 32 := 8#32
  let v2393 : BitVec 32 := Scalar.muli v2 c8_i32_2323
  let v2394 : BitVec 32 := Scalar.addi c0_i32_2324 v2393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2325 : BitVec 32 := 4#32
  let v2395 : BitVec 32 := Scalar.muli v5 c4_i32_2325
  let v2396 : BitVec 32 := Scalar.addi v2394 v2395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2326 : BitVec 32 := 1#32
  let v2397 : BitVec 32 := Scalar.muli v23 c1_i32_2326
  let v2398 : BitVec 32 := Scalar.addi v2396 v2397
  v2398.toNat
def k0_dev63 (d0 : Dev nD) : Nat :=
  let c0_i32_2338 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2337 : BitVec 32 := 8#32
  let v2412 : BitVec 32 := Scalar.muli v20 c8_i32_2337
  let v2413 : BitVec 32 := Scalar.addi c0_i32_2338 v2412
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2339 : BitVec 32 := 4#32
  let v2414 : BitVec 32 := Scalar.muli v5 c4_i32_2339
  let v2415 : BitVec 32 := Scalar.addi v2413 v2414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2340 : BitVec 32 := 1#32
  let v2416 : BitVec 32 := Scalar.muli v8 c1_i32_2340
  let v2417 : BitVec 32 := Scalar.addi v2415 v2416
  v2417.toNat
def k0_dev64 (d0 : Dev nD) : Nat :=
  let c0_i32_2455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2454 : BitVec 32 := 8#32
  let v2528 : BitVec 32 := Scalar.muli v2 c8_i32_2454
  let v2529 : BitVec 32 := Scalar.addi c0_i32_2455 v2528
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_2456 : BitVec 32 := 4#32
  let v2530 : BitVec 32 := Scalar.muli v19 c4_i32_2456
  let v2531 : BitVec 32 := Scalar.addi v2529 v2530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2457 : BitVec 32 := 1#32
  let v2532 : BitVec 32 := Scalar.muli v8 c1_i32_2457
  let v2533 : BitVec 32 := Scalar.addi v2531 v2532
  v2533.toNat
def k0_dev65 (d0 : Dev nD) : Nat :=
  let c0_i32_2493 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2492 : BitVec 32 := 8#32
  let v2566 : BitVec 32 := Scalar.muli v2 c8_i32_2492
  let v2567 : BitVec 32 := Scalar.addi c0_i32_2493 v2566
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_2494 : BitVec 32 := 4#32
  let v2568 : BitVec 32 := Scalar.muli v19 c4_i32_2494
  let v2569 : BitVec 32 := Scalar.addi v2567 v2568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2495 : BitVec 32 := 1#32
  let v2570 : BitVec 32 := Scalar.muli v8 c1_i32_2495
  let v2571 : BitVec 32 := Scalar.addi v2569 v2570
  v2571.toNat
def k0_dev66 (d0 : Dev nD) : Nat :=
  let c0_i32_2521 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2520 : BitVec 32 := 8#32
  let v2591 : BitVec 32 := Scalar.muli v20 c8_i32_2520
  let v2592 : BitVec 32 := Scalar.addi c0_i32_2521 v2591
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2522 : BitVec 32 := 4#32
  let v2593 : BitVec 32 := Scalar.muli v5 c4_i32_2522
  let v2594 : BitVec 32 := Scalar.addi v2592 v2593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2523 : BitVec 32 := 1#32
  let v2595 : BitVec 32 := Scalar.muli v8 c1_i32_2523
  let v2596 : BitVec 32 := Scalar.addi v2594 v2595
  v2596.toNat
def k0_dev67 (d0 : Dev nD) : Nat :=
  let c0_i32_2535 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2534 : BitVec 32 := 8#32
  let v2605 : BitVec 32 := Scalar.muli v2 c8_i32_2534
  let v2606 : BitVec 32 := Scalar.addi c0_i32_2535 v2605
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2536 : BitVec 32 := 4#32
  let v2607 : BitVec 32 := Scalar.muli v5 c4_i32_2536
  let v2608 : BitVec 32 := Scalar.addi v2606 v2607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2537 : BitVec 32 := 1#32
  let v2609 : BitVec 32 := Scalar.muli v23 c1_i32_2537
  let v2610 : BitVec 32 := Scalar.addi v2608 v2609
  v2610.toNat
def k0_dev68 (d0 : Dev nD) : Nat :=
  let c0_i32_2549 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2548 : BitVec 32 := 8#32
  let v2624 : BitVec 32 := Scalar.muli v20 c8_i32_2548
  let v2625 : BitVec 32 := Scalar.addi c0_i32_2549 v2624
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2550 : BitVec 32 := 4#32
  let v2626 : BitVec 32 := Scalar.muli v5 c4_i32_2550
  let v2627 : BitVec 32 := Scalar.addi v2625 v2626
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2551 : BitVec 32 := 1#32
  let v2628 : BitVec 32 := Scalar.muli v8 c1_i32_2551
  let v2629 : BitVec 32 := Scalar.addi v2627 v2628
  v2629.toNat
def k0_dev69 (d0 : Dev nD) : Nat :=
  let c0_i32_2568 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2567 : BitVec 32 := 8#32
  let v2641 : BitVec 32 := Scalar.muli v2 c8_i32_2567
  let v2642 : BitVec 32 := Scalar.addi c0_i32_2568 v2641
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2569 : BitVec 32 := 4#32
  let v2643 : BitVec 32 := Scalar.muli v5 c4_i32_2569
  let v2644 : BitVec 32 := Scalar.addi v2642 v2643
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2570 : BitVec 32 := 1#32
  let v2645 : BitVec 32 := Scalar.muli v23 c1_i32_2570
  let v2646 : BitVec 32 := Scalar.addi v2644 v2645
  v2646.toNat
def k0_dev70 (d0 : Dev nD) : Nat :=
  let c0_i32_2614 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2613 : BitVec 32 := 8#32
  let v2685 : BitVec 32 := Scalar.muli v20 c8_i32_2613
  let v2686 : BitVec 32 := Scalar.addi c0_i32_2614 v2685
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2615 : BitVec 32 := 4#32
  let v2687 : BitVec 32 := Scalar.muli v5 c4_i32_2615
  let v2688 : BitVec 32 := Scalar.addi v2686 v2687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2616 : BitVec 32 := 1#32
  let v2689 : BitVec 32 := Scalar.muli v8 c1_i32_2616
  let v2690 : BitVec 32 := Scalar.addi v2688 v2689
  v2690.toNat
def k0_dev71 (d0 : Dev nD) : Nat :=
  let c0_i32_2628 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2627 : BitVec 32 := 8#32
  let v2704 : BitVec 32 := Scalar.muli v2 c8_i32_2627
  let v2705 : BitVec 32 := Scalar.addi c0_i32_2628 v2704
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2629 : BitVec 32 := 4#32
  let v2706 : BitVec 32 := Scalar.muli v5 c4_i32_2629
  let v2707 : BitVec 32 := Scalar.addi v2705 v2706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2630 : BitVec 32 := 1#32
  let v2708 : BitVec 32 := Scalar.muli v23 c1_i32_2630
  let v2709 : BitVec 32 := Scalar.addi v2707 v2708
  v2709.toNat
def k0_dev72 (d0 : Dev nD) : Nat :=
  let c0_i32_2745 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2744 : BitVec 32 := 8#32
  let v2820 : BitVec 32 := Scalar.muli v2 c8_i32_2744
  let v2821 : BitVec 32 := Scalar.addi c0_i32_2745 v2820
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_2746 : BitVec 32 := 4#32
  let v2822 : BitVec 32 := Scalar.muli v19 c4_i32_2746
  let v2823 : BitVec 32 := Scalar.addi v2821 v2822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2747 : BitVec 32 := 1#32
  let v2824 : BitVec 32 := Scalar.muli v8 c1_i32_2747
  let v2825 : BitVec 32 := Scalar.addi v2823 v2824
  v2825.toNat
def k0_dev73 (d0 : Dev nD) : Nat :=
  let c0_i32_2783 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2782 : BitVec 32 := 8#32
  let v2858 : BitVec 32 := Scalar.muli v2 c8_i32_2782
  let v2859 : BitVec 32 := Scalar.addi c0_i32_2783 v2858
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_2784 : BitVec 32 := 4#32
  let v2860 : BitVec 32 := Scalar.muli v19 c4_i32_2784
  let v2861 : BitVec 32 := Scalar.addi v2859 v2860
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2785 : BitVec 32 := 1#32
  let v2862 : BitVec 32 := Scalar.muli v8 c1_i32_2785
  let v2863 : BitVec 32 := Scalar.addi v2861 v2862
  v2863.toNat
def k0_dev74 (d0 : Dev nD) : Nat :=
  let c0_i32_2811 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2810 : BitVec 32 := 8#32
  let v2883 : BitVec 32 := Scalar.muli v20 c8_i32_2810
  let v2884 : BitVec 32 := Scalar.addi c0_i32_2811 v2883
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2812 : BitVec 32 := 4#32
  let v2885 : BitVec 32 := Scalar.muli v5 c4_i32_2812
  let v2886 : BitVec 32 := Scalar.addi v2884 v2885
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2813 : BitVec 32 := 1#32
  let v2887 : BitVec 32 := Scalar.muli v8 c1_i32_2813
  let v2888 : BitVec 32 := Scalar.addi v2886 v2887
  v2888.toNat
def k0_dev75 (d0 : Dev nD) : Nat :=
  let c0_i32_2825 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2824 : BitVec 32 := 8#32
  let v2897 : BitVec 32 := Scalar.muli v2 c8_i32_2824
  let v2898 : BitVec 32 := Scalar.addi c0_i32_2825 v2897
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2826 : BitVec 32 := 4#32
  let v2899 : BitVec 32 := Scalar.muli v5 c4_i32_2826
  let v2900 : BitVec 32 := Scalar.addi v2898 v2899
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2827 : BitVec 32 := 1#32
  let v2901 : BitVec 32 := Scalar.muli v23 c1_i32_2827
  let v2902 : BitVec 32 := Scalar.addi v2900 v2901
  v2902.toNat
def k0_dev76 (d0 : Dev nD) : Nat :=
  let c0_i32_2848 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2847 : BitVec 32 := 8#32
  let v2922 : BitVec 32 := Scalar.muli v20 c8_i32_2847
  let v2923 : BitVec 32 := Scalar.addi c0_i32_2848 v2922
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2849 : BitVec 32 := 4#32
  let v2924 : BitVec 32 := Scalar.muli v5 c4_i32_2849
  let v2925 : BitVec 32 := Scalar.addi v2923 v2924
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2850 : BitVec 32 := 1#32
  let v2926 : BitVec 32 := Scalar.muli v8 c1_i32_2850
  let v2927 : BitVec 32 := Scalar.addi v2925 v2926
  v2927.toNat
def k0_dev77 (d0 : Dev nD) : Nat :=
  let c0_i32_2858 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2857 : BitVec 32 := 8#32
  let v2933 : BitVec 32 := Scalar.muli v2 c8_i32_2857
  let v2934 : BitVec 32 := Scalar.addi c0_i32_2858 v2933
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2859 : BitVec 32 := 4#32
  let v2935 : BitVec 32 := Scalar.muli v5 c4_i32_2859
  let v2936 : BitVec 32 := Scalar.addi v2934 v2935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2860 : BitVec 32 := 1#32
  let v2937 : BitVec 32 := Scalar.muli v23 c1_i32_2860
  let v2938 : BitVec 32 := Scalar.addi v2936 v2937
  v2938.toNat
def k0_dev78 (d0 : Dev nD) : Nat :=
  let c0_i32_2904 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2903 : BitVec 32 := 8#32
  let v2977 : BitVec 32 := Scalar.muli v2 c8_i32_2903
  let v2978 : BitVec 32 := Scalar.addi c0_i32_2904 v2977
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2905 : BitVec 32 := 4#32
  let v2979 : BitVec 32 := Scalar.muli v5 c4_i32_2905
  let v2980 : BitVec 32 := Scalar.addi v2978 v2979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_2906 : BitVec 32 := 1#32
  let v2981 : BitVec 32 := Scalar.muli v23 c1_i32_2906
  let v2982 : BitVec 32 := Scalar.addi v2980 v2981
  v2982.toNat
def k0_dev79 (d0 : Dev nD) : Nat :=
  let c0_i32_2918 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_2917 : BitVec 32 := 8#32
  let v2996 : BitVec 32 := Scalar.muli v20 c8_i32_2917
  let v2997 : BitVec 32 := Scalar.addi c0_i32_2918 v2996
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_2919 : BitVec 32 := 4#32
  let v2998 : BitVec 32 := Scalar.muli v5 c4_i32_2919
  let v2999 : BitVec 32 := Scalar.addi v2997 v2998
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2920 : BitVec 32 := 1#32
  let v3000 : BitVec 32 := Scalar.muli v8 c1_i32_2920
  let v3001 : BitVec 32 := Scalar.addi v2999 v3000
  v3001.toNat
def k0_dev80 (d0 : Dev nD) : Nat :=
  let c0_i32_3035 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3034 : BitVec 32 := 8#32
  let v3112 : BitVec 32 := Scalar.muli v2 c8_i32_3034
  let v3113 : BitVec 32 := Scalar.addi c0_i32_3035 v3112
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3036 : BitVec 32 := 4#32
  let v3114 : BitVec 32 := Scalar.muli v19 c4_i32_3036
  let v3115 : BitVec 32 := Scalar.addi v3113 v3114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3037 : BitVec 32 := 1#32
  let v3116 : BitVec 32 := Scalar.muli v8 c1_i32_3037
  let v3117 : BitVec 32 := Scalar.addi v3115 v3116
  v3117.toNat
def k0_dev81 (d0 : Dev nD) : Nat :=
  let c0_i32_3073 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3072 : BitVec 32 := 8#32
  let v3150 : BitVec 32 := Scalar.muli v2 c8_i32_3072
  let v3151 : BitVec 32 := Scalar.addi c0_i32_3073 v3150
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3074 : BitVec 32 := 4#32
  let v3152 : BitVec 32 := Scalar.muli v19 c4_i32_3074
  let v3153 : BitVec 32 := Scalar.addi v3151 v3152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3075 : BitVec 32 := 1#32
  let v3154 : BitVec 32 := Scalar.muli v8 c1_i32_3075
  let v3155 : BitVec 32 := Scalar.addi v3153 v3154
  v3155.toNat
def k0_dev82 (d0 : Dev nD) : Nat :=
  let c0_i32_3101 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3100 : BitVec 32 := 8#32
  let v3175 : BitVec 32 := Scalar.muli v20 c8_i32_3100
  let v3176 : BitVec 32 := Scalar.addi c0_i32_3101 v3175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3102 : BitVec 32 := 4#32
  let v3177 : BitVec 32 := Scalar.muli v5 c4_i32_3102
  let v3178 : BitVec 32 := Scalar.addi v3176 v3177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3103 : BitVec 32 := 1#32
  let v3179 : BitVec 32 := Scalar.muli v8 c1_i32_3103
  let v3180 : BitVec 32 := Scalar.addi v3178 v3179
  v3180.toNat
def k0_dev83 (d0 : Dev nD) : Nat :=
  let c0_i32_3115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3114 : BitVec 32 := 8#32
  let v3189 : BitVec 32 := Scalar.muli v2 c8_i32_3114
  let v3190 : BitVec 32 := Scalar.addi c0_i32_3115 v3189
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3116 : BitVec 32 := 4#32
  let v3191 : BitVec 32 := Scalar.muli v5 c4_i32_3116
  let v3192 : BitVec 32 := Scalar.addi v3190 v3191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3117 : BitVec 32 := 1#32
  let v3193 : BitVec 32 := Scalar.muli v23 c1_i32_3117
  let v3194 : BitVec 32 := Scalar.addi v3192 v3193
  v3194.toNat
def k0_dev84 (d0 : Dev nD) : Nat :=
  let c0_i32_3129 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3128 : BitVec 32 := 8#32
  let v3208 : BitVec 32 := Scalar.muli v20 c8_i32_3128
  let v3209 : BitVec 32 := Scalar.addi c0_i32_3129 v3208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3130 : BitVec 32 := 4#32
  let v3210 : BitVec 32 := Scalar.muli v5 c4_i32_3130
  let v3211 : BitVec 32 := Scalar.addi v3209 v3210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3131 : BitVec 32 := 1#32
  let v3212 : BitVec 32 := Scalar.muli v8 c1_i32_3131
  let v3213 : BitVec 32 := Scalar.addi v3211 v3212
  v3213.toNat
def k0_dev85 (d0 : Dev nD) : Nat :=
  let c0_i32_3148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3147 : BitVec 32 := 8#32
  let v3225 : BitVec 32 := Scalar.muli v2 c8_i32_3147
  let v3226 : BitVec 32 := Scalar.addi c0_i32_3148 v3225
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3149 : BitVec 32 := 4#32
  let v3227 : BitVec 32 := Scalar.muli v5 c4_i32_3149
  let v3228 : BitVec 32 := Scalar.addi v3226 v3227
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3150 : BitVec 32 := 1#32
  let v3229 : BitVec 32 := Scalar.muli v23 c1_i32_3150
  let v3230 : BitVec 32 := Scalar.addi v3228 v3229
  v3230.toNat
def k0_dev86 (d0 : Dev nD) : Nat :=
  let c0_i32_3194 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3193 : BitVec 32 := 8#32
  let v3269 : BitVec 32 := Scalar.muli v20 c8_i32_3193
  let v3270 : BitVec 32 := Scalar.addi c0_i32_3194 v3269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3195 : BitVec 32 := 4#32
  let v3271 : BitVec 32 := Scalar.muli v5 c4_i32_3195
  let v3272 : BitVec 32 := Scalar.addi v3270 v3271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3196 : BitVec 32 := 1#32
  let v3273 : BitVec 32 := Scalar.muli v8 c1_i32_3196
  let v3274 : BitVec 32 := Scalar.addi v3272 v3273
  v3274.toNat
def k0_dev87 (d0 : Dev nD) : Nat :=
  let c0_i32_3208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3207 : BitVec 32 := 8#32
  let v3288 : BitVec 32 := Scalar.muli v2 c8_i32_3207
  let v3289 : BitVec 32 := Scalar.addi c0_i32_3208 v3288
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3209 : BitVec 32 := 4#32
  let v3290 : BitVec 32 := Scalar.muli v5 c4_i32_3209
  let v3291 : BitVec 32 := Scalar.addi v3289 v3290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3210 : BitVec 32 := 1#32
  let v3292 : BitVec 32 := Scalar.muli v23 c1_i32_3210
  let v3293 : BitVec 32 := Scalar.addi v3291 v3292
  v3293.toNat
def k0_dev88 (d0 : Dev nD) : Nat :=
  let c0_i32_3325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3324 : BitVec 32 := 8#32
  let v3404 : BitVec 32 := Scalar.muli v2 c8_i32_3324
  let v3405 : BitVec 32 := Scalar.addi c0_i32_3325 v3404
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3326 : BitVec 32 := 4#32
  let v3406 : BitVec 32 := Scalar.muli v19 c4_i32_3326
  let v3407 : BitVec 32 := Scalar.addi v3405 v3406
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3327 : BitVec 32 := 1#32
  let v3408 : BitVec 32 := Scalar.muli v8 c1_i32_3327
  let v3409 : BitVec 32 := Scalar.addi v3407 v3408
  v3409.toNat
def k0_dev89 (d0 : Dev nD) : Nat :=
  let c0_i32_3363 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3362 : BitVec 32 := 8#32
  let v3442 : BitVec 32 := Scalar.muli v2 c8_i32_3362
  let v3443 : BitVec 32 := Scalar.addi c0_i32_3363 v3442
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3364 : BitVec 32 := 4#32
  let v3444 : BitVec 32 := Scalar.muli v19 c4_i32_3364
  let v3445 : BitVec 32 := Scalar.addi v3443 v3444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3365 : BitVec 32 := 1#32
  let v3446 : BitVec 32 := Scalar.muli v8 c1_i32_3365
  let v3447 : BitVec 32 := Scalar.addi v3445 v3446
  v3447.toNat
def k0_dev90 (d0 : Dev nD) : Nat :=
  let c0_i32_3391 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3390 : BitVec 32 := 8#32
  let v3467 : BitVec 32 := Scalar.muli v20 c8_i32_3390
  let v3468 : BitVec 32 := Scalar.addi c0_i32_3391 v3467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3392 : BitVec 32 := 4#32
  let v3469 : BitVec 32 := Scalar.muli v5 c4_i32_3392
  let v3470 : BitVec 32 := Scalar.addi v3468 v3469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3393 : BitVec 32 := 1#32
  let v3471 : BitVec 32 := Scalar.muli v8 c1_i32_3393
  let v3472 : BitVec 32 := Scalar.addi v3470 v3471
  v3472.toNat
def k0_dev91 (d0 : Dev nD) : Nat :=
  let c0_i32_3405 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3404 : BitVec 32 := 8#32
  let v3481 : BitVec 32 := Scalar.muli v2 c8_i32_3404
  let v3482 : BitVec 32 := Scalar.addi c0_i32_3405 v3481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3406 : BitVec 32 := 4#32
  let v3483 : BitVec 32 := Scalar.muli v5 c4_i32_3406
  let v3484 : BitVec 32 := Scalar.addi v3482 v3483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3407 : BitVec 32 := 1#32
  let v3485 : BitVec 32 := Scalar.muli v23 c1_i32_3407
  let v3486 : BitVec 32 := Scalar.addi v3484 v3485
  v3486.toNat
def k0_dev92 (d0 : Dev nD) : Nat :=
  let c0_i32_3428 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3427 : BitVec 32 := 8#32
  let v3506 : BitVec 32 := Scalar.muli v20 c8_i32_3427
  let v3507 : BitVec 32 := Scalar.addi c0_i32_3428 v3506
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3429 : BitVec 32 := 4#32
  let v3508 : BitVec 32 := Scalar.muli v5 c4_i32_3429
  let v3509 : BitVec 32 := Scalar.addi v3507 v3508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3430 : BitVec 32 := 1#32
  let v3510 : BitVec 32 := Scalar.muli v8 c1_i32_3430
  let v3511 : BitVec 32 := Scalar.addi v3509 v3510
  v3511.toNat
def k0_dev93 (d0 : Dev nD) : Nat :=
  let c0_i32_3438 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3437 : BitVec 32 := 8#32
  let v3517 : BitVec 32 := Scalar.muli v2 c8_i32_3437
  let v3518 : BitVec 32 := Scalar.addi c0_i32_3438 v3517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3439 : BitVec 32 := 4#32
  let v3519 : BitVec 32 := Scalar.muli v5 c4_i32_3439
  let v3520 : BitVec 32 := Scalar.addi v3518 v3519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3440 : BitVec 32 := 1#32
  let v3521 : BitVec 32 := Scalar.muli v23 c1_i32_3440
  let v3522 : BitVec 32 := Scalar.addi v3520 v3521
  v3522.toNat
def k0_dev94 (d0 : Dev nD) : Nat :=
  let c0_i32_3484 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3483 : BitVec 32 := 8#32
  let v3561 : BitVec 32 := Scalar.muli v2 c8_i32_3483
  let v3562 : BitVec 32 := Scalar.addi c0_i32_3484 v3561
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3485 : BitVec 32 := 4#32
  let v3563 : BitVec 32 := Scalar.muli v5 c4_i32_3485
  let v3564 : BitVec 32 := Scalar.addi v3562 v3563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3486 : BitVec 32 := 1#32
  let v3565 : BitVec 32 := Scalar.muli v23 c1_i32_3486
  let v3566 : BitVec 32 := Scalar.addi v3564 v3565
  v3566.toNat
def k0_dev95 (d0 : Dev nD) : Nat :=
  let c0_i32_3498 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3497 : BitVec 32 := 8#32
  let v3580 : BitVec 32 := Scalar.muli v20 c8_i32_3497
  let v3581 : BitVec 32 := Scalar.addi c0_i32_3498 v3580
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3499 : BitVec 32 := 4#32
  let v3582 : BitVec 32 := Scalar.muli v5 c4_i32_3499
  let v3583 : BitVec 32 := Scalar.addi v3581 v3582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3500 : BitVec 32 := 1#32
  let v3584 : BitVec 32 := Scalar.muli v8 c1_i32_3500
  let v3585 : BitVec 32 := Scalar.addi v3583 v3584
  v3585.toNat
def k0_dev96 (d0 : Dev nD) : Nat :=
  let c0_i32_3615 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3614 : BitVec 32 := 8#32
  let v3696 : BitVec 32 := Scalar.muli v2 c8_i32_3614
  let v3697 : BitVec 32 := Scalar.addi c0_i32_3615 v3696
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3616 : BitVec 32 := 4#32
  let v3698 : BitVec 32 := Scalar.muli v19 c4_i32_3616
  let v3699 : BitVec 32 := Scalar.addi v3697 v3698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3617 : BitVec 32 := 1#32
  let v3700 : BitVec 32 := Scalar.muli v8 c1_i32_3617
  let v3701 : BitVec 32 := Scalar.addi v3699 v3700
  v3701.toNat
def k0_dev97 (d0 : Dev nD) : Nat :=
  let c0_i32_3653 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3652 : BitVec 32 := 8#32
  let v3734 : BitVec 32 := Scalar.muli v2 c8_i32_3652
  let v3735 : BitVec 32 := Scalar.addi c0_i32_3653 v3734
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3654 : BitVec 32 := 4#32
  let v3736 : BitVec 32 := Scalar.muli v19 c4_i32_3654
  let v3737 : BitVec 32 := Scalar.addi v3735 v3736
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3655 : BitVec 32 := 1#32
  let v3738 : BitVec 32 := Scalar.muli v8 c1_i32_3655
  let v3739 : BitVec 32 := Scalar.addi v3737 v3738
  v3739.toNat
def k0_dev98 (d0 : Dev nD) : Nat :=
  let c0_i32_3681 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3680 : BitVec 32 := 8#32
  let v3759 : BitVec 32 := Scalar.muli v20 c8_i32_3680
  let v3760 : BitVec 32 := Scalar.addi c0_i32_3681 v3759
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3682 : BitVec 32 := 4#32
  let v3761 : BitVec 32 := Scalar.muli v5 c4_i32_3682
  let v3762 : BitVec 32 := Scalar.addi v3760 v3761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3683 : BitVec 32 := 1#32
  let v3763 : BitVec 32 := Scalar.muli v8 c1_i32_3683
  let v3764 : BitVec 32 := Scalar.addi v3762 v3763
  v3764.toNat
def k0_dev99 (d0 : Dev nD) : Nat :=
  let c0_i32_3695 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3694 : BitVec 32 := 8#32
  let v3773 : BitVec 32 := Scalar.muli v2 c8_i32_3694
  let v3774 : BitVec 32 := Scalar.addi c0_i32_3695 v3773
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3696 : BitVec 32 := 4#32
  let v3775 : BitVec 32 := Scalar.muli v5 c4_i32_3696
  let v3776 : BitVec 32 := Scalar.addi v3774 v3775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3697 : BitVec 32 := 1#32
  let v3777 : BitVec 32 := Scalar.muli v23 c1_i32_3697
  let v3778 : BitVec 32 := Scalar.addi v3776 v3777
  v3778.toNat
def k0_dev100 (d0 : Dev nD) : Nat :=
  let c0_i32_3709 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3708 : BitVec 32 := 8#32
  let v3792 : BitVec 32 := Scalar.muli v20 c8_i32_3708
  let v3793 : BitVec 32 := Scalar.addi c0_i32_3709 v3792
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3710 : BitVec 32 := 4#32
  let v3794 : BitVec 32 := Scalar.muli v5 c4_i32_3710
  let v3795 : BitVec 32 := Scalar.addi v3793 v3794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3711 : BitVec 32 := 1#32
  let v3796 : BitVec 32 := Scalar.muli v8 c1_i32_3711
  let v3797 : BitVec 32 := Scalar.addi v3795 v3796
  v3797.toNat
def k0_dev101 (d0 : Dev nD) : Nat :=
  let c0_i32_3728 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3727 : BitVec 32 := 8#32
  let v3809 : BitVec 32 := Scalar.muli v2 c8_i32_3727
  let v3810 : BitVec 32 := Scalar.addi c0_i32_3728 v3809
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3729 : BitVec 32 := 4#32
  let v3811 : BitVec 32 := Scalar.muli v5 c4_i32_3729
  let v3812 : BitVec 32 := Scalar.addi v3810 v3811
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3730 : BitVec 32 := 1#32
  let v3813 : BitVec 32 := Scalar.muli v23 c1_i32_3730
  let v3814 : BitVec 32 := Scalar.addi v3812 v3813
  v3814.toNat
def k0_dev102 (d0 : Dev nD) : Nat :=
  let c0_i32_3774 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3773 : BitVec 32 := 8#32
  let v3853 : BitVec 32 := Scalar.muli v20 c8_i32_3773
  let v3854 : BitVec 32 := Scalar.addi c0_i32_3774 v3853
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3775 : BitVec 32 := 4#32
  let v3855 : BitVec 32 := Scalar.muli v5 c4_i32_3775
  let v3856 : BitVec 32 := Scalar.addi v3854 v3855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3776 : BitVec 32 := 1#32
  let v3857 : BitVec 32 := Scalar.muli v8 c1_i32_3776
  let v3858 : BitVec 32 := Scalar.addi v3856 v3857
  v3858.toNat
def k0_dev103 (d0 : Dev nD) : Nat :=
  let c0_i32_3788 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3787 : BitVec 32 := 8#32
  let v3872 : BitVec 32 := Scalar.muli v2 c8_i32_3787
  let v3873 : BitVec 32 := Scalar.addi c0_i32_3788 v3872
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3789 : BitVec 32 := 4#32
  let v3874 : BitVec 32 := Scalar.muli v5 c4_i32_3789
  let v3875 : BitVec 32 := Scalar.addi v3873 v3874
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3790 : BitVec 32 := 1#32
  let v3876 : BitVec 32 := Scalar.muli v23 c1_i32_3790
  let v3877 : BitVec 32 := Scalar.addi v3875 v3876
  v3877.toNat
def k0_dev104 (d0 : Dev nD) : Nat :=
  let c0_i32_3905 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3904 : BitVec 32 := 8#32
  let v3988 : BitVec 32 := Scalar.muli v2 c8_i32_3904
  let v3989 : BitVec 32 := Scalar.addi c0_i32_3905 v3988
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3906 : BitVec 32 := 4#32
  let v3990 : BitVec 32 := Scalar.muli v19 c4_i32_3906
  let v3991 : BitVec 32 := Scalar.addi v3989 v3990
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3907 : BitVec 32 := 1#32
  let v3992 : BitVec 32 := Scalar.muli v8 c1_i32_3907
  let v3993 : BitVec 32 := Scalar.addi v3991 v3992
  v3993.toNat
def k0_dev105 (d0 : Dev nD) : Nat :=
  let c0_i32_3943 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3942 : BitVec 32 := 8#32
  let v4026 : BitVec 32 := Scalar.muli v2 c8_i32_3942
  let v4027 : BitVec 32 := Scalar.addi c0_i32_3943 v4026
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_3944 : BitVec 32 := 4#32
  let v4028 : BitVec 32 := Scalar.muli v19 c4_i32_3944
  let v4029 : BitVec 32 := Scalar.addi v4027 v4028
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3945 : BitVec 32 := 1#32
  let v4030 : BitVec 32 := Scalar.muli v8 c1_i32_3945
  let v4031 : BitVec 32 := Scalar.addi v4029 v4030
  v4031.toNat
def k0_dev106 (d0 : Dev nD) : Nat :=
  let c0_i32_3971 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_3970 : BitVec 32 := 8#32
  let v4051 : BitVec 32 := Scalar.muli v20 c8_i32_3970
  let v4052 : BitVec 32 := Scalar.addi c0_i32_3971 v4051
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3972 : BitVec 32 := 4#32
  let v4053 : BitVec 32 := Scalar.muli v5 c4_i32_3972
  let v4054 : BitVec 32 := Scalar.addi v4052 v4053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3973 : BitVec 32 := 1#32
  let v4055 : BitVec 32 := Scalar.muli v8 c1_i32_3973
  let v4056 : BitVec 32 := Scalar.addi v4054 v4055
  v4056.toNat
def k0_dev107 (d0 : Dev nD) : Nat :=
  let c0_i32_3985 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_3984 : BitVec 32 := 8#32
  let v4065 : BitVec 32 := Scalar.muli v2 c8_i32_3984
  let v4066 : BitVec 32 := Scalar.addi c0_i32_3985 v4065
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3986 : BitVec 32 := 4#32
  let v4067 : BitVec 32 := Scalar.muli v5 c4_i32_3986
  let v4068 : BitVec 32 := Scalar.addi v4066 v4067
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_3987 : BitVec 32 := 1#32
  let v4069 : BitVec 32 := Scalar.muli v23 c1_i32_3987
  let v4070 : BitVec 32 := Scalar.addi v4068 v4069
  v4070.toNat
def k0_dev108 (d0 : Dev nD) : Nat :=
  let c0_i32_4008 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4007 : BitVec 32 := 8#32
  let v4090 : BitVec 32 := Scalar.muli v20 c8_i32_4007
  let v4091 : BitVec 32 := Scalar.addi c0_i32_4008 v4090
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4009 : BitVec 32 := 4#32
  let v4092 : BitVec 32 := Scalar.muli v5 c4_i32_4009
  let v4093 : BitVec 32 := Scalar.addi v4091 v4092
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4010 : BitVec 32 := 1#32
  let v4094 : BitVec 32 := Scalar.muli v8 c1_i32_4010
  let v4095 : BitVec 32 := Scalar.addi v4093 v4094
  v4095.toNat
def k0_dev109 (d0 : Dev nD) : Nat :=
  let c0_i32_4018 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4017 : BitVec 32 := 8#32
  let v4101 : BitVec 32 := Scalar.muli v2 c8_i32_4017
  let v4102 : BitVec 32 := Scalar.addi c0_i32_4018 v4101
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4019 : BitVec 32 := 4#32
  let v4103 : BitVec 32 := Scalar.muli v5 c4_i32_4019
  let v4104 : BitVec 32 := Scalar.addi v4102 v4103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4020 : BitVec 32 := 1#32
  let v4105 : BitVec 32 := Scalar.muli v23 c1_i32_4020
  let v4106 : BitVec 32 := Scalar.addi v4104 v4105
  v4106.toNat
def k0_dev110 (d0 : Dev nD) : Nat :=
  let c0_i32_4064 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4063 : BitVec 32 := 8#32
  let v4145 : BitVec 32 := Scalar.muli v2 c8_i32_4063
  let v4146 : BitVec 32 := Scalar.addi c0_i32_4064 v4145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4065 : BitVec 32 := 4#32
  let v4147 : BitVec 32 := Scalar.muli v5 c4_i32_4065
  let v4148 : BitVec 32 := Scalar.addi v4146 v4147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4066 : BitVec 32 := 1#32
  let v4149 : BitVec 32 := Scalar.muli v23 c1_i32_4066
  let v4150 : BitVec 32 := Scalar.addi v4148 v4149
  v4150.toNat
def k0_dev111 (d0 : Dev nD) : Nat :=
  let c0_i32_4078 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4077 : BitVec 32 := 8#32
  let v4164 : BitVec 32 := Scalar.muli v20 c8_i32_4077
  let v4165 : BitVec 32 := Scalar.addi c0_i32_4078 v4164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4079 : BitVec 32 := 4#32
  let v4166 : BitVec 32 := Scalar.muli v5 c4_i32_4079
  let v4167 : BitVec 32 := Scalar.addi v4165 v4166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4080 : BitVec 32 := 1#32
  let v4168 : BitVec 32 := Scalar.muli v8 c1_i32_4080
  let v4169 : BitVec 32 := Scalar.addi v4167 v4168
  v4169.toNat
def k0_dev112 (d0 : Dev nD) : Nat :=
  let c0_i32_4190 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4189 : BitVec 32 := 8#32
  let v4275 : BitVec 32 := Scalar.muli v2 c8_i32_4189
  let v4276 : BitVec 32 := Scalar.addi c0_i32_4190 v4275
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_4191 : BitVec 32 := 4#32
  let v4277 : BitVec 32 := Scalar.muli v19 c4_i32_4191
  let v4278 : BitVec 32 := Scalar.addi v4276 v4277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4192 : BitVec 32 := 1#32
  let v4279 : BitVec 32 := Scalar.muli v8 c1_i32_4192
  let v4280 : BitVec 32 := Scalar.addi v4278 v4279
  v4280.toNat
def k0_dev113 (d0 : Dev nD) : Nat :=
  let c0_i32_4218 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4217 : BitVec 32 := 8#32
  let v4300 : BitVec 32 := Scalar.muli v20 c8_i32_4217
  let v4301 : BitVec 32 := Scalar.addi c0_i32_4218 v4300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4219 : BitVec 32 := 4#32
  let v4302 : BitVec 32 := Scalar.muli v5 c4_i32_4219
  let v4303 : BitVec 32 := Scalar.addi v4301 v4302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4220 : BitVec 32 := 1#32
  let v4304 : BitVec 32 := Scalar.muli v8 c1_i32_4220
  let v4305 : BitVec 32 := Scalar.addi v4303 v4304
  v4305.toNat
def k0_dev114 (d0 : Dev nD) : Nat :=
  let c0_i32_4232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4231 : BitVec 32 := 8#32
  let v4314 : BitVec 32 := Scalar.muli v2 c8_i32_4231
  let v4315 : BitVec 32 := Scalar.addi c0_i32_4232 v4314
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4233 : BitVec 32 := 4#32
  let v4316 : BitVec 32 := Scalar.muli v5 c4_i32_4233
  let v4317 : BitVec 32 := Scalar.addi v4315 v4316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4234 : BitVec 32 := 1#32
  let v4318 : BitVec 32 := Scalar.muli v23 c1_i32_4234
  let v4319 : BitVec 32 := Scalar.addi v4317 v4318
  v4319.toNat
def k0_dev115 (d0 : Dev nD) : Nat :=
  let c0_i32_4246 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4245 : BitVec 32 := 8#32
  let v4333 : BitVec 32 := Scalar.muli v20 c8_i32_4245
  let v4334 : BitVec 32 := Scalar.addi c0_i32_4246 v4333
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4247 : BitVec 32 := 4#32
  let v4335 : BitVec 32 := Scalar.muli v5 c4_i32_4247
  let v4336 : BitVec 32 := Scalar.addi v4334 v4335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4248 : BitVec 32 := 1#32
  let v4337 : BitVec 32 := Scalar.muli v8 c1_i32_4248
  let v4338 : BitVec 32 := Scalar.addi v4336 v4337
  v4338.toNat
def k0_dev116 (d0 : Dev nD) : Nat :=
  let c0_i32_4265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4264 : BitVec 32 := 8#32
  let v4350 : BitVec 32 := Scalar.muli v2 c8_i32_4264
  let v4351 : BitVec 32 := Scalar.addi c0_i32_4265 v4350
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4266 : BitVec 32 := 4#32
  let v4352 : BitVec 32 := Scalar.muli v5 c4_i32_4266
  let v4353 : BitVec 32 := Scalar.addi v4351 v4352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4267 : BitVec 32 := 1#32
  let v4354 : BitVec 32 := Scalar.muli v23 c1_i32_4267
  let v4355 : BitVec 32 := Scalar.addi v4353 v4354
  v4355.toNat
def k0_dev117 (d0 : Dev nD) : Nat :=
  let c0_i32_4311 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4310 : BitVec 32 := 8#32
  let v4394 : BitVec 32 := Scalar.muli v20 c8_i32_4310
  let v4395 : BitVec 32 := Scalar.addi c0_i32_4311 v4394
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4312 : BitVec 32 := 4#32
  let v4396 : BitVec 32 := Scalar.muli v5 c4_i32_4312
  let v4397 : BitVec 32 := Scalar.addi v4395 v4396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4313 : BitVec 32 := 1#32
  let v4398 : BitVec 32 := Scalar.muli v8 c1_i32_4313
  let v4399 : BitVec 32 := Scalar.addi v4397 v4398
  v4399.toNat
def k0_dev118 (d0 : Dev nD) : Nat :=
  let c0_i32_4325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4324 : BitVec 32 := 8#32
  let v4413 : BitVec 32 := Scalar.muli v2 c8_i32_4324
  let v4414 : BitVec 32 := Scalar.addi c0_i32_4325 v4413
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4326 : BitVec 32 := 4#32
  let v4415 : BitVec 32 := Scalar.muli v5 c4_i32_4326
  let v4416 : BitVec 32 := Scalar.addi v4414 v4415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4327 : BitVec 32 := 1#32
  let v4417 : BitVec 32 := Scalar.muli v23 c1_i32_4327
  let v4418 : BitVec 32 := Scalar.addi v4416 v4417
  v4418.toNat
def k0_dev119 (d0 : Dev nD) : Nat :=
  let c0_i32_4362 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4361 : BitVec 32 := 8#32
  let v4449 : BitVec 32 := Scalar.muli v20 c8_i32_4361
  let v4450 : BitVec 32 := Scalar.addi c0_i32_4362 v4449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4363 : BitVec 32 := 4#32
  let v4451 : BitVec 32 := Scalar.muli v5 c4_i32_4363
  let v4452 : BitVec 32 := Scalar.addi v4450 v4451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4364 : BitVec 32 := 1#32
  let v4453 : BitVec 32 := Scalar.muli v8 c1_i32_4364
  let v4454 : BitVec 32 := Scalar.addi v4452 v4453
  v4454.toNat
def k0_dev120 (d0 : Dev nD) : Nat :=
  let c0_i32_4372 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4371 : BitVec 32 := 8#32
  let v4460 : BitVec 32 := Scalar.muli v2 c8_i32_4371
  let v4461 : BitVec 32 := Scalar.addi c0_i32_4372 v4460
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4373 : BitVec 32 := 4#32
  let v4462 : BitVec 32 := Scalar.muli v5 c4_i32_4373
  let v4463 : BitVec 32 := Scalar.addi v4461 v4462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4374 : BitVec 32 := 1#32
  let v4464 : BitVec 32 := Scalar.muli v23 c1_i32_4374
  let v4465 : BitVec 32 := Scalar.addi v4463 v4464
  v4465.toNat
def k0_dev121 (d0 : Dev nD) : Nat :=
  let c0_i32_4418 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4417 : BitVec 32 := 8#32
  let v4504 : BitVec 32 := Scalar.muli v2 c8_i32_4417
  let v4505 : BitVec 32 := Scalar.addi c0_i32_4418 v4504
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4419 : BitVec 32 := 4#32
  let v4506 : BitVec 32 := Scalar.muli v5 c4_i32_4419
  let v4507 : BitVec 32 := Scalar.addi v4505 v4506
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4420 : BitVec 32 := 1#32
  let v4508 : BitVec 32 := Scalar.muli v23 c1_i32_4420
  let v4509 : BitVec 32 := Scalar.addi v4507 v4508
  v4509.toNat
def k0_dev122 (d0 : Dev nD) : Nat :=
  let c0_i32_4432 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4431 : BitVec 32 := 8#32
  let v4523 : BitVec 32 := Scalar.muli v20 c8_i32_4431
  let v4524 : BitVec 32 := Scalar.addi c0_i32_4432 v4523
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4433 : BitVec 32 := 4#32
  let v4525 : BitVec 32 := Scalar.muli v5 c4_i32_4433
  let v4526 : BitVec 32 := Scalar.addi v4524 v4525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4434 : BitVec 32 := 1#32
  let v4527 : BitVec 32 := Scalar.muli v8 c1_i32_4434
  let v4528 : BitVec 32 := Scalar.addi v4526 v4527
  v4528.toNat
def k0_dev123 (d0 : Dev nD) : Nat :=
  let c0_i32_4460 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4459 : BitVec 32 := 8#32
  let v4553 : BitVec 32 := Scalar.muli v2 c8_i32_4459
  let v4554 : BitVec 32 := Scalar.addi c0_i32_4460 v4553
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4461 : BitVec 32 := 4#32
  let v4555 : BitVec 32 := Scalar.muli v5 c4_i32_4461
  let v4556 : BitVec 32 := Scalar.addi v4554 v4555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4462 : BitVec 32 := 1#32
  let v4557 : BitVec 32 := Scalar.muli v23 c1_i32_4462
  let v4558 : BitVec 32 := Scalar.addi v4556 v4557
  v4558.toNat
def k0_dev124 (d0 : Dev nD) : Nat :=
  let c0_i32_4520 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4519 : BitVec 32 := 8#32
  let v4606 : BitVec 32 := Scalar.muli v2 c8_i32_4519
  let v4607 : BitVec 32 := Scalar.addi c0_i32_4520 v4606
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_4521 : BitVec 32 := 4#32
  let v4608 : BitVec 32 := Scalar.muli v19 c4_i32_4521
  let v4609 : BitVec 32 := Scalar.addi v4607 v4608
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4522 : BitVec 32 := 1#32
  let v4610 : BitVec 32 := Scalar.muli v8 c1_i32_4522
  let v4611 : BitVec 32 := Scalar.addi v4609 v4610
  v4611.toNat
def k0_dev125 (d0 : Dev nD) : Nat :=
  let c0_i32_4572 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4571 : BitVec 32 := 8#32
  let v4650 : BitVec 32 := Scalar.muli v2 c8_i32_4571
  let v4651 : BitVec 32 := Scalar.addi c0_i32_4572 v4650
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_7 v5
  let c4_i32_4573 : BitVec 32 := 4#32
  let v4652 : BitVec 32 := Scalar.muli v19 c4_i32_4573
  let v4653 : BitVec 32 := Scalar.addi v4651 v4652
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4574 : BitVec 32 := 1#32
  let v4654 : BitVec 32 := Scalar.muli v8 c1_i32_4574
  let v4655 : BitVec 32 := Scalar.addi v4653 v4654
  v4655.toNat
def k0_dev126 (d0 : Dev nD) : Nat :=
  let c0_i32_4605 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4604 : BitVec 32 := 8#32
  let v4678 : BitVec 32 := Scalar.muli v20 c8_i32_4604
  let v4679 : BitVec 32 := Scalar.addi c0_i32_4605 v4678
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4606 : BitVec 32 := 4#32
  let v4680 : BitVec 32 := Scalar.muli v5 c4_i32_4606
  let v4681 : BitVec 32 := Scalar.addi v4679 v4680
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4607 : BitVec 32 := 1#32
  let v4682 : BitVec 32 := Scalar.muli v8 c1_i32_4607
  let v4683 : BitVec 32 := Scalar.addi v4681 v4682
  v4683.toNat
def k0_dev127 (d0 : Dev nD) : Nat :=
  let c0_i32_4610 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4609 : BitVec 32 := 8#32
  let v4684 : BitVec 32 := Scalar.muli v20 c8_i32_4609
  let v4685 : BitVec 32 := Scalar.addi c0_i32_4610 v4684
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4611 : BitVec 32 := 4#32
  let v4686 : BitVec 32 := Scalar.muli v5 c4_i32_4611
  let v4687 : BitVec 32 := Scalar.addi v4685 v4686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4612 : BitVec 32 := 1#32
  let v4688 : BitVec 32 := Scalar.muli v8 c1_i32_4612
  let v4689 : BitVec 32 := Scalar.addi v4687 v4688
  v4689.toNat
def k0_dev128 (d0 : Dev nD) : Nat :=
  let c0_i32_4615 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4614 : BitVec 32 := 8#32
  let v4690 : BitVec 32 := Scalar.muli v2 c8_i32_4614
  let v4691 : BitVec 32 := Scalar.addi c0_i32_4615 v4690
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4616 : BitVec 32 := 4#32
  let v4692 : BitVec 32 := Scalar.muli v5 c4_i32_4616
  let v4693 : BitVec 32 := Scalar.addi v4691 v4692
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4617 : BitVec 32 := 1#32
  let v4694 : BitVec 32 := Scalar.muli v23 c1_i32_4617
  let v4695 : BitVec 32 := Scalar.addi v4693 v4694
  v4695.toNat
def k0_dev129 (d0 : Dev nD) : Nat :=
  let c0_i32_4620 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4619 : BitVec 32 := 8#32
  let v4696 : BitVec 32 := Scalar.muli v2 c8_i32_4619
  let v4697 : BitVec 32 := Scalar.addi c0_i32_4620 v4696
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4621 : BitVec 32 := 4#32
  let v4698 : BitVec 32 := Scalar.muli v5 c4_i32_4621
  let v4699 : BitVec 32 := Scalar.addi v4697 v4698
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4622 : BitVec 32 := 1#32
  let v4700 : BitVec 32 := Scalar.muli v23 c1_i32_4622
  let v4701 : BitVec 32 := Scalar.addi v4699 v4700
  v4701.toNat
def k0_dev130 (d0 : Dev nD) : Nat :=
  let c0_i32_4630 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_8 v2
  let c8_i32_4629 : BitVec 32 := 8#32
  let v4707 : BitVec 32 := Scalar.muli v20 c8_i32_4629
  let v4708 : BitVec 32 := Scalar.addi c0_i32_4630 v4707
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4631 : BitVec 32 := 4#32
  let v4709 : BitVec 32 := Scalar.muli v5 c4_i32_4631
  let v4710 : BitVec 32 := Scalar.addi v4708 v4709
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4632 : BitVec 32 := 1#32
  let v4711 : BitVec 32 := Scalar.muli v8 c1_i32_4632
  let v4712 : BitVec 32 := Scalar.addi v4710 v4711
  v4712.toNat
def k0_dev131 (d0 : Dev nD) : Nat :=
  let c0_i32_4640 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4639 : BitVec 32 := 8#32
  let v4718 : BitVec 32 := Scalar.muli v2 c8_i32_4639
  let v4719 : BitVec 32 := Scalar.addi c0_i32_4640 v4718
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4641 : BitVec 32 := 4#32
  let v4720 : BitVec 32 := Scalar.muli v5 c4_i32_4641
  let v4721 : BitVec 32 := Scalar.addi v4719 v4720
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v21 : BitVec 32 := Scalar.addi v8 c1_i32_9
  let c2_i32_10 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v22 : BitVec 32 := Scalar.muli c2_i32_10 v18
  let v23 : BitVec 32 := Scalar.subi v21 v22
  let c1_i32_4642 : BitVec 32 := 1#32
  let v4722 : BitVec 32 := Scalar.muli v23 c1_i32_4642
  let v4723 : BitVec 32 := Scalar.addi v4721 v4722
  v4723.toNat
-- ==== ReferenceIdeal.lean ====
abbrev S32768x1024 : Shape := ⟨2, ![32768, 1024]⟩

abbrev nBuf : Space → Nat
  | .hbm => 1
  | .vmem => 0
  | .smem => 0
  | _ => 0

abbrev bufTy : (tb : Table) → Fin (tcTables nBuf tb) → BufTy
  | .hbm, ⟨0, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Kernel.BodyEq.lean ====
module

public import proofs.«01_k».proof.Proof.Kernel.Phases

/-! # The printed body is the phases -/

@[expose] public section

noncomputable section

namespace Cert.Kernel.Ag

open Idealize.ShloMosaic Idealize.ShloMosaic.TcCoe
open Idealize.SL Idealize.SL.Sem
open Cert.Kernel.Gen

variable {F : FTy → Type} [FloatOps F]

set_option maxRecDepth 100000 in
set_option maxHeartbeats 0 in
/-- The printed body, at the whole buffers and the compiled semaphores, is the phases in order. -/
theorem body_eq (t : Fin cfg0.N) : (bodyAt0 (F := F) t : BProg F) = .op .deviceId fun d => bodyP d := by
  rfl

end Cert.Kernel.Ag
end
-- ==== Proof.KernelIdeal.Phases.lean ====
module

public import proofs.«01_k».proof.Proof.Gen.KernelIdeal.Points

/-! # The kernel body as phases

The printed body is one straight line of transfers, waits and signals. Here the same line is written as the
phases of the algorithm at a symbolic chunk number, and the printed body is shown to be it, by unfolding. -/

@[expose] public section

noncomputable section

namespace Cert.KernelIdeal.Ag

open Idealize.ShloMosaic Idealize.ShloMosaic.TcCoe
open Idealize.SL Idealize.SL.Sem
open Cert.KernelIdeal.Gen

variable {F : FTy → Type} [FloatOps F]

/-- The body's programs. -/
abbrev BProg (F : FTy → Type) [FloatOps F] := Prog (TpuEff nD τ sig (Elt F) Λ₀ .tc) PUnit

/-! ## Names -/

/-- The neighbour along y. -/
def py (d : Dev nD) : Dev nD := ⟨k0_dev1 d, k0_dev1_lt d⟩
/-- The neighbour along x. -/
def px (d : Dev nD) : Dev nD := ⟨k0_dev2 d, k0_dev2_lt d⟩
/-- The neighbour along z. -/
def pz (d : Dev nD) : Dev nD := ⟨k0_dev3 d, k0_dev3_lt d⟩

/-- A chunk number. -/
def fi (k : ℕ) : Fin 16 := ⟨k % 16, Nat.mod_lt _ (by decide)⟩

/-- The DMA semaphores by number. -/
def dsem (n : ℕ) : DmaSem sig := (⟨n % 146, Nat.mod_lt _ (by decide)⟩ : Fin 146)

def ySs (k : ℕ) : DmaSem sig := dsem (k % 16)
def yRs (k : ℕ) : DmaSem sig := dsem (16 + k % 16)
def x1Ss (k : ℕ) : DmaSem sig := dsem (32 + k % 16)
def x1Rs (k : ℕ) : DmaSem sig := dsem (48 + k % 16)
def z1Ss (k : ℕ) : DmaSem sig := dsem (64 + k % 16)
def z1Rs (k : ℕ) : DmaSem sig := dsem (80 + k % 16)
def x2Ss (e : ℕ) : DmaSem sig := dsem (96 + e % 8)
def x2Rs (e : ℕ) : DmaSem sig := dsem (104 + e % 8)
def z2Ss (e : ℕ) : DmaSem sig := dsem (112 + e % 8)
def z2Rs (e : ℕ) : DmaSem sig := dsem (120 + e % 8)
def ldS (k : ℕ) : DmaSem sig := dsem (128 + k % 2)
def stS (k : ℕ) : DmaSem sig := dsem (130 + k % 2)
def dryS (k : ℕ) : DmaSem sig := dsem (132 + k % 2)
def dx1S (k : ℕ) : DmaSem sig := dsem (134 + k % 2)
def dz1S (k : ℕ) : DmaSem sig := dsem (136 + k % 2)
def dx2S (k : ℕ) : DmaSem sig := dsem (138 + k % 2)
def dz2S (k : ℕ) : DmaSem sig := dsem (140 + k % 2)
def llS (k : ℕ) : DmaSem sig := dsem (142 + k % 2)
def lsS (k : ℕ) : DmaSem sig := dsem (144 + k % 2)

/-- The regular semaphores: the five credits and the barrier. -/
def yC : Sem sig := (0 : Fin 6)
def x1C : Sem sig := (1 : Fin 6)
def z1C : Sem sig := (2 : Fin 6)
def x2C : Sem sig := (3 : Fin 6)
def z2C : Sem sig := (4 : Fin 6)
def barS : Sem sig := (5 : Fin 6)

/-- A chunk view. -/
abbrev VView := Memref sig .tc .vmem S256x1024 .f32
abbrev HView := Memref sig .tc .hbm S256x1024 .f32

theorem slot2_inb (s : ℕ) : ∀ a, (![s % 2, 0, 0] : Fin 3 → ℕ) a + S1x256x1024.size a ≤ S2x256x1024.size a := by
  have := Nat.mod_lt s (show 2 > 0 by decide)
  intro a; fin_cases a <;> simp [S1x256x1024, S2x256x1024] <;> omega
theorem slot4_inb (s : ℕ) : ∀ a, (![s % 4, 0, 0] : Fin 3 → ℕ) a + S1x256x1024.size a ≤ S4x256x1024.size a := by
  have := Nat.mod_lt s (show 4 > 0 by decide)
  intro a; fin_cases a <;> simp [S1x256x1024, S4x256x1024] <;> omega

/-- Slot `s` of a buffer of two slots. -/
def slot2 (a : Memref sig .tc .vmem S2x256x1024 .f32) (s : ℕ) : VView :=
  (a.slice (Rect.unit (s := S2x256x1024) ![s % 2, 0, 0] S1x256x1024.size (slot2_inb s)) (fun _ => rfl)).squeeze
    S256x1024 squeezes_S1x256x1024_S256x1024
/-- Slot `s` of a buffer of four slots. -/
def slot4 (a : Memref sig .tc .vmem S4x256x1024 .f32) (s : ℕ) : VView :=
  (a.slice (Rect.unit (s := S4x256x1024) ![s % 4, 0, 0] S1x256x1024.size (slot4_inb s)) (fun _ => rfl)).squeeze
    S256x1024 squeezes_S1x256x1024_S256x1024

abbrev xM : Memref sig .tc .hbm S16384x1024 .f32 := Memref.whole main_arg0
abbrev oM : Memref sig .tc .hbm S32768x1024 .f32 := Memref.whole main_v1

def ysV (k : ℕ) : VView := slot2 (Memref.whole cc0_scratch0) k
def yrV (k : ℕ) : VView := slot4 (Memref.whole cc0_scratch1) k
def xrV (k : ℕ) : VView := slot4 (Memref.whole cc0_scratch2) k
def zrV (k : ℕ) : VView := slot4 (Memref.whole cc0_scratch3) k
def x2V (e : ℕ) : VView := slot2 (Memref.whole cc0_scratch4) e
def z2V (e : ℕ) : VView := slot2 (Memref.whole cc0_scratch5) e
def lcV (k : ℕ) : VView := slot2 (Memref.whole cc0_scratch6) k

/-- A chunk of rows of the argument at an offset. -/
abbrev xAt (off : Fin 2 → ℕ) (h : ∀ a, off a + S256x1024.size a ≤ S16384x1024.size a) : HView :=
  xM.slice (Rect.unit (s := S16384x1024) off S256x1024.size h) (fun _ => rfl)
/-- A chunk of rows of the result at an offset. -/
abbrev oAt (off : Fin 2 → ℕ) (h : ∀ a, off a + S256x1024.size a ≤ S32768x1024.size a) : HView :=
  oM.slice (Rect.unit (s := S32768x1024) off S256x1024.size h) (fun _ => rfl)

/-- The word of chunk `k`'s row offset. -/
abbrev kw (k : ℕ) : BitVec 32 := BitVec.ofNat 32 (256 * (fi k).val)

/-- The argument's chunk that is sent along y. -/
def xsV (d : Dev nD) (k : ℕ) : HView := xAt (k0_off1 d (kw k)) (k0_off1_inb d (fi k))
/-- The argument's chunks that are only copied locally. -/
def xlV (d : Dev nD) (t k : ℕ) : HView :=
  match t with
  | 0 => xAt (k0_off3 d (kw k)) (k0_off3_inb d (fi k))
  | 1 => xAt (k0_off5 d (kw k)) (k0_off5_inb d (fi k))
  | _ => xAt (k0_off7 d (kw k)) (k0_off7_inb d (fi k))
/-- Where the sent chunk goes in the result. -/
def osV (d : Dev nD) (k : ℕ) : HView := oAt (k0_off2 d (kw k)) (k0_off2_inb d (fi k))
/-- Where the local chunks go in the result. -/
def olV (d : Dev nD) (t k : ℕ) : HView :=
  match t with
  | 0 => oAt (k0_off4 d (kw k)) (k0_off4_inb d (fi k))
  | 1 => oAt (k0_off6 d (kw k)) (k0_off6_inb d (fi k))
  | _ => oAt (k0_off8 d (kw k)) (k0_off8_inb d (fi k))
/-- Where the received chunks go in the result. -/
def oyV (d : Dev nD) (k : ℕ) : HView := oAt (k0_off9 d (kw k)) (k0_off9_inb d (fi k))
def oxV (d : Dev nD) (k : ℕ) : HView := oAt (k0_off10 d (kw k)) (k0_off10_inb d (fi k))
def ozV (d : Dev nD) (k : ℕ) : HView := oAt (k0_off11 d (kw k)) (k0_off11_inb d (fi k))
def odV (d : Dev nD) (k : ℕ) : HView := oAt (k0_off12 d (kw k)) (k0_off12_inb d (fi k))

/-! ## Operations, each followed by a continuation -/

section Ops
variable (K : BProg F)

theorem wxH (off : Fin 2 → ℕ) (h) : (xAt off h).view.WordExact := View.wordExact_bits rfl
theorem wxO (off : Fin 2 → ℕ) (h) : (oAt off h).view.WordExact := View.wordExact_bits rfl
theorem wx2 (a) (s : ℕ) : (slot2 a s).view.WordExact := (View.wordExact_bits rfl).reshape _ _
theorem wx4 (a) (s : ℕ) : (slot4 a s).view.WordExact := (View.wordExact_bits rfl).reshape _ _

/-- Start a copy from HBM to a slot. -/
def cpIn (src : HView) (dst : VView) (sem : DmaSem sig) (h₁ : src.view.WordExact) (h₂ : dst.view.WordExact) : BProg F :=
  .op (.enqueueDma src (.here dst) (.dma sem) h₁ h₂ ⟨Or.inl rfl, trivial⟩) fun _ => K
/-- Start a copy from a slot to HBM. -/
def cpOut (src : VView) (dst : HView) (sem : DmaSem sig) (h₁ : src.view.WordExact) (h₂ : dst.view.WordExact) : BProg F :=
  .op (.enqueueDma src (.here dst) (.dma sem) h₁ h₂ ⟨Or.inl rfl, trivial⟩) fun _ => K
/-- Start a transfer to a slot of another device. -/
def send (src : VView) (d' : Dev nD) (dst : VView) (ss rs : DmaSem sig) (h₁ : src.view.WordExact) (h₂ : dst.view.WordExact) : BProg F :=
  .op (.enqueueDma src (.remote (Dev.tc d') dst (.dma ss)) (.dma rs) h₁ h₂ ⟨⟨rfl, Or.inl rfl⟩, trivial⟩) fun _ => K
/-- Wait for a transfer. -/
def wt {sp sp' : Space} (sem : DmaSem sig) (src : Memref sig .tc sp S256x1024 .f32) (dst : Memref sig .tc sp' S256x1024 .f32)
    (h₁ : src.view.WordExact) (h₂ : dst.view.WordExact) : BProg F :=
  .op (.waitDma2 sem src dst h₁ h₂) fun _ => K
/-- Signal one unit to another device's semaphore. -/
def sig1 (d' : Dev nD) (s : Sem sig) : BProg F := .op (.semSignal (d', .tc) s (1#32).toInt) fun _ => K
/-- Wait for `n` units of an own semaphore. -/
def wtN (s : Sem sig) (n : BitVec 32) : BProg F := .op (.semWait s n.toInt) fun _ => K
end Ops

/-! ## The phases -/

section Phases
variable (d : Dev nD)

/-- Wait out the transfer and the store that use the send slot two chunks back. -/
def drainS (n : ℕ) (K : BProg F) : BProg F :=
  if 2 ≤ n then
    wt (wt K (stS (n - 2)) (ysV (n - 2)) (osV d (n - 2)) (wx2 _ _) (wxO _ _))
      (ySs (n - 2)) (yrV (n - 2)) (ysV (n - 2)) (wx4 _ _) (wx2 _ _)
  else K
/-- Wait for one credit, from the unit `w` on. -/
def take (w u : ℕ) (s : Sem sig) (K : BProg F) : BProg F := if w ≤ u then wtN K s 1#32 else K
/-- Send chunk `k` along y, and store it. -/
def sendP (k : ℕ) (K : BProg F) : BProg F :=
  drainS d k <| take 4 k yC <|
  cpIn (wt (send (cpOut K (ysV k) (osV d k) (stS k) (wx2 _ _) (wxO _ _))
        (ysV k) (py d) (yrV k) (ySs k) (yRs k) (wx2 _ _) (wx4 _ _))
      (ldS k) (xsV d k) (ysV k) (wxH _ _) (wx2 _ _))
    (xsV d k) (ysV k) (ldS k) (wxH _ _) (wx2 _ _)

/-- Wait out what uses the y slot two chunks back, and return its credit. -/
def drainR (n : ℕ) (K : BProg F) : BProg F :=
  if 2 ≤ n then
    wt (wt (wt (sig1 K (py d) yC)
        (dryS (n - 2)) (yrV (n - 2)) (oyV d (n - 2)) (wx4 _ _) (wxO _ _))
        (z1Ss (n - 2)) (zrV (n - 2)) (yrV (n - 2)) (wx4 _ _) (wx4 _ _))
        (x1Ss (n - 2)) (xrV (n - 2)) (yrV (n - 2)) (wx4 _ _) (wx4 _ _)
  else K
/-- Receive chunk `j` along y, store it, and forward it along x and along z. -/
def yrecvP (j : ℕ) (K : BProg F) : BProg F :=
  drainR d j <|
  wt (cpOut (take 4 j x1C <| send (take 4 j z1C <| send K
          (yrV j) (pz d) (zrV j) (z1Ss j) (z1Rs j) (wx4 _ _) (wx4 _ _))
        (yrV j) (px d) (xrV j) (x1Ss j) (x1Rs j) (wx4 _ _) (wx4 _ _))
      (yrV j) (oyV d j) (dryS j) (wx4 _ _) (wxO _ _))
    (yRs j) (ysV j) (yrV j) (wx2 _ _) (wx4 _ _)

/-- Wait out the second transfer that reads an x slot. -/
def waitZ2 (c : ℕ) (K : BProg F) : BProg F :=
  if c % 2 = 1 then wt K (z2Ss (c / 2)) (z2V (c / 2)) (xrV c) (wx2 _ _) (wx4 _ _) else K
/-- Wait out the second transfer that reads a z slot. -/
def waitX2 (c : ℕ) (K : BProg F) : BProg F :=
  if c % 2 = 0 then wt K (x2Ss (c / 2)) (x2V (c / 2)) (zrV c) (wx2 _ _) (wx4 _ _) else K
/-- Wait out the store from an x slot. -/
def waitDx (c : ℕ) (K : BProg F) : BProg F := wt K (dx1S c) (xrV c) (oxV d c) (wx4 _ _) (wxO _ _)
/-- Wait out the store from a z slot. -/
def waitDz (c : ℕ) (K : BProg F) : BProg F := wt K (dz1S c) (zrV c) (ozV d c) (wx4 _ _) (wxO _ _)
/-- Wait out what uses the x slot and the z slot two chunks back, and return their credits. -/
def drainX (n : ℕ) (K : BProg F) : BProg F :=
  if 2 ≤ n then
    waitDx d (n - 2) <| waitZ2 (n - 2) <| sig1 (waitDz d (n - 2) <| waitX2 (n - 2) <| sig1 K (pz d) z1C) (px d) x1C
  else K
/-- The second hop of chunk `i`: an even chunk along x out of the z slot, an odd one along z out of the x slot. -/
def hop2 (i : ℕ) (K : BProg F) : BProg F :=
  if i % 2 = 0 then
    take 2 (i / 2) x2C <| send K (zrV i) (px d) (x2V (i / 2)) (x2Ss (i / 2)) (x2Rs (i / 2)) (wx4 _ _) (wx2 _ _)
  else
    take 2 (i / 2) z2C <| send K (xrV i) (pz d) (z2V (i / 2)) (z2Ss (i / 2)) (z2Rs (i / 2)) (wx4 _ _) (wx2 _ _)
/-- Receive chunk `i` along x and along z, store both, and send one of them a second hop. -/
def xzP (i : ℕ) (K : BProg F) : BProg F :=
  drainX d i <|
  wt (cpOut (wt (cpOut (hop2 d i K)
        (zrV i) (ozV d i) (dz1S i) (wx4 _ _) (wxO _ _))
        (z1Rs i) (yrV i) (zrV i) (wx4 _ _) (wx4 _ _))
      (xrV i) (oxV d i) (dx1S i) (wx4 _ _) (wxO _ _))
    (x1Rs i) (yrV i) (xrV i) (wx4 _ _) (wx4 _ _)

/-- Wait out the store two chunks back on the diagonal, and return its credit. -/
def drainD (n : ℕ) (K : BProg F) : BProg F :=
  if 2 ≤ n then
    if n % 2 = 0 then
      wt (sig1 K (px d) x2C) (dx2S ((n - 2) / 2)) (x2V ((n - 2) / 2)) (odV d (n - 2)) (wx2 _ _) (wxO _ _)
    else
      wt (sig1 K (pz d) z2C) (dz2S ((n - 2) / 2)) (z2V ((n - 2) / 2)) (odV d (n - 2)) (wx2 _ _) (wxO _ _)
  else K
/-- Receive the diagonal chunk `n` and store it. -/
def diagP (n : ℕ) (K : BProg F) : BProg F :=
  drainD d n <|
  if n % 2 = 0 then
    wt (cpOut K (x2V (n / 2)) (odV d n) (dx2S (n / 2)) (wx2 _ _) (wxO _ _))
      (x2Rs (n / 2)) (zrV n) (x2V (n / 2)) (wx4 _ _) (wx2 _ _)
  else
    wt (cpOut K (z2V (n / 2)) (odV d n) (dz2S (n / 2)) (wx2 _ _) (wxO _ _))
      (z2Rs (n / 2)) (xrV n) (z2V (n / 2)) (wx4 _ _) (wx2 _ _)

theorem wxL (t k : ℕ) : (xlV d t k).view.WordExact := by
  unfold xlV; split <;> exact wxH _ _
theorem wxOL (t k : ℕ) : (olV d t k).view.WordExact := by
  unfold olV; split <;> exact wxO _ _

/-- Wait out the store from the local slot two copies back. -/
def drainL (n : ℕ) (K : BProg F) : BProg F :=
  if 2 ≤ n then
    wt K (lsS (n - 2)) (lcV (n - 2)) (olV d ((n - 2) % 3) ((n - 2) / 3)) (wx2 _ _) (wxOL _ _ _)
  else K
/-- The local copy number `n`. -/
def lclP (n : ℕ) (K : BProg F) : BProg F :=
  drainL d n <|
  cpIn (wt (cpOut K (lcV n) (olV d (n % 3) (n / 3)) (lsS n) (wx2 _ _) (wxOL _ _ _))
      (llS n) (xlV d (n % 3) (n / 3)) (lcV n) (wxL _ _ _) (wx2 _ _))
    (xlV d (n % 3) (n / 3)) (lcV n) (llS n) (wxL _ _ _) (wx2 _ _)

/-- The three receiving phases of iteration `t`. -/
def recvs (t : ℕ) (K : BProg F) : BProg F :=
  let Kd := if 3 ≤ t then diagP d (t - 3) K else K
  let Kx := if 2 ≤ t ∧ t < 18 then xzP d (t - 2) Kd else Kd
  if 1 ≤ t ∧ t < 17 then yrecvP d (t - 1) Kx else Kx

/-- Iteration `t` of the loop over the chunks. -/
def iter (t : ℕ) (K : BProg F) : BProg F :=
  sendP d t <| recvs d t <| lclP d (3 * t) <| lclP d (3 * t + 1) <| lclP d (3 * t + 2) K

/-- The iterations from `t` on, `m` of them. -/
def iters (K : BProg F) : ℕ → ℕ → BProg F
  | 0, _ => K
  | m + 1, t => iter d t (iters K m (t + 1))

/-- What follows the loop. -/
def finalP : BProg F :=
  drainS d 16 <| drainR d 16 <| waitDx d 14 <| waitDz d 14 <|
  drainS d 17 <| drainR d 17 <| waitDx d 15 <| waitDz d 15 <|
  waitZ2 15 <| waitX2 14 <|
  sig1 (sig1 (sig1 (sig1 (drainD d 16 <| drainD d 17 <| drainL d 48 <| drainL d 49 <|
    wtN (wtN (wtN (wtN (wtN (.ret ⟨⟩) z2C 2#32) x2C 2#32) z1C 4#32) x1C 4#32) yC 4#32)
    (pz d) z1C) (pz d) z1C) (px d) x1C) (px d) x1C

/-- The entry handshake. -/
def barP (K : BProg F) : BProg F :=
  sig1 (sig1 (sig1 (wtN K barS 3#32) (pz d) barS) (px d) barS) (py d) barS

/-- The whole body after the device number. -/
def bodyP : BProg F :=
  barP d <| iters d (recvs d 16 <| recvs d 17 <| recvs d 18 <| finalP d) 16 0

end Phases

end Cert.KernelIdeal.Ag
end
-- ==== Proof.KernelIdeal.Protocol.lean ====
module

public import proofs.«01_k».proof.Proof.KernelIdeal.Phases
public import Idealize.ShloMosaic.Lib.Pipeline.Launch
public import Idealize.ShloMosaic.Lib.Pipeline.Kit
public import Idealize.ShloMosaic.Lib.Release
public import Idealize.ShloMosaic.Lib.Transfers
public import Idealize.ShloMosaic.Lib.Tactic

/-! # The protocol

Five channels carry the chunks between devices: one along y, two along x and two along z. Each channel has slots
at the receiver, a send and a receive semaphore per chunk, and a credit semaphore by which the receiver returns a
slot. This module states who owes which unit to whom and when, and what each unit hands over. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## Resources -/

/-- A slot of a channel at its reader: the reader, the channel, the unit written into it. -/
abbrev Key : Type := Dev nD × Fin 5 × ℕ
abbrev UB : Type := URounds (GSem nD τ sig) ℕ
abbrev UC : Type := USlots Key × Counters
abbrev UU : Type := UR sig nD τ × (UB × UC)

local notation "𝕄" => MT nD τ sig ℕ (Elt F) ℕ UU ℕ

def EP : Emb (UR sig nD τ) 𝕄 := embL
def ER : Emb UB 𝕄 := (Emb.inl : Emb UB (UB × UC)).trans embR
def ES : Emb (USlots Key) 𝕄 := ((Emb.inl : Emb (USlots Key) UC).trans (Emb.inr : Emb UC (UB × UC))).trans embR
abbrev EC : UEmb Counters 𝕄 := countersEmb
instance EP_landsIn : (EP : Emb (UR sig nD τ) 𝕄).LandsIn (upEmb : UEmb _ 𝕄) := by unfold EP; infer_instance
instance ER_landsIn : (ER : Emb UB 𝕄).LandsIn (upEmb : UEmb _ 𝕄) := by unfold ER; infer_instance
instance ES_landsIn : (ES : Emb (USlots Key) 𝕄).LandsIn (upEmb : UEmb _ 𝕄) := by unfold ES; infer_instance

/-! ## The channels -/

/-- The device at the other end of a channel. -/
def nb (i : Fin 5) (c : Dev nD) : Dev nD := match i with
  | 0 => py c | 1 => px c | 2 => pz c | 3 => px c | 4 => pz c
/-- The number of chunks a channel carries. -/
def cN (i : Fin 5) : ℕ := match i with
  | 0 => 16 | 1 => 16 | 2 => 16 | 3 => 8 | 4 => 8
/-- The number of slots of a channel. -/
def cW (i : Fin 5) : ℕ := match i with
  | 0 => 4 | 1 => 4 | 2 => 4 | 3 => 2 | 4 => 2
/-- A channel's credit semaphore. -/
def crS (i : Fin 5) : Sem sig := match i with
  | 0 => yC | 1 => x1C | 2 => z1C | 3 => x2C | 4 => z2C
/-- A channel's send semaphore of a chunk. -/
def ssS (i : Fin 5) (u : ℕ) : DmaSem sig := match i with
  | 0 => ySs u | 1 => x1Ss u | 2 => z1Ss u | 3 => x2Ss u | 4 => z2Ss u
/-- A channel's receive semaphore of a chunk. -/
def rsS (i : Fin 5) (u : ℕ) : DmaSem sig := match i with
  | 0 => yRs u | 1 => x1Rs u | 2 => z1Rs u | 3 => x2Rs u | 4 => z2Rs u
/-- The slot a chunk lands in. -/
def dstV (i : Fin 5) (u : ℕ) : VView := match i with
  | 0 => yrV u | 1 => xrV u | 2 => zrV u | 3 => x2V u | 4 => z2V u
/-- The slot a chunk is sent from. -/
def srcV (i : Fin 5) (u : ℕ) : VView := match i with
  | 0 => ysV u | 1 => yrV u | 2 => yrV u | 3 => zrV (2 * u) | 4 => xrV (2 * u + 1)
/-- The share of the source a transfer borrows. -/
def shr (i : Fin 5) : PosShare TreeShare := match i with
  | 0 => fullShare.left | 1 => fullShare.right.left | 2 => fullShare.right.right | 3 => fullShare.right | 4 => fullShare.right
/-- The mesh axis of a channel: y, x or z. -/
def axOf (i : Fin 5) : ℕ := match i with
  | 0 => 0 | 1 => 1 | 2 => 2 | 3 => 1 | 4 => 2

theorem nb_nb (i : Fin 5) (c : Dev nD) : nb i (nb i c) = c := by
  revert i c; decide +kernel

theorem cN_le (i : Fin 5) : cN i ≤ 16 := by revert i; decide
theorem cW_pos (i : Fin 5) : 0 < cW i := by revert i; decide
theorem cW_le (i : Fin 5) : cW i ≤ cN i := by revert i; decide

/-- What a semaphore is for. -/
inductive Role where
  | snd (i : Fin 5) (u : ℕ)
  | rcv (i : Fin 5) (u : ℕ)
  | crd (i : Fin 5)
  | bar
  | other
deriving DecidableEq

/-- The use of a DMA semaphore by number. -/
def dRole (n : ℕ) : Role :=
  if n < 16 then .snd 0 n else if n < 32 then .rcv 0 (n - 16)
  else if n < 48 then .snd 1 (n - 32) else if n < 64 then .rcv 1 (n - 48)
  else if n < 80 then .snd 2 (n - 64) else if n < 96 then .rcv 2 (n - 80)
  else if n < 104 then .snd 3 (n - 96) else if n < 112 then .rcv 3 (n - 104)
  else if n < 120 then .snd 4 (n - 112) else if n < 128 then .rcv 4 (n - 120) else .other
/-- The use of a regular semaphore by number. -/
def rRole (n : ℕ) : Role := match n with
  | 0 => .crd 0 | 1 => .crd 1 | 2 => .crd 2 | 3 => .crd 3 | 4 => .crd 4 | 5 => .bar | _ => .other
def role (sm : SemLoc sig) : Role := match sm with
  | .dma s => dRole (show Fin 146 from s).val
  | .reg s => rRole (show Fin 6 from s).val

theorem role_ss (i : Fin 5) (u : ℕ) (h : u < cN i) : role (.dma (ssS i u)) = .snd i u := by
  have H : ∀ i : Fin 5, ∀ u : Fin 16, u.val < cN i → role (.dma (ssS i u.val)) = .snd i u.val := by decide +kernel
  have h16 : u < 16 := lt_of_lt_of_le h (cN_le i)
  exact H i ⟨u, h16⟩ h
theorem role_rs (i : Fin 5) (u : ℕ) (h : u < cN i) : role (.dma (rsS i u)) = .rcv i u := by
  have H : ∀ i : Fin 5, ∀ u : Fin 16, u.val < cN i → role (.dma (rsS i u.val)) = .rcv i u.val := by decide +kernel
  have h16 : u < 16 := lt_of_lt_of_le h (cN_le i)
  exact H i ⟨u, h16⟩ h
theorem role_cr (i : Fin 5) : role (.reg (crS i)) = .crd i := by revert i; decide
theorem role_bar : role (.reg barS) = .bar := by decide

/-- The units of one chunk's transfer. -/
def NB : ℕ := (ysV 0).view.dmaCredit
theorem NB_pos : 0 < NB := View.dmaCredit_pos _ (by decide)
theorem credit_eq {sp : Space} (v : Memref sig .tc sp S256x1024 .f32) : v.view.dmaCredit = NB := by
  rfl

variable (m : (ℓ : Loc nD τ sig) → Buf (Elt F) ℓ)

/-! ## Contents -/

/-- A chunk's values. -/
abbrev Chunk (F : FTy → Type) : Type := S256x1024.Idx → Elt F .f32

/-- The chunk number `k` a device sends along y: rows of its argument. -/
def chunk (c : Dev nD) (k : ℕ) : Chunk F := (xsV c k).view.read (Elt F) (m ((c : Thread nD τ).loc main_arg0))

/-- What a device sends on a channel as chunk `u`. -/
def val (i : Fin 5) (c : Dev nD) (u : ℕ) : Chunk F := match i with
  | 0 => chunk m c u | 1 => chunk m (py c) u | 2 => chunk m (py c) u
  | 3 => chunk m (py (pz c)) (2 * u) | 4 => chunk m (py (px c)) (2 * u + 1)

/-- A view's elements at some contents. -/
def slotF {sp : Space} (c : Dev nD) (v : Memref sig .tc sp S256x1024 .f32) : sProp 𝕄 :=
  Release.slot (v.view.loc (c : Thread nD τ)) v.view.set
/-- A share of a view's elements holding a chunk. -/
def slotC {sp : Space} (c : Dev nD) (v : Memref sig .tc sp S256x1024 .f32) (x : Chunk F) (q : PosShare TreeShare) : sProp 𝕄 :=
  v.view.loc (c : Thread nD τ) ↦[v.view.set]{q} v.view.write (Elt F) (m (v.view.loc (c : Thread nD τ))) x Finset.univ

instance slotF_storable {sp : Space} (c : Dev nD) (v : Memref sig .tc sp S256x1024 .f32) :
    BI.Storable (upEmb : UEmb _ 𝕄) (slotF (F := F) c v) := by unfold slotF; infer_instance
instance slotC_storable {sp : Space} (c : Dev nD) (v : Memref sig .tc sp S256x1024 .f32) (x : Chunk F) (q) :
    BI.Storable (upEmb : UEmb _ 𝕄) (slotC m c v x q) := by unfold slotC; infer_instance

/-! ## The schedule -/

/-- The facts that the reader of a channel has returned its first `n` slots, where a later chunk uses them. -/
def relSt (i : Fin 5) (c : Dev nD) (n : ℕ) : sProp 𝕄 :=
  bigSep (Finset.range n) fun u => if u + cW i < cN i then released ES ((c, i, u + cW i) : Key) 1 else iprop(emp)
instance relSt_persistent (i : Fin 5) (c : Dev nD) (n : ℕ) : BI.Persistent (relSt (F := F) i c n) := by
  unfold relSt
  have : ∀ u, BI.Persistent (if u + cW i < cN i then released ES ((c, i, u + cW i) : Key) 1 else iprop(emp) : sProp 𝕄) :=
    fun u => by split <;> infer_instance
  infer_instance
instance relSt_storable (i : Fin 5) (c : Dev nD) (n : ℕ) : BI.Storable (upEmb : UEmb _ 𝕄) (relSt (F := F) i c n) := by
  unfold relSt
  have : ∀ u, BI.Storable (upEmb : UEmb _ 𝕄) (if u + cW i < cN i then released ES ((c, i, u + cW i) : Key) 1 else iprop(emp) : sProp 𝕄) :=
    fun u => by split <;> infer_instance
  infer_instance

/-- All the slots of a channel at its reader. -/
def slotsF (i : Fin 5) (c : Dev nD) : sProp 𝕄 := bigSep (Finset.range (cW i)) fun u => slotF c (dstV i u)
instance slotsF_storable (i : Fin 5) (c : Dev nD) : BI.Storable (upEmb : UEmb _ 𝕄) (slotsF (F := F) i c) := by
  unfold slotsF; infer_instance

/-- What the neighbour on an axis hands over at the entry handshake: its slots. -/
def barPay (c : Dev nD) (a : ℕ) : sProp 𝕄 := match a with
  | 0 => slotsF 0 (py c)
  | 1 => iprop(slotsF 1 (px c) ∗ slotsF 3 (px c))
  | 2 => iprop(slotsF 2 (pz c) ∗ slotsF 4 (pz c))
  | _ => iprop(emp)
instance barPay_storable (c : Dev nD) (a : ℕ) : BI.Storable (upEmb : UEmb _ 𝕄) (barPay (F := F) c a) := by
  unfold barPay; split <;> infer_instance

/-- What a unit hands to the owner of the cell it lands on. -/
def pay (c : Dev nD) (R : Role) (d : ℕ) : sProp 𝕄 := match R with
  | .snd i u => slotC m c (srcV i u) (val m i c u) (shr i)
  | .rcv i u => slotC m c (dstV i u) (val m i (nb i c) u) fullShare
  | .crd i => relSt i (nb i c) (d + 1)
  | .bar => barPay c d
  | .other => iprop(emp)
instance pay_storable (c : Dev nD) (R : Role) (d : ℕ) : BI.Storable (upEmb : UEmb _ 𝕄) (pay m c R d) := by
  unfold pay; split <;> infer_instance

/-- The duties of a cell. -/
def dut (R : Role) : Finset ℕ := match R with
  | .snd _ _ => {0} | .rcv _ _ => {0} | .crd i => Finset.range (cN i) | .bar => Finset.range 3 | .other => ∅
/-- The units of a duty. -/
def amt (R : Role) : ℕ := match R with
  | .snd _ _ => NB | .rcv _ _ => NB | _ => 1
theorem amt_pos (R : Role) : 0 < amt R := by cases R <;> first | exact NB_pos | exact Nat.one_pos

/-- One round per cell. -/
def rd : Rounds.Schedule (GSem nD τ sig) ℕ 𝕄 where
  duties g r := if r = 0 then dut (role g.2) else ∅
  amount g _ _ := amt (role g.2)
  payload g _ d := pay m g.1.1 (role g.2) d
  amount_pos g _ _ _ := amt_pos _

instance rd_storable (g : GSem nD τ sig) (r d : ℕ) : BI.Storable (upEmb : UEmb _ 𝕄) ((rd m).payload g r d) := by
  show BI.Storable upEmb (pay m g.1.1 (role g.2) d); infer_instance

theorem duties_later (g : GSem nD τ sig) : ∀ r, 1 ≤ r → (rd m).duties g r = ∅ :=
  fun r hr => if_neg (by omega)

/-! ## Who owes what, when -/

/-- The time a device sends chunk `u` on a channel. -/
def tS (i : Fin 5) (u : ℕ) : ℕ := match i with
  | 0 => 8 * (u + 1) | 1 => 8 * (u + 2) + 2 | 2 => 8 * (u + 2) + 3 | 3 => 8 * (2 * u + 3) + 6 | 4 => 8 * (2 * u + 4) + 6
/-- The time a device returns the credit of chunk `u` of a channel. -/
def tC (i : Fin 5) (u : ℕ) : ℕ := match i with
  | 0 => if u < 14 then 8 * (u + 4) + 1 else 146 + u
  | 1 => if u < 14 then 8 * (u + 5) + 4 else 148 + u
  | 2 => if u < 14 then 8 * (u + 5) + 5 else 150 + u
  | 3 => if u < 7 then 8 * (2 * u + 6) + 7 else 159 + u
  | 4 => if u < 7 then 8 * (2 * u + 7) + 7 else 160 + u

/-- A payment: a handshake signal (tag 0), a transfer (tag 1) or a credit (tag 2). -/
abbrev Pay : Type := Fin 3 × Fin 5 × Fin 16
def Pay.ok (p : Pay) : Bool := match p.1 with
  | 0 => decide (p.2.1.val < 3 ∧ p.2.2.val = 0)
  | _ => decide (p.2.2.val < cN p.2.1)
/-- Its time. -/
def Pay.tm (p : Pay) : ℕ := match p.1 with
  | 0 => p.2.1.val | 1 => tS p.2.1 p.2.2.val | 2 => tC p.2.1 p.2.2.val
/-- The semaphore it lands on. -/
def Pay.sm (p : Pay) : SemLoc sig := match p.1 with
  | 0 => .reg barS | 1 => .dma (rsS p.2.1 p.2.2.val) | 2 => .reg (crS p.2.1)
/-- Its units. -/
def Pay.am (p : Pay) : ℕ := match p.1 with
  | 0 => 1 | 1 => NB | 2 => 1
/-- What a device owes for it: at the neighbour, at the index after its time. -/
def Pay.tally (c : Dev nD) (p : Pay) : CellTallies nD τ sig ℕ :=
  tallyAt ((nb p.2.1 c : Thread nD τ), p.sm) (p.tm + 1) p.am

/-- The payment made at a time. -/
def Pay.at (t : ℕ) : Pay :=
  let f (n : ℕ) : Fin 16 := Fin.ofNat 16 n
  if t < 3 then (0, Fin.ofNat 5 t, 0) else
  if 160 ≤ t then
    (2, if t < 162 then (0, f (t - 146)) else if t < 164 then (1, f (t - 148)) else if t < 166 then (2, f (t - 150))
      else if t < 167 then (3, 7) else (4, 7)) else
  match t % 8 with
  | 0 => (1, 0, f (t / 8 - 1)) | 1 => (2, 0, f (t / 8 - 4)) | 2 => (1, 1, f (t / 8 - 2)) | 3 => (1, 2, f (t / 8 - 2))
  | 4 => (2, 1, f (t / 8 - 5)) | 5 => (2, 2, f (t / 8 - 5))
  | 6 => if t / 8 % 2 = 1 then (1, 3, f ((t / 8 - 3) / 2)) else (1, 4, f ((t / 8 - 4) / 2))
  | _ => if t / 8 % 2 = 0 then (2, 3, f ((t / 8 - 6) / 2)) else (2, 4, f ((t / 8 - 7) / 2))
theorem at_tm : ∀ p : Pay, p.ok = true → Pay.at p.tm = p := by decide +kernel
theorem tm_inj (p q : Pay) (hp : p.ok = true) (hq : q.ok = true) (h : p.tm = q.tm) : p = q := by
  rw [← at_tm p hp, ← at_tm q hq, h]
theorem tm_lt : ∀ p : Pay, p.ok = true → p.tm < 168 := by decide +kernel

/-- The payments still to make at time `t`. -/
def pays (t : ℕ) : Finset Pay := Finset.univ.filter fun p => p.ok = true ∧ t ≤ p.tm
/-- What a device owes at time `t`. -/
def O (c : Dev nD) (t : ℕ) : CellTallies nD τ sig ℕ := ∑ p ∈ pays t, p.tally c

theorem O_pay (c : Dev nD) (p : Pay) (h : p.ok = true) : O c p.tm = O c (p.tm + 1) + p.tally c := by
  have : pays p.tm = insert p (pays (p.tm + 1)) := by
    ext q
    simp only [pays, Finset.mem_filter, Finset.mem_univ, true_and, Finset.mem_insert]
    constructor
    · rintro ⟨hq, ht⟩
      rcases Nat.lt_or_eq_of_le ht with h' | h'
      · exact .inr ⟨hq, h'⟩
      · exact .inl (tm_inj q p hq h h'.symm)
    · rintro (rfl | ⟨hq, ht⟩)
      · exact ⟨h, le_rfl⟩
      · exact ⟨hq, by omega⟩
  unfold O
  rw [this, Finset.sum_insert (by simp [pays]), add_comm]

theorem O_skip (c : Dev nD) (a b : ℕ) (hab : a ≤ b) (h : ∀ p : Pay, p.ok = true → ¬(a ≤ p.tm ∧ p.tm < b)) : O c a = O c b := by
  have : pays a = pays b := by
    ext q
    simp only [pays, Finset.mem_filter, Finset.mem_univ, true_and]
    exact ⟨fun ⟨hq, ht⟩ => ⟨hq, by have := h q hq; omega⟩, fun ⟨hq, ht⟩ => ⟨hq, by omega⟩⟩
  unfold O; rw [this]

theorem O_end (c : Dev nD) : O c 168 = 0 := by
  unfold O
  refine Finset.sum_eq_zero fun p hp => ?_
  simp only [pays, Finset.mem_filter] at hp
  exact absurd (tm_lt p hp.2.1) (by omega)

theorem O_pos {c : Dev nD} {t : ℕ} {g : GSem nD τ sig} {ι : ℕ} (h : 0 < O c t g ι) :
    g.1.2 = .tc ∧ t < ι ∧ ι < 200 := by
  unfold O at h
  rw [Finset.sum_apply, Finsupp.finset_sum_apply] at h
  obtain ⟨p, hp, hpos⟩ := Finset.exists_ne_zero_of_sum_ne_zero (Nat.pos_iff_ne_zero.mp h)
  simp only [pays, Finset.mem_filter, Finset.mem_univ, true_and] at hp
  unfold Pay.tally at hpos
  rw [tallyAt_apply] at hpos
  by_cases hc : g = ((nb p.2.1 c : Thread nD τ), p.sm) ∧ ι = p.tm + 1
  · have := tm_lt p hp.1
    exact ⟨by rw [hc.1], by omega, by omega⟩
  · rw [if_neg hc] at hpos; exact absurd rfl hpos

/-- Levels are indices. -/
def L (g : GSem nD τ sig) : Finset ℕ := if g.1.2 = .tc then Finset.range 200 else ∅
def lv (_ : GSem nD τ sig) (ι : ℕ) : ℕ := ι
theorem L_of_ne (g : GSem nD τ sig) (h : g.1.2 ≠ .tc) : L g = ∅ := if_neg h

/-- The levels. -/
def levs : sProp 𝕄 := levAts L lv
instance levs_persistent : BI.Persistent (levs (F := F)) := by unfold levs; infer_instance

/-- A wait at indices no later than the present is below everything owed. -/
theorem mayOwe (c : Dev nD) (W : Waits sig ℕ) (t : ℕ) (ht : t < 200) (hW : ∀ p ∈ W, p.2 ≤ t) :
    (levs (F := F)) ⊢ MayOwe (c : Thread nD τ) W (O c t) :=
  MayOwe.of_levAts (L := L) (lev := lv)
    (fun p hp => by rw [L, if_pos rfl]; exact Finset.mem_range.mpr (lt_of_le_of_lt (hW p hp) ht))
    (fun g ι hg => by rw [L, if_pos (O_pos hg).1]; exact Finset.mem_range.mpr (O_pos hg).2.2)
    (fun g ι hg p hp => lt_of_le_of_lt (hW p hp) (O_pos hg).2.1)

/-- The ledger of a device at time `t`. -/
def OW (c : Dev nD) (t : ℕ) : sProp 𝕄 := iprop(∃ W, owes (c : Thread nD τ) (O c t) W)

/-! ## Cells, keys and the standing facts -/

abbrev sndC (i : Fin 5) (c : Dev nD) (u : ℕ) : GSem nD τ sig := ((c : Thread nD τ), .dma (ssS i u))
abbrev rcvC (i : Fin 5) (c : Dev nD) (u : ℕ) : GSem nD τ sig := ((c : Thread nD τ), .dma (rsS i u))
abbrev crdC (i : Fin 5) (c : Dev nD) : GSem nD τ sig := ((c : Thread nD τ), .reg (crS i))
abbrev barC (c : Dev nD) : GSem nD τ sig := ((c : Thread nD τ), .reg barS)

/-- The semaphores under the protocol. -/
def isProt (sm : SemLoc sig) : Bool := decide (role sm ≠ .other)
def prot : Finset (SemLoc sig) := Finset.univ.filter fun sm => isProt sm = true
/-- The cells under the protocol. -/
def cells : Finset (GSem nD τ sig) := (Finset.univ ×ˢ prot).map ⟨fun x : Dev nD × SemLoc sig => ((x.1 : Thread nD τ), x.2), fun a b h => by
  have h1 := congrArg (fun g : GSem nD τ sig => g.1.1) h
  have h2 := congrArg Prod.snd h
  exact Prod.ext h1 h2⟩
/-- The slots that are used more than once, by the chunk they are returned for. -/
def keys : Finset Key := Finset.univ ×ˢ Finset.univ ×ˢ Finset.range 16

def slotK (k : Key) : sProp 𝕄 := slotF k.1 (dstV k.2.1 k.2.2)
instance slotK_storable (k : Key) : BI.Storable (upEmb : UEmb _ 𝕄) (slotK (F := F) k) := by unfold slotK; infer_instance

/-- The facts every device holds throughout. -/
def recs : sProp 𝕄 :=
  iprop((bigSep cells fun g => iprop((∃ κ : ℕ, cellInv ER (rd m) κ g) ∗ reached ER g 0))
    ∗ (bigSep keys fun k => iprop(∃ κ : ℕ, slotInv ES κ k (slotK k)))
    ∗ levs (F := F))
instance recs_persistent : BI.Persistent (recs (F := F) m) := by unfold recs; infer_instance

theorem cell_mem (c : Dev nD) (sm : SemLoc sig) (h : role sm ≠ .other) : (((c : Thread nD τ), sm) : GSem nD τ sig) ∈ cells :=
  Finset.mem_map.mpr ⟨(c, sm), Finset.mem_product.mpr ⟨Finset.mem_univ _, Finset.mem_filter.mpr ⟨Finset.mem_univ _, decide_eq_true h⟩⟩, rfl⟩

theorem recs_cell (c : Dev nD) (sm : SemLoc sig) (h : role sm ≠ .other) :
    recs m ⊢ iprop((∃ κ : ℕ, cellInv ER (rd m) κ ((c : Thread nD τ), sm)) ∗ reached ER ((c : Thread nD τ), sm) 0) := by
  refine BIBase.Entails.trans ?_ (bigSep_elim (Φ := fun g => iprop((∃ κ : ℕ, cellInv ER (rd m) κ g) ∗ reached ER g 0)) (cell_mem c sm h))
  unfold recs
  iintro ⟨H, -, -⟩
  iexact H
theorem recs_key (k : Key) (h : k.2.2 < 16) : recs m ⊢ iprop(∃ κ : ℕ, slotInv ES κ k (slotK (F := F) k)) := by
  refine BIBase.Entails.trans ?_ (bigSep_elim (Φ := fun k => iprop(∃ κ : ℕ, slotInv ES κ k (slotK (F := F) k))) (Finset.mem_product.mpr ⟨Finset.mem_univ _, Finset.mem_product.mpr ⟨Finset.mem_univ _, Finset.mem_range.mpr h⟩⟩ : k ∈ keys))
  unfold recs
  iintro ⟨-, H, -⟩
  iexact H
theorem recs_lev : recs m ⊢ levs (F := F) := by
  unfold recs
  iintro ⟨-, -, H⟩
  iexact H

theorem recs_mayOwe (c : Dev nD) (W : Waits sig ℕ) (t : ℕ) (ht : t < 200) (hW : ∀ p ∈ W, p.2 ≤ t) :
    recs m ⊢ (MayOwe (c : Thread nD τ) W (O c t) : sProp 𝕄) :=
  BIBase.Entails.trans (recs_lev m) (mayOwe c W t ht hW)

end Cert.KernelIdeal.Ag
end
-- ==== Proof.KernelIdeal.Steps.lean ====
module

public import proofs.«01_k».proof.Proof.KernelIdeal.Protocol

/-! # The steps of the body

One rule for each kind of step: taking a credit, sending a chunk, waiting for a chunk sent or received, returning a
credit, a local copy, and the entry handshake. Each holds for every channel at once. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

abbrev 𝒱₀ : Variants := Variants.none
/-- The weakest precondition of a piece of the body at a device. -/
abbrev WPc (c : Dev nD) (K : BProg F) (Q : PUnit → sProp 𝕄) : sProp 𝕄 :=
  wp frame (wpE (defs₀ (F := F)) 𝒱₀ (c : Thread nD τ) none) Set.univ K Q

/-! ## The schedule at each kind of cell -/

theorem duties_at (g : GSem nD τ sig) {R : Role} (h : role g.2 = R) : (rd m).duties g 0 = dut R := by
  show (if (0 : ℕ) = 0 then dut (role g.2) else ∅) = _
  rw [h]; rfl
theorem amount_at (g : GSem nD τ sig) {R : Role} (h : role g.2 = R) (d : ℕ) : (rd m).amount g 0 d = amt R := by
  show amt (role g.2) = _; rw [h]
theorem payload_at (g : GSem nD τ sig) {R : Role} (h : role g.2 = R) (d : ℕ) : (rd m).payload g 0 d = pay m g.1.1 R d := by
  show pay m g.1.1 (role g.2) d = _; rw [h]
theorem expect_at (g : GSem nD τ sig) {R : Role} (h : role g.2 = R) : (rd m).expect g 0 = (dut R).card * amt R := by
  show ∑ d ∈ (rd m).duties g 0, (rd m).amount g 0 d = _
  rw [duties_at m g h, Finset.sum_congr rfl (fun d _ => amount_at m g h d), Finset.sum_const, smul_eq_mul]
theorem not_unitless (g : GSem nD τ sig) : ¬(rd m).unitless g := id
theorem payload_one (c : Dev nD) (sm : SemLoc sig) {R : Role} (h : role sm = R) (hd : dut R = {0}) :
    (bigSep ((rd m).duties ((c : Thread nD τ), sm) 0 \ ∅) fun d => (rd m).payload ((c : Thread nD τ), sm) 0 d) = pay m c R 0 := by
  rw [duties_at m ((c : Thread nD τ), sm) h, hd, Finset.sdiff_empty, bigSep_singleton, payload_at m ((c : Thread nD τ), sm) h]

/-! ## Waiting -/

/-- Credits at several indices of one cell are one token. -/
theorem creds_join (g : GSem nD τ sig) (f : ℕ → ℕ) : ∀ n : ℕ,
    (bigSep (Finset.range n) fun j => cred (tallyAt g (f j) 1) : sProp 𝕄)
      ⊢ iprop(∃ cr : ℕ →₀ ℕ, ⌜Util.total cr = n ∧ ∀ ι ∈ cr.support, ∃ j < n, ι = f j⌝ ∗ cred (tallyOn g cr))
  | 0 => by
    rw [Finset.range_zero, bigSep_empty]
    iintro H
    iexists (0 : ℕ →₀ ℕ)
    isplitr
    · ipureintro; exact ⟨rfl, fun ι h => absurd h (by simp)⟩
    · have : (tallyOn g (0 : ℕ →₀ ℕ) : CellTallies nD τ sig ℕ) = 0 := by unfold tallyOn; exact Pi.single_zero _
      rw [this, cred_zero]; iexact H
  | n + 1 => by
    have hs : (bigSep (Finset.range (n + 1)) fun j => cred (tallyAt g (f j) 1) : sProp 𝕄)
        ⊢ iprop(cred (tallyAt g (f n) 1) ∗ bigSep (Finset.range n) fun j => cred (tallyAt g (f j) 1)) :=
      Entails.of_eq (by rw [Finset.range_add_one, bigSep_insert Finset.notMem_range_self]; rfl)
    iintro H
    ihave H := hs $$ H
    icases H with ⟨Hn, H⟩
    ihave H := (creds_join g f n) $$ H
    icases H with ⟨%cr, %h, H⟩
    iexists (cr + Finsupp.single (f n) 1)
    isplitr
    · ipureintro
      refine ⟨by rw [Util.total_add, Util.total_single, h.1], fun ι hι => ?_⟩
      rcases Finset.mem_union.mp (Finsupp.support_add hι) with h' | h'
      · obtain ⟨j, hj, e⟩ := h.2 ι h'; exact ⟨j, by omega, e⟩
      · exact ⟨n, by omega, Finset.mem_singleton.mp (Finsupp.support_single_subset h')⟩
    · rw [tallyOn_add]
      iapply (cred_add _ _).2
      isplitl [H]; · iexact H
      iexact Hn

section Steps
variable (c : Dev nD) (K : BProg F) (Q : PUnit → sProp 𝕄) (t : ℕ)

/-- Waiting out the one unit of a transfer's cell, which closes it. -/
theorem wp_wt_close (c : Dev nD) (K : BProg F) (Q : PUnit → sProp 𝕄) (t : ℕ) {sp sp' : Space} (sem : DmaSem sig) (src : Memref sig .tc sp S256x1024 .f32) (dst : Memref sig .tc sp' S256x1024 .f32)
    (h₁ : src.view.WordExact) (h₂ : dst.view.WordExact) {R : Role} (hR : role (.dma sem) = R) (hR' : R ≠ .other)
    (hd : dut R = {0}) (ha : amt R = NB) (hN : dst.view.dmaCredit = NB) (ι : ℕ) (hι : ι ≤ t) (ht : t < 200) :
    iprop(recs m ∗ (cred (tallyAt ((c : Thread nD τ), .dma sem) ι NB) ∗ atPos ER ((c : Thread nD τ), .dma sem) 0 ∅ 0) ∗ OW c t
        ∗ ((pay m c R 0 ∗ semVal ((c : Thread nD τ), .dma sem) 0 ∗ OW c t) -∗ WPc c K Q))
      ⊢ WPc c (wt K sem src dst h₁ h₂) Q := by
  unfold OW wt
  iintro ⟨#Hr, ⟨Hcr, Hat⟩, ⟨%W, HO⟩, Hk⟩
  ihave Hc := (recs_cell m c (.dma sem) (by rw [hR]; exact hR')) $$ Hr
  icases Hc with ⟨⟨%κ, #Hc⟩, #Hre⟩
  iapply (Rounds.wp_wait_rest_token 𝒱₀ ER (rd m) (c : Thread nD τ) none (κ := κ)
    (sm := .dma sem) (k' := dst.view.dmaCredit) (w := .waitDma2 sem src dst h₁ h₂) (wpE_waitDma2_eq 𝒱₀ (c : Thread nD τ) none Set.univ) (Set.mem_univ _) ι (O := O c t) (W := W) (R := 0) (m := 0) (T := ∅)
    (by rw [hN, expect_at m _ hR, hd, ha]; simp)) $$ [Hcr Hat HO]
  · isplitr; · iexact Hc
    isplitl [Hcr]; · rw [hN]; iexact Hcr
    isplitl [HO]; · iexact HO
    isplitr
    · iapply (recs_mayOwe m c _ t ht (fun p hp => by rw [Finset.mem_singleton.mp hp]; exact hι)); iexact Hr
    iexact Hat
  iintro ⟨HO, Hat, -, Hpay⟩
  imod (cell_close ER (rd m) (κ := κ) (Set.mem_univ _) (not_unitless m _) (R := 1) (duties_later m _)) $$ [Hat] with Hv
  · isplitr; · iexact Hc
    iexact Hat
  iapply Hk
  isplitl [Hpay]
  · iapply (Entails.of_eq (payload_one m c (.dma sem) hR hd)) $$ Hpay
  isplitl [Hv]; · iexact Hv
  iexists _; iexact HO

/-- What a receive still needs: the credit promised by the sender and the cell's position. -/
def rWait (i : Fin 5) (c : Dev nD) (u : ℕ) : sProp 𝕄 :=
  iprop(cred (tallyAt (rcvC i c u) (tS i u + 1) NB) ∗ atPos ER (rcvC i c u) 0 ∅ 0)
/-- A transfer on its way. -/
def sFly (i : Fin 5) (c : Dev nD) (u : ℕ) : sProp 𝕄 :=
  iprop(cred (tallyAt (sndC i c u) 0 NB) ∗ atPos ER (sndC i c u) 0 ∅ 0)

theorem wp_rwait (c : Dev nD) (K : BProg F) (Q : PUnit → sProp 𝕄) (t : ℕ) {sp sp' : Space} (i : Fin 5) (u : ℕ) (hu : u < cN i) (src : Memref sig .tc sp S256x1024 .f32) (dst : Memref sig .tc sp' S256x1024 .f32)
    (h₁ : src.view.WordExact) (h₂ : dst.view.WordExact) (hN : dst.view.dmaCredit = NB) (hι : tS i u < t) (ht : t < 200) :
    iprop(recs m ∗ rWait i c u ∗ OW c t
        ∗ ((slotC m c (dstV i u) (val m i (nb i c) u) fullShare ∗ semVal (rcvC i c u) 0 ∗ OW c t) -∗ WPc c K Q))
      ⊢ WPc c (wt K (rsS i u) src dst h₁ h₂) Q :=
  wp_wt_close m c K Q t _ src dst h₁ h₂ (role_rs i u hu) (by simp) rfl rfl hN _ hι ht

theorem wp_swait (c : Dev nD) (K : BProg F) (Q : PUnit → sProp 𝕄) (t : ℕ) {sp sp' : Space} (i : Fin 5) (u : ℕ) (hu : u < cN i) (src : Memref sig .tc sp S256x1024 .f32) (dst : Memref sig .tc sp' S256x1024 .f32)
    (h₁ : src.view.WordExact) (h₂ : dst.view.WordExact) (hN : dst.view.dmaCredit = NB) (ht : t < 200) :
    iprop(recs m ∗ sFly i c u ∗ OW c t
        ∗ ((slotC m c (srcV i u) (val m i c u) (shr i) ∗ semVal (sndC i c u) 0 ∗ OW c t) -∗ WPc c K Q))
      ⊢ WPc c (wt K (ssS i u) src dst h₁ h₂) Q :=
  wp_wt_close m c K Q t _ src dst h₁ h₂ (role_ss i u hu) (by simp) rfl rfl hN _ (Nat.zero_le _) ht

/-! ## Credits -/

/-- The credits taken so far of a channel: at least `n` duties of the cell, with what they said. -/
def crSt (i : Fin 5) (c : Dev nD) (n : ℕ) : sProp 𝕄 :=
  iprop(∃ T : Finset ℕ, ⌜T ⊆ Finset.range (cN i) ∧ n ≤ T.card⌝ ∗ atPos ER (crdC i c) 0 T n
    ∗ bigSep T fun d => relSt i (nb i c) (d + 1))
/-- What the sender needs before it may write chunk `u`. -/
def wslot (i : Fin 5) (c : Dev nD) (u : ℕ) : sProp 𝕄 :=
  if u < cW i then slotF (nb i c) (dstV i u)
  else iprop(writeTok ES ((nb i c, i, u) : Key) 1 ∗ cred (tallyAt (crdC i c) (tC i (u - cW i) + 1) 1))

theorem exists_ge {T : Finset ℕ} {n : ℕ} (h : n + 1 ≤ T.card) : ∃ d ∈ T, n ≤ d := by
  by_contra hc
  push Not at hc
  have : T ⊆ Finset.range n := fun d hd => Finset.mem_range.mpr (hc d hd)
  have := Finset.card_le_card this
  rw [Finset.card_range] at this
  omega

theorem slot2_congr (a : Memref sig .tc .vmem S2x256x1024 .f32) {s s' : ℕ} (h : s % 2 = s' % 2) : slot2 a s = slot2 a s' := by
  have key : ∀ (x y : ℕ) (hx : ∀ b, (![x, 0, 0] : Fin 3 → ℕ) b + S1x256x1024.size b ≤ S2x256x1024.size b)
      (hy : ∀ b, (![y, 0, 0] : Fin 3 → ℕ) b + S1x256x1024.size b ≤ S2x256x1024.size b), x = y →
      (a.slice (Rect.unit (s := S2x256x1024) ![x, 0, 0] S1x256x1024.size hx) (fun _ => rfl)).squeeze S256x1024 squeezes_S1x256x1024_S256x1024
        = (a.slice (Rect.unit (s := S2x256x1024) ![y, 0, 0] S1x256x1024.size hy) (fun _ => rfl)).squeeze S256x1024 squeezes_S1x256x1024_S256x1024 := by
    rintro x y hx hy rfl; rfl
  exact key _ _ _ _ h
theorem slot4_congr (a : Memref sig .tc .vmem S4x256x1024 .f32) {s s' : ℕ} (h : s % 4 = s' % 4) : slot4 a s = slot4 a s' := by
  have key : ∀ (x y : ℕ) (hx : ∀ b, (![x, 0, 0] : Fin 3 → ℕ) b + S1x256x1024.size b ≤ S4x256x1024.size b)
      (hy : ∀ b, (![y, 0, 0] : Fin 3 → ℕ) b + S1x256x1024.size b ≤ S4x256x1024.size b), x = y →
      (a.slice (Rect.unit (s := S4x256x1024) ![x, 0, 0] S1x256x1024.size hx) (fun _ => rfl)).squeeze S256x1024 squeezes_S1x256x1024_S256x1024
        = (a.slice (Rect.unit (s := S4x256x1024) ![y, 0, 0] S1x256x1024.size hy) (fun _ => rfl)).squeeze S256x1024 squeezes_S1x256x1024_S256x1024 := by
    rintro x y hx hy rfl; rfl
  exact key _ _ _ _ h

theorem dstV_add (i : Fin 5) (u : ℕ) : dstV i (u + cW i) = dstV i u := by
  have h2 : ∀ a s, slot2 a (s + 2) = slot2 a s := fun a s => slot2_congr a (Nat.add_mod_right _ _)
  have h4 : ∀ a s, slot4 a (s + 4) = slot4 a s := fun a s => slot4_congr a (Nat.add_mod_right _ _)
  fin_cases i
  · exact h4 _ _
  · exact h4 _ _
  · exact h4 _ _
  · exact h2 _ _
  · exact h2 _ _

theorem relSt_get (i : Fin 5) (c : Dev nD) {n d : ℕ} (hd : n ≤ d) (hn : n + cW i < cN i) :
    relSt i c (d + 1) ⊢ (released ES ((c, i, n + cW i) : Key) 1 : sProp 𝕄) := by
  have h := bigSep_elim (M := 𝕄) (s := Finset.range (d + 1)) (i := n) (Finset.mem_range.mpr (by omega))
    (Φ := fun u => if u + cW i < cN i then released ES ((c, i, u + cW i) : Key) 1 else iprop(emp))
  rw [if_pos hn] at h
  exact h

theorem wp_take (c : Dev nD) (K : BProg F) (Q : PUnit → sProp 𝕄) (t : ℕ) (i : Fin 5) (u : ℕ) (hu : u < cN i)
    (hι : cW i ≤ u → tC i (u - cW i) < t) (ht : t < 200) :
    iprop(recs m ∗ crSt i c (u - cW i) ∗ wslot i c u ∗ OW c t
        ∗ ((crSt i c (u + 1 - cW i) ∗ slotF (nb i c) (dstV i u) ∗ OW c t) -∗ WPc c K Q))
      ⊢ WPc c (take (cW i) u (crS i) K) Q := by
  have hR : role (.reg (crS i)) = .crd i := role_cr i
  unfold take
  by_cases hw : cW i ≤ u
  · obtain ⟨n, rfl⟩ : ∃ n, u = n + cW i := ⟨u - cW i, by omega⟩
    rw [if_pos hw, show n + cW i + 1 - cW i = n + 1 by omega, Nat.add_sub_cancel]
    rw [Nat.add_sub_cancel] at hι
    unfold crSt wslot OW wtN
    rw [if_neg (by omega), Nat.add_sub_cancel]
    iintro ⟨#Hr, ⟨%T, %hT, Hat, #Hrel⟩, ⟨Hw, Hcr⟩, ⟨%W, HO⟩, Hk⟩
    ihave Hc := (recs_cell m c (.reg (crS i)) (by rw [hR]; simp)) $$ Hr
    icases Hc with ⟨⟨%κ, #Hc⟩, -⟩
    iapply (Rounds.wp_wait 𝒱₀ ER (rd m) (c : Thread nD τ) none (κ := κ)
      (sm := .reg (crS i)) (k' := 1) (wpE_semWait_eq 𝒱₀ (c : Thread nD τ) none Set.univ) (Set.mem_univ _) (O := O c t) (W := W) (R := 0) (m := n) (T := T)
      (cr := Finsupp.single (tC i n + 1) 1)
      {(.reg (crS i), tC i n + 1)} (by rw [Util.total_single]) (image_single_subset _ _ _)) $$ [Hcr Hat HO]
    · isplitr; · iexact Hc
      isplitl [Hcr]; · iexact Hcr
      isplitl [HO]; · iexact HO
      isplitr
      · iapply (recs_mayOwe m c _ t ht (fun p hp => by rw [Finset.mem_singleton.mp hp]; exact hι hw)); iexact Hr
      iexact Hat
    rw [duties_at m (crdC i c) hR, expect_at m (crdC i c) hR]
    rw [show (fun d => (rd m).payload (crdC i c) 0 d) = fun d => relSt i (nb i c) (d + 1) from
        funext fun d => payload_at m (crdC i c) hR d]
    iintro %S ⟨%hS, HO, Hat, #Hpay⟩
    have hS1 : S ⊆ Finset.range (cN i) := hS.2.1
    have hcard : n + 1 ≤ S.card := by
      have h3 := hS.2.2
      have : (dut (.crd i) \ S).card = cN i - S.card := by
        show (Finset.range (cN i) \ S).card = _
        rw [Finset.card_sdiff_of_subset hS1]; simp
      have h4 := Finset.card_le_card hS1
      rw [Finset.card_range] at h4
      simp only [dut, amt, Finset.card_range, mul_one] at h3 this
      omega
    obtain ⟨d, hd, hnd⟩ := exists_ge hcard
    ihave #Hall := (show iprop((bigSep T fun d => relSt i (nb i c) (d + 1)) ∗ bigSep (S \ T) fun d => relSt i (nb i c) (d + 1))
        ⊢ (bigSep S fun d => relSt i (nb i c) (d + 1) : sProp 𝕄) from by
      refine BIBase.Entails.trans (Entails.of_eq (bigSep_union Finset.disjoint_sdiff).symm) ?_
      rw [Finset.union_sdiff_of_subset hS.1]) $$ [Hrel Hpay]
    · isplitr; · iexact Hrel
      iexact Hpay
    ihave #Hrd := (BIBase.Entails.trans (bigSep_elim (M := 𝕄) (s := S) (Φ := fun d => relSt i (nb i c) (d + 1)) hd)
      (relSt_get i (nb i c) hnd hu)) $$ Hall
    ihave Hkey := (recs_key m ((nb i c, i, n + cW i) : Key) (lt_of_lt_of_le hu (cN_le i))) $$ Hr
    icases Hkey with ⟨%κ', #Hkey⟩
    imod (slot_take ES (ι := κ') (Es := Set.univ) (k := ((nb i c, i, n + cW i) : Key)) (S := slotK ((nb i c, i, n + cW i) : Key))
      (Set.mem_univ _) 1) $$ [Hw] with Hs
    · isplitr; · iexact Hkey
      isplitr; · iexact Hrd
      iexact Hw
    iapply Hk
    isplitl [Hat]
    · iexists S
      isplitr; · ipureintro; exact ⟨hS1, hcard⟩
      isplitl [Hat]; · iexact Hat
      iexact Hall
    isplitl [Hs]; · unfold slotK; iexact Hs
    iexists _; iexact HO
  · rw [if_neg hw, show u + 1 - cW i = u - cW i by omega]
    unfold wslot
    rw [if_pos (by omega)]
    iintro ⟨-, Hc, Hs, HO, Hk⟩
    iapply Hk
    isplitl [Hc]; · iexact Hc
    isplitl [Hs]; · iexact Hs
    iexact HO

/-! ## Sending -/

theorem O_pay' (c : Dev nD) (p : Pay) {a b : ℕ} (h : p.ok = true) (ha : p.tm = a) (hb : a + 1 = b) :
    O c a = O c b + tallyAt ((nb p.2.1 c : Thread nD τ), p.sm) b p.am := by
  subst ha hb
  exact O_pay c p h

/-- What sending chunk `u` uses besides the source and the slot. -/
def sPay (i : Fin 5) (c : Dev nD) (u : ℕ) : sProp 𝕄 :=
  iprop(dutyTok ER (sndC i c u) 0 0 ∗ dutyTok ER (rcvC i (nb i c) u) 0 0 ∗ atPos ER (sndC i c u) 0 ∅ 0)

theorem read_slotC {sp : Space} (v : Memref sig .tc sp S256x1024 .f32) (c : Dev nD) (x : Chunk F) :
    v.view.read (Elt F) (v.view.write (Elt F) (m (v.view.loc (c : Thread nD τ))) x Finset.univ) = x :=
  View.read_write_univ ..

/-- Contents written over any others are those written over the first ones. -/
theorem slotC_eq {sp : Space} (v : Memref sig .tc sp S256x1024 .f32) (c : Dev nD) (x : Chunk F) (q : PosShare TreeShare)
    (f : Buf (Elt F) (v.view.loc (c : Thread nD τ))) :
    (v.view.loc (c : Thread nD τ) ↦[v.view.set]{q} v.view.write (Elt F) f x Finset.univ : sProp 𝕄) = slotC m c v x q := by
  unfold slotC
  refine pointsTo_congr fun i hi => ?_
  obtain ⟨j, -, rfl⟩ := Finset.mem_map.mp hi
  rw [View.write_emb_of_mem _ _ (Finset.mem_univ _), View.write_emb_of_mem _ _ (Finset.mem_univ _)]

theorem wp_sendc (c : Dev nD) (K : BProg F) (Q : PUnit → sProp 𝕄) (i : Fin 5) (u : ℕ) (hu : u < cN i)
    (h₁ : (srcV i u).view.WordExact) (h₂ : (dstV i u).view.WordExact) (hN : (dstV i u).view.dmaCredit = NB) :
    iprop(recs m ∗ sPay i c u ∗ slotC m c (srcV i u) (val m i c u) (shr i) ∗ slotF (nb i c) (dstV i u) ∗ OW c (tS i u)
        ∗ ((sFly i c u ∗ OW c (tS i u + 1)) -∗ WPc c K Q))
      ⊢ WPc c (send K (srcV i u) (nb i c) (dstV i u) (ssS i u) (rsS i u) h₁ h₂) Q := by
  have hR₁ : role (.dma (ssS i u)) = .snd i u := role_ss i u hu
  have hR₂ : role (.dma (rsS i u)) = .rcv i u := role_rs i u hu
  have hO := O_pay' c ((1, i, ⟨u, lt_of_lt_of_le hu (cN_le i)⟩) : Pay) (decide_eq_true hu) (a := tS i u) rfl rfl
  unfold sPay sFly OW send slotF Release.slot
  iintro ⟨#Hr, ⟨Hd₁, Hd₂, Hat⟩, Hs, ⟨%fd, Hd⟩, ⟨%W, HO⟩, Hk⟩
  ihave Hc₁ := (recs_cell m c (.dma (ssS i u)) (by rw [hR₁]; simp)) $$ Hr
  icases Hc₁ with ⟨⟨%κ₁, #Hc₁⟩, #Hr₁⟩
  ihave Hc₂ := (recs_cell m (nb i c) (.dma (rsS i u)) (by rw [hR₂]; simp)) $$ Hr
  icases Hc₂ with ⟨⟨%κ₂, #Hc₂⟩, #Hr₂⟩
  iapply (Rounds.wp_send_pointsTo 𝒱₀ ER (rd m) (c : Thread nD τ) none (κ₁ := κ₁) (κ₂ := κ₂) (c' := (nb i c : Thread nD τ))
    (src := srcV i u) (dst := dstV i u) (sS := .dma (ssS i u)) (sem := .dma (rsS i u))
    (q := shr i) (fs := (srcV i u).view.write (Elt F) (m ((srcV i u).view.loc (c : Thread nD τ))) (val m i c u) Finset.univ) (fd := fd)
    (r₁ := 0) (r₂ := 0) (d₁ := 0) (d₂ := 0)
    (by rw [duties_at m (sndC i c u) hR₁]; exact Finset.mem_singleton_self _)
    (by rw [duties_at m (rcvC i (nb i c) u) hR₂]; exact Finset.mem_singleton_self _)
    (tS i u + 1) 0 NB hN
    (amount_at m (sndC i c u) hR₁ 0) (amount_at m (rcvC i (nb i c) u) hR₂ 0) (O c (tS i u + 1)) hO (W := W)
    (by rw [payload_at m (sndC i c u) hR₁]; exact Entails.of_eq rfl)
    (by
      rw [payload_at m (rcvC i (nb i c) u) hR₂, read_slotC]
      show _ ⊢ slotC m (nb i c) (dstV i u) (val m i (nb i (nb i c)) u) fullShare
      rw [nb_nb, slotC_eq])) $$ [Hs Hd HO Hd₁ Hd₂]
  · isplitr; · iexact Hc₁
    isplitr; · iexact Hc₂
    isplitl [Hs]; · unfold slotC; iexact Hs
    isplitl [Hd]; · iexact Hd
    isplitl [HO]; · iexact HO
    isplitl [Hd₁]; · iexact Hd₁
    isplitr; · iexact Hr₁
    isplitl [Hd₂]; · iexact Hd₂
    iexact Hr₂
  iintro ⟨Hcr, HO⟩
  iapply Hk
  isplitl [Hcr Hat]
  · isplitl [Hcr]; · iexact Hcr
    iexact Hat
  iexists _; iexact HO

/-! ## Returning a credit -/

/-- What returning the credit of chunk `u` uses besides the slot. -/
def giveTok (i : Fin 5) (c : Dev nD) (u : ℕ) : sProp 𝕄 :=
  iprop(dutyTok ER (crdC i (nb i c)) 0 u ∗ if u + cW i < cN i then readerAt ES ((c, i, u + cW i) : Key) 0 else iprop(emp))
/-- A slot that is not used again stays with its reader. -/
def keep (i : Fin 5) (c : Dev nD) (u : ℕ) : sProp 𝕄 :=
  if u + cW i < cN i then iprop(emp) else slotF c (dstV i u)

theorem relSt_succ (i : Fin 5) (c : Dev nD) (u : ℕ) :
    iprop(relSt i c u ∗ if u + cW i < cN i then released ES ((c, i, u + cW i) : Key) 1 else iprop(emp)) ⊢ (relSt i c (u + 1) : sProp 𝕄) := by
  unfold relSt
  refine BIBase.Entails.trans sep_comm (Entails.of_eq ?_)
  rw [Finset.range_add_one, bigSep_insert Finset.notMem_range_self]

theorem slotF_false {sp : Space} (c : Dev nD) (v : Memref sig .tc sp S256x1024 .f32) :
    iprop(slotF c v ∗ slotF c v) ⊢ (False : sProp 𝕄) :=
  slot_slot_false ⟨_, Finset.mem_map_of_mem v.view.emb (Finset.mem_univ (fun a => (⟨0, by revert a; decide⟩ : Fin (S256x1024.size a))))⟩

theorem wp_give (c : Dev nD) (K : BProg F) (Q : PUnit → sProp 𝕄) (i : Fin 5) (u : ℕ) (hu : u < cN i) :
    iprop(recs m ∗ relSt i c u ∗ giveTok i c u ∗ slotF c (dstV i u) ∗ OW c (tC i u)
        ∗ ((relSt i c (u + 1) ∗ keep i c u ∗ OW c (tC i u + 1)) -∗ WPc c K Q))
      ⊢ WPc c (sig1 K (nb i c) (crS i)) Q := by
  have hR : role (.reg (crS i)) = .crd i := role_cr i
  have hO := O_pay' c ((2, i, ⟨u, lt_of_lt_of_le hu (cN_le i)⟩) : Pay) (decide_eq_true hu) (a := tC i u) rfl rfl
  have hrel : iprop(recs m ∗ (if u + cW i < cN i then readerAt ES ((c, i, u + cW i) : Key) 0 else iprop(emp)) ∗ slotF c (dstV i u))
      ⊢ (|={Set.univ}=> iprop((if u + cW i < cN i then released ES ((c, i, u + cW i) : Key) 1 else iprop(emp)) ∗ keep i c u) : sProp 𝕄) := by
    unfold keep
    by_cases h : u + cW i < cN i
    · rw [if_pos h, if_pos h, if_pos h]
      iintro ⟨#Hr, Hrd, Hs⟩
      ihave Hkey := (recs_key m ((c, i, u + cW i) : Key) (lt_of_lt_of_le h (cN_le i))) $$ Hr
      icases Hkey with ⟨%κ', #Hkey⟩
      imod (slot_release ES (ι := κ') (Es := Set.univ) (k := ((c, i, u + cW i) : Key)) (S := slotK ((c, i, u + cW i) : Key))
        (Set.mem_univ _) (slotF_false _ _) 0) $$ [Hrd Hs] with ⟨-, H⟩
      · isplitr; · iexact Hkey
        isplitl [Hrd]; · iexact Hrd
        unfold slotK; rw [show dstV ((c, i, u + cW i) : Key).2.1 ((c, i, u + cW i) : Key).2.2 = dstV i u from dstV_add i u]; iexact Hs
      imodintro
      isplitl [H]; · iexact H
      itrivial
    · rw [if_neg h, if_neg h, if_neg h]
      iintro ⟨-, -, Hs⟩
      imodintro
      isplitr; · itrivial
      iexact Hs
  unfold giveTok OW sig1
  iintro ⟨#Hr, #Hrel, ⟨Hd, Hrd⟩, Hs, ⟨%W, HO⟩, Hk⟩
  ihave Hc := (recs_cell m (nb i c) (.reg (crS i)) (by rw [hR]; simp)) $$ Hr
  icases Hc with ⟨⟨%κ, #Hc⟩, #Hre⟩
  imod hrel $$ [Hrd Hs] with ⟨Hnew, Hkeep⟩
  · isplitr; · iexact Hr
    isplitl [Hrd] <;> iassumption
  ihave #Hrel' := (relSt_succ i c u) $$ [Hnew]
  · isplitr; · iexact Hrel
    iexact Hnew
  iapply (Rounds.wp_signal 𝒱₀ ER (rd m) (c : Thread nD τ) none (dst := (nb i c : Thread nD τ)) (sem := crS i) (κ := κ) (r := 0) (d := u) (k' := 1)
    (by rw [duties_at m (crdC i (nb i c)) hR]; exact Finset.mem_range.mpr hu) (amount_at m (crdC i (nb i c)) hR u)
    (tC i u + 1) (O c (tC i u + 1)) hO (W := W)) $$ [HO Hd]
  · isplitr; · iexact Hc
    isplitl [HO]; · iexact HO
    isplitl [Hd]; · iexact Hd
    isplitr
    · rw [payload_at m (crdC i (nb i c)) hR]
      iapply (Entails.of_eq (show relSt i c (u + 1) = pay m (nb i c) (.crd i) u from by
        show _ = relSt i (nb i (nb i c)) (u + 1); rw [nb_nb]))
      iexact Hrel'
    iexact Hre
  iintro HO
  iapply Hk
  isplitr; · iexact Hrel'
  isplitl [Hkeep]; · iexact Hkeep
  iexists _; iexact HO

/-! ## Local copies -/

/-- The argument, whole. -/
def xW (c : Dev nD) : sProp 𝕄 := (c : Thread nD τ).loc main_arg0 ↦{fullShare} m ((c : Thread nD τ).loc main_arg0)
/-- What a view reads in the first contents. -/
def rdOf (c : Dev nD) (v : HView) : Chunk F := v.view.read (Elt F) (m (v.view.loc (c : Thread nD τ)))
/-- A local copy on its way. -/
abbrev Fl (c : Dev nD) (sem : DmaSem sig) (D : sProp 𝕄) : sProp 𝕄 :=
  Transfers.Flight EC (c : Thread nD τ) (.dma sem) (0 : ℕ) NB D

theorem xW_take (c : Dev nD) (off : Fin 2 → ℕ) (h) :
    xW m c ⊢ iprop(((xAt off h).view.loc (c : Thread nD τ) ↦[(xAt off h).view.set]{fullShare} m ((xAt off h).view.loc (c : Thread nD τ)))
      ∗ (((xAt off h).view.loc (c : Thread nD τ) ↦[(xAt off h).view.set]{fullShare} m ((xAt off h).view.loc (c : Thread nD τ))) -∗ xW m c)) := by
  have h2 := pointsTo_split_subset (Ix := ℕ) (Name := ℕ) (U := UU) (Lvl := ℕ) (ℓ := (c : Thread nD τ).loc main_arg0) (q := fullShare)
    (f := m ((c : Thread nD τ).loc main_arg0)) (I := (xAt off h).view.set) (S := Finset.univ) (Finset.subset_univ _)
  unfold xW
  iintro H
  ihave H := h2.1 $$ H
  icases H with ⟨H1, H2⟩
  isplitl [H1]; · iexact H1
  iintro H1
  iapply h2.2
  isplitl [H1] <;> iassumption

theorem wp_ld (c : Dev nD) (K : BProg F) (Q : PUnit → sProp 𝕄) (t : ℕ) (ht : t < 200) (src : HView) (dst : VView) (sem : DmaSem sig)
    (h₁ : src.view.WordExact) (h₂ : dst.view.WordExact) (hN : dst.view.dmaCredit = NB)
    (hx : xW m c ⊢ iprop((src.view.loc (c : Thread nD τ) ↦[src.view.set]{fullShare} m (src.view.loc (c : Thread nD τ)))
      ∗ ((src.view.loc (c : Thread nD τ) ↦[src.view.set]{fullShare} m (src.view.loc (c : Thread nD τ))) -∗ xW m c))) :
    iprop(recs m ∗ xW m c ∗ slotF c dst ∗ semVal ((c : Thread nD τ), .dma sem) 0 ∗ OW c t
        ∗ ((xW m c ∗ slotC m c dst (rdOf m c src) fullShare ∗ semVal ((c : Thread nD τ), .dma sem) 0 ∗ OW c t) -∗ WPc c K Q))
      ⊢ WPc c (cpIn (wt K sem src dst h₁ h₂) src dst sem h₁ h₂) Q := by
  unfold slotF Release.slot OW cpIn wt
  iintro ⟨#Hr, Hx, ⟨%fd, Hd⟩, Hv, ⟨%W, HO⟩, Hk⟩
  ihave Hx := hx $$ Hx
  icases Hx with ⟨Hs, Hx⟩
  iapply (Transfers.wp_dmaLocal EC 𝒱₀ (c : Thread nD τ) none (src := src) (via := .same) (dst := dst) (sm := .dma sem)
    (q := fullShare) (fs := m (src.view.loc (c : Thread nD τ))) (fd := fd) (Sd := dst.view.set) 0 NB hN NB_pos subset_rfl) $$ [Hs Hd Hv]
  · isplitl [Hs]; · iexact Hs
    isplitl [Hd] <;> iassumption
  iintro Hf
  iapply (Transfers.wp_waitLocalO EC 𝒱₀ (c : Thread nD τ) none (0 : ℕ) (N := NB) hN (O := O c t) (W := W)) $$ [Hf HO]
  · isplitl [Hf]; · iexact Hf
    isplitl [HO]; · iexact HO
    iapply (recs_mayOwe m c _ t ht (fun p hp => by rw [Finset.mem_singleton.mp hp]; exact Nat.zero_le _)); iexact Hr
  iintro ⟨⟨Hd, Hs⟩, Hv, HO⟩
  iapply Hk
  isplitl [Hs Hx]
  · iapply Hx $$ Hs
  isplitl [Hd]
  · iapply (Entails.of_eq (slotC_eq m dst c (rdOf m c src) fullShare fd)); iexact Hd
  isplitl [Hv]; · iexact Hv
  iexists _; iexact HO

theorem wp_st (c : Dev nD) (K : BProg F) (Q : PUnit → sProp 𝕄) (src : VView) (dst : HView) (sem : DmaSem sig)
    (x : Chunk F) (q : PosShare TreeShare)
    (h₁ : src.view.WordExact) (h₂ : dst.view.WordExact) (hN : dst.view.dmaCredit = NB) :
    iprop(slotC m c src x q ∗ slotF c dst ∗ semVal ((c : Thread nD τ), .dma sem) 0
        ∗ (Fl c sem iprop(slotC m c dst x fullShare ∗ slotC m c src x q) -∗ WPc c K Q))
      ⊢ WPc c (cpOut K src dst sem h₁ h₂) Q := by
  unfold slotF Release.slot cpOut
  iintro ⟨Hs, ⟨%fd, Hd⟩, Hv, Hk⟩
  iapply (Transfers.wp_dmaLocal EC 𝒱₀ (c : Thread nD τ) none (src := src) (via := .same) (dst := dst) (sm := .dma sem)
    (q := q) (fs := src.view.write (Elt F) (m (src.view.loc (c : Thread nD τ))) x Finset.univ) (fd := fd) (Sd := dst.view.set) 0 NB hN NB_pos subset_rfl) $$ [Hs Hd Hv]
  · isplitl [Hs]; · unfold slotC; iexact Hs
    isplitl [Hd] <;> iassumption
  iintro Hf
  iapply Hk
  have e : (dst.view.loc (c : Thread nD τ) ↦[dst.view.set]{fullShare} dst.view.write (Elt F) fd
      ((ReadAs.same : ReadAs (Elt F) S256x1024 .f32 S256x1024 .f32).apply (src.view.read (Elt F)
        (src.view.write (Elt F) (m (src.view.loc (c : Thread nD τ))) x Finset.univ))) Finset.univ : sProp 𝕄)
      = slotC m c dst x fullShare :=
    (congrArg (fun y => (dst.view.loc (c : Thread nD τ) ↦[dst.view.set]{fullShare} dst.view.write (Elt F) fd y Finset.univ : sProp 𝕄))
      (read_slotC m src c x)).trans (slotC_eq m dst c x fullShare fd)
  rw [e]
  unfold slotC
  iexact Hf

theorem wp_lwait {sp sp' : Space} (c : Dev nD) (K : BProg F) (Q : PUnit → sProp 𝕄) (t : ℕ) (ht : t < 200)
    (src : Memref sig .tc sp S256x1024 .f32) (dst : Memref sig .tc sp' S256x1024 .f32) (sem : DmaSem sig) (D : sProp 𝕄)
    (h₁ : src.view.WordExact) (h₂ : dst.view.WordExact) (hN : dst.view.dmaCredit = NB) :
    iprop(recs m ∗ Fl c sem D ∗ OW c t ∗ ((D ∗ semVal ((c : Thread nD τ), .dma sem) 0 ∗ OW c t) -∗ WPc c K Q))
      ⊢ WPc c (wt K sem src dst h₁ h₂) Q := by
  unfold OW wt
  iintro ⟨#Hr, Hf, ⟨%W, HO⟩, Hk⟩
  iapply (Transfers.wp_waitLocalO EC 𝒱₀ (c : Thread nD τ) none (0 : ℕ) (N := NB) hN (O := O c t) (W := W)) $$ [Hf HO]
  · isplitl [Hf]; · iexact Hf
    isplitl [HO]; · iexact HO
    iapply (recs_mayOwe m c _ t ht (fun p hp => by rw [Finset.mem_singleton.mp hp]; exact Nat.zero_le _)); iexact Hr
  iintro ⟨Hd, Hv, HO⟩
  iapply Hk
  isplitl [Hd]; · iexact Hd
  isplitl [Hv]; · iexact Hv
  iexists _; iexact HO

/-! ## The last credits and the handshake -/

/-- A wait for the rest of a cell covered by credits at several indices, which closes it. -/
theorem wp_wtN_close (c : Dev nD) (K : BProg F) (Q : PUnit → sProp 𝕄) (t : ℕ) (ht : t < 200) (s : Sem sig) {R : Role} (hR : role (.reg s) = R)
    (hR' : R ≠ .other) (n : BitVec 32) (w : ℕ) (hn : wtN K s n = .op (.semWait s w) fun _ => K) (k : ℕ) (T : Finset ℕ) (f : ℕ → ℕ) (hf : ∀ j < w, f j ≤ t)
    (he : k + w = (dut R).card * amt R) :
    iprop(recs m ∗ (bigSep (Finset.range w) fun j => cred (tallyAt ((c : Thread nD τ), .reg s) (f j) 1))
        ∗ atPos ER ((c : Thread nD τ), .reg s) 0 T k ∗ OW c t
        ∗ (((bigSep (dut R \ T) fun d => pay m c R d) ∗ semVal ((c : Thread nD τ), .reg s) 0 ∗ OW c t) -∗ WPc c K Q))
      ⊢ WPc c (wtN K s n) Q := by
  rw [hn]
  unfold OW
  iintro ⟨#Hr, Hcr, Hat, ⟨%W, HO⟩, Hk⟩
  ihave Hcr := (creds_join _ f w) $$ Hcr
  icases Hcr with ⟨%cr, %hcr, Hcr⟩
  ihave Hc := (recs_cell m c (.reg s) (by rw [hR]; exact hR')) $$ Hr
  icases Hc with ⟨⟨%κ, #Hc⟩, #Hre⟩
  iapply (Rounds.wp_wait_rest 𝒱₀ ER (rd m) (c : Thread nD τ) none (κ := κ)
    (sm := .reg s) (k' := w) (wpE_semWait_eq 𝒱₀ (c : Thread nD τ) none Set.univ) (Set.mem_univ _) (cr := cr)
    (cr.support.image (SemLoc.reg s, ·)) (O := O c t) (W := W) (R := 0) (m := k) (T := T)
    (by rw [expect_at m ((c : Thread nD τ), .reg s) hR]; exact he) hcr.1 subset_rfl) $$ [Hcr Hat HO]
  · isplitr; · iexact Hc
    isplitl [Hcr]; · iexact Hcr
    isplitl [HO]; · iexact HO
    isplitr
    · iapply (recs_mayOwe m c _ t ht (fun p hp => by
        obtain ⟨ι, hι, rfl⟩ := Finset.mem_image.mp hp
        obtain ⟨j, hj, rfl⟩ := hcr.2 ι hι
        exact hf j hj))
      iexact Hr
    iexact Hat
  iintro ⟨HO, Hat, -, Hpay⟩
  imod (cell_close ER (rd m) (κ := κ) (Set.mem_univ _) (not_unitless m _) (R := 1) (duties_later m _)) $$ [Hat] with Hv
  · isplitr; · iexact Hc
    iexact Hat
  iapply Hk
  isplitl [Hpay]
  · iapply (Entails.of_eq (show (bigSep ((rd m).duties ((c : Thread nD τ), .reg s) 0 \ T) fun d => (rd m).payload ((c : Thread nD τ), .reg s) 0 d)
      = bigSep (dut R \ T) fun d => pay m c R d from by
      rw [duties_at m ((c : Thread nD τ), .reg s) hR]
      congr 1; funext d; exact payload_at m ((c : Thread nD τ), .reg s) hR d)) $$ Hpay
  isplitl [Hv]; · iexact Hv
  iexists _; iexact HO

/-- The credits not taken by the end. -/
def crLeft (i : Fin 5) (c : Dev nD) : sProp 𝕄 :=
  bigSep (Finset.range (cW i)) fun j => cred (tallyAt (crdC i c) (tC i (cN i - cW i + j) + 1) 1)

theorem wp_crfin (c : Dev nD) (K : BProg F) (Q : PUnit → sProp 𝕄) (i : Fin 5) (n : BitVec 32) (hn : wtN K (crS i) n = .op (.semWait (crS i) (cW i)) fun _ => K)
    (hf : ∀ j < cW i, tC i (cN i - cW i + j) + 1 ≤ 168) :
    iprop(recs m ∗ crLeft i c ∗ crSt i c (cN i - cW i) ∗ OW c 168
        ∗ ((semVal (crdC i c) 0 ∗ OW c 168) -∗ WPc c K Q))
      ⊢ WPc c (wtN K (crS i) n) Q := by
  unfold crLeft crSt
  iintro ⟨#Hr, Hcr, ⟨%T, %hT, Hat, -⟩, HO, Hk⟩
  iapply (wp_wtN_close m c K Q 168 (by omega) (crS i) (role_cr i) (by simp) n (cW i) hn (cN i - cW i) T _ hf
    (by simp only [dut, amt, Finset.card_range, mul_one]; have := cW_le i; omega))
  isplitr; · iexact Hr
  isplitl [Hcr]; · iexact Hcr
  isplitl [Hat]; · iexact Hat
  isplitl [HO]; · iexact HO
  iintro ⟨-, Hv, HO⟩
  iapply Hk
  isplitl [Hv] <;> iassumption

/-- A handshake signal to the neighbour on an axis. -/
theorem wp_bsig (c : Dev nD) (K : BProg F) (Q : PUnit → sProp 𝕄) (i : Fin 5) (hi : i.val < 3) :
    iprop(recs m ∗ dutyTok ER (barC (nb i c)) 0 i.val ∗ barPay (nb i c) i.val ∗ OW c i.val ∗ (OW c (i.val + 1) -∗ WPc c K Q))
      ⊢ WPc c (sig1 K (nb i c) barS) Q := by
  have hR : role (.reg barS) = .bar := role_bar
  have hO := O_pay' c ((0, i, 0) : Pay) (decide_eq_true ⟨hi, rfl⟩) (a := i.val) rfl rfl
  unfold OW sig1
  iintro ⟨#Hr, Hd, Hp, ⟨%W, HO⟩, Hk⟩
  ihave Hc := (recs_cell m (nb i c) (.reg barS) (by rw [hR]; simp)) $$ Hr
  icases Hc with ⟨⟨%κ, #Hc⟩, #Hre⟩
  iapply (Rounds.wp_signal 𝒱₀ ER (rd m) (c : Thread nD τ) none (dst := (nb i c : Thread nD τ)) (sem := barS) (κ := κ) (r := 0) (d := i.val) (k' := 1)
    (by rw [duties_at m (barC (nb i c)) hR]; exact Finset.mem_range.mpr hi) (amount_at m (barC (nb i c)) hR i.val)
    (i.val + 1) (O c (i.val + 1)) hO (W := W)) $$ [HO Hd Hp]
  · isplitr; · iexact Hc
    isplitl [HO]; · iexact HO
    isplitl [Hd]; · iexact Hd
    isplitl [Hp]
    · iapply (Entails.of_eq (show barPay (nb i c) i.val = (rd m).payload (barC (nb i c)) 0 i.val from (payload_at m (barC (nb i c)) hR i.val).symm)) $$ Hp
    iexact Hre
  iintro HO
  iapply Hk
  iexists _; iexact HO

/-- What a device needs for the handshake. -/
def barTok (c : Dev nD) : sProp 𝕄 :=
  iprop((dutyTok ER (barC (nb 0 c)) 0 0 ∗ dutyTok ER (barC (nb 1 c)) 0 1 ∗ dutyTok ER (barC (nb 2 c)) 0 2)
    ∗ (bigSep (Finset.range 3) fun j => cred (tallyAt (barC c) (j + 1) 1)) ∗ atPos ER (barC c) 0 ∅ 0)
/-- All the slots a device receives into. -/
def mySlots (c : Dev nD) : sProp 𝕄 := iprop(slotsF 0 c ∗ slotsF 1 c ∗ slotsF 2 c ∗ slotsF 3 c ∗ slotsF 4 c)
/-- All the slots a device sends to. -/
def nbSlots (c : Dev nD) : sProp 𝕄 :=
  iprop(slotsF 0 (nb 0 c) ∗ slotsF 1 (nb 1 c) ∗ slotsF 2 (nb 2 c) ∗ slotsF 3 (nb 3 c) ∗ slotsF 4 (nb 4 c))

theorem O_3_8 (c : Dev nD) : O c 3 = O c 8 := O_skip c 3 8 (by omega) (by decide +kernel)

theorem wp_bar (c : Dev nD) (K : BProg F) (Q : PUnit → sProp 𝕄) :
    iprop(recs m ∗ barTok c ∗ mySlots c ∗ OW c 0
        ∗ ((nbSlots c ∗ semVal (barC c) 0 ∗ OW c 8) -∗ WPc c K Q))
      ⊢ WPc c (barP c K) Q := by
  unfold barTok mySlots barP
  iintro ⟨#Hr, ⟨⟨Hd0, Hd1, Hd2⟩, Hcr, Hat⟩, ⟨H0, H1, H2, H3, H4⟩, HO, Hk⟩
  iapply (wp_bsig m c _ Q 0 (by decide))
  isplitr; · iexact Hr
  isplitl [Hd0]; · iexact Hd0
  isplitl [H0]
  · iapply (Entails.of_eq (show slotsF 0 c = barPay (nb 0 c) 0 from by
      show _ = slotsF 0 (nb 0 (nb 0 c)); rw [nb_nb])) $$ H0
  isplitl [HO]; · iexact HO
  iintro HO
  iapply (wp_bsig m c _ Q 1 (by decide))
  isplitr; · iexact Hr
  isplitl [Hd1]; · iexact Hd1
  isplitl [H1 H3]
  · iapply (Entails.of_eq (show iprop(slotsF 1 c ∗ slotsF 3 c) = barPay (nb 1 c) 1 from by
      show _ = iprop(slotsF 1 (nb 1 (nb 1 c)) ∗ slotsF 3 (nb 1 (nb 1 c))); rw [nb_nb]))
    isplitl [H1] <;> iassumption
  isplitl [HO]; · iexact HO
  iintro HO
  iapply (wp_bsig m c _ Q 2 (by decide))
  isplitr; · iexact Hr
  isplitl [Hd2]; · iexact Hd2
  isplitl [H2 H4]
  · iapply (Entails.of_eq (show iprop(slotsF 2 c ∗ slotsF 4 c) = barPay (nb 2 c) 2 from by
      show _ = iprop(slotsF 2 (nb 2 (nb 2 c)) ∗ slotsF 4 (nb 2 (nb 2 c))); rw [nb_nb]))
    isplitl [H2] <;> iassumption
  isplitl [HO]; · iexact HO
  iintro HO
  iapply (wp_wtN_close m c K Q 3 (by omega) barS role_bar (by simp) 3#32 3 rfl 0 ∅ (fun j => j + 1) (fun j hj => by omega) (by decide))
  isplitr; · iexact Hr
  isplitl [Hcr]; · iexact Hcr
  isplitl [Hat]; · iexact Hat
  isplitl [HO]; · iexact HO
  iintro ⟨Hp, Hv, HO⟩
  iapply Hk
  isplitl [Hp]
  · ihave Hp := (Entails.of_eq (show (bigSep (dut .bar \ ∅) fun d => pay m c .bar d)
      = iprop(slotsF 0 (nb 0 c) ∗ (slotsF 1 (nb 1 c) ∗ slotsF 3 (nb 3 c)) ∗ (slotsF 2 (nb 2 c) ∗ slotsF 4 (nb 4 c))) from by
      rw [Finset.sdiff_empty, show dut .bar = {0, 1, 2} from rfl,
        bigSep_insert (by decide), bigSep_insert (by decide), bigSep_singleton]; rfl)) $$ Hp
    unfold nbSlots
    icases Hp with ⟨H0, ⟨H1, H3⟩, ⟨H2, H4⟩⟩
    isplitl [H0]; · iexact H0
    isplitl [H1]; · iexact H1
    isplitl [H2]; · iexact H2
    isplitl [H3]; · iexact H3
    iexact H4
  isplitl [Hv]; · iexact Hv
  unfold OW
  rw [O_3_8]
  iexact HO

end Steps

end Cert.KernelIdeal.Ag
end
-- ==== Proof.KernelIdeal.ChainS.lean ====
module

public import proofs.«01_k».proof.Proof.KernelIdeal.Steps

/-! # The phases of the body

Each of the five running phases keeps what is in flight, what it still needs and what it has finished, chunk by
chunk. One rule per phase moves that record on by a chunk. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## Records -/

/-- What a phase holds at chunk `n` of `N`: two chunks in flight, what the coming chunks need, what the past ones left. -/
def chain (pre todo acc : ℕ → sProp 𝕄) (N n : ℕ) : sProp 𝕄 :=
  iprop(pre n ∗ pre (n + 1) ∗ bigSep (Finset.Ico n N) todo ∗ bigSep (Finset.range n) acc)

theorem chain_open (pre todo acc : ℕ → sProp 𝕄) {N n : ℕ} (h : n < N) :
    chain pre todo acc N n ⊢ iprop(pre n ∗ todo n ∗ ((pre (n + 2) ∗ acc n) -∗ chain pre todo acc N (n + 1))) := by
  have h1 : bigSep (Finset.Ico n N) todo = iprop(todo n ∗ bigSep (Finset.Ico (n + 1) N) todo) := by
    rw [show Finset.Ico n N = insert n (Finset.Ico (n + 1) N) by ext x; simp only [Finset.mem_Ico, Finset.mem_insert]; omega,
      bigSep_insert (by simp)]; rfl
  have h2 : bigSep (Finset.range (n + 1)) acc = iprop(acc n ∗ bigSep (Finset.range n) acc) := by
    rw [Finset.range_add_one, bigSep_insert Finset.notMem_range_self]; rfl
  unfold chain
  rw [h1, h2]
  iintro ⟨Hp, Hp1, ⟨Ht, Hts⟩, Ha⟩
  isplitl [Hp]; · iexact Hp
  isplitl [Ht]; · iexact Ht
  iintro ⟨Hp2, Ha'⟩
  isplitl [Hp1]; · iexact Hp1
  isplitl [Hp2]; · iexact Hp2
  isplitl [Hts]; · iexact Hts
  isplitl [Ha']; · iexact Ha'
  iexact Ha

theorem slotC_split {sp : Space} (c : Dev nD) (v : Memref sig .tc sp S256x1024 .f32) (x : Chunk F) (q : PosShare TreeShare) :
    slotC m c v x q ⊢ iprop(slotC m c v x q.left ∗ slotC m c v x q.right) :=
  (pointsTo_share (PosShare.mem_left_op_right q)).1
theorem slotC_join {sp : Space} (c : Dev nD) (v : Memref sig .tc sp S256x1024 .f32) (x : Chunk F) (q : PosShare TreeShare) :
    iprop(slotC m c v x q.left ∗ slotC m c v x q.right) ⊢ slotC m c v x q :=
  (pointsTo_share (PosShare.mem_left_op_right q)).2
theorem slotC_F {sp : Space} (c : Dev nD) (v : Memref sig .tc sp S256x1024 .f32) (x : Chunk F) :
    slotC m c v x fullShare ⊢ slotF c v := by
  unfold slotC slotF Release.slot
  iintro H; iexists _; iexact H

/-! ## Sending along y -/

/-- The send slot and the local semaphores of chunk `n`, at rest. -/
def freeS (c : Dev nD) (n : ℕ) : sProp 𝕄 :=
  iprop(slotF c (ysV n) ∗ semVal ((c : Thread nD τ), .dma (stS n)) 0 ∗ semVal ((c : Thread nD τ), .dma (ldS n)) 0)
/-- What chunk `n` finds: the slot at rest, or the transfer and the store of two chunks back. -/
def preS (c : Dev nD) : ℕ → sProp 𝕄
  | 0 => freeS c 0
  | 1 => freeS c 1
  | k + 2 => iprop(sFly 0 c k ∗ Fl c (stS k) iprop(slotC m c (osV c k) (val m 0 c k) fullShare ∗ slotC m c (ysV k) (val m 0 c k) fullShare.right)
      ∗ semVal ((c : Thread nD τ), .dma (ldS k)) 0)
/-- What is finished when chunk `n` starts. -/
def accS (c : Dev nD) : ℕ → sProp 𝕄
  | 0 => iprop(emp)
  | 1 => iprop(emp)
  | k + 2 => iprop(slotC m c (osV c k) (val m 0 c k) fullShare ∗ semVal (sndC 0 c k) 0)
/-- What chunk `n` needs. -/
def todoS (c : Dev nD) (n : ℕ) : sProp 𝕄 := iprop(wslot 0 c n ∗ sPay 0 c n ∗ slotF c (osV c n))

theorem wp_drainS (c : Dev nD) (K : BProg F) (Q : PUnit → sProp 𝕄) (t : ℕ) (ht : t < 200) : ∀ n : ℕ, n < 18 →
    iprop(recs m ∗ preS m c n ∗ OW c t ∗ ((freeS c n ∗ accS m c n ∗ OW c t) -∗ WPc c K Q)) ⊢ WPc c (drainS c n K) Q
  | 0, _ => by
    unfold drainS; rw [if_neg (by omega)]
    unfold preS
    iintro ⟨-, H, HO, Hk⟩
    iapply Hk
    isplitl [H]; · iexact H
    isplitr; · unfold accS; itrivial
    iexact HO
  | 1, _ => by
    unfold drainS; rw [if_neg (by omega)]
    unfold preS
    iintro ⟨-, H, HO, Hk⟩
    iapply Hk
    isplitl [H]; · iexact H
    isplitr; · unfold accS; itrivial
    iexact HO
  | k + 2, hk => by
    have e1 : ysV (k + 2) = ysV k := slot2_congr _ (Nat.add_mod_right k 2)
    have e2 : stS (k + 2) = stS k := by unfold stS; rw [Nat.add_mod_right]
    have e3 : ldS (k + 2) = ldS k := by unfold ldS; rw [Nat.add_mod_right]
    unfold drainS; rw [if_pos (by omega)]
    simp only [Nat.add_sub_cancel]
    unfold preS accS freeS
    rw [e1, e2, e3]
    iintro ⟨#Hr, ⟨Hf, Hfl, Hld⟩, HO, Hk⟩
    iapply (wp_swait m c _ Q t 0 k (by show k < 16; omega) (yrV k) (ysV k) (wx4 _ _) (wx2 _ _) rfl ht)
    isplitr; · iexact Hr
    isplitl [Hf]; · iexact Hf
    isplitl [HO]; · iexact HO
    iintro ⟨Hs1, Hv, HO⟩
    iapply (wp_lwait m c _ Q t ht (ysV k) (osV c k) (stS k) _ (wx2 _ _) (wxO _ _) rfl)
    isplitr; · iexact Hr
    isplitl [Hfl]; · iexact Hfl
    isplitl [HO]; · iexact HO
    iintro ⟨⟨Ho, Hs2⟩, Hst, HO⟩
    iapply Hk
    isplitl [Hs1 Hs2 Hst Hld]
    · isplitl [Hs1 Hs2]
      · iapply (slotC_F m c (ysV k) (val m 0 c k))
        iapply (slotC_join m c (ysV k) (val m 0 c k) fullShare)
        isplitl [Hs1]; · iexact Hs1
        iexact Hs2
      isplitl [Hst] <;> iassumption
    isplitl [Ho Hv]
    · isplitl [Ho]; · iexact Ho
      iexact Hv
    iexact HO

theorem wp_sendP (c : Dev nD) (K : BProg F) (Q : PUnit → sProp 𝕄) (n : ℕ) (hn : n < 16) :
    iprop(recs m ∗ xW m c ∗ chain (preS m c) (todoS c) (accS m c) 16 n ∗ crSt 0 c (n - 4) ∗ OW c (8 * (n + 1))
        ∗ ((xW m c ∗ chain (preS m c) (todoS c) (accS m c) 16 (n + 1) ∗ crSt 0 c (n + 1 - 4) ∗ OW c (8 * (n + 1) + 1)) -∗ WPc c K Q))
      ⊢ WPc c (sendP c n K) Q := by
  unfold sendP
  iintro ⟨#Hr, Hx, Hch, Hcr, HO, Hk⟩
  ihave Hch := (chain_open _ _ _ hn) $$ Hch
  icases Hch with ⟨Hpre, Htodo, Hch⟩
  unfold todoS
  icases Htodo with ⟨Hw, Hpay, Hout⟩
  iapply (wp_drainS m c _ Q (8 * (n + 1)) (by omega) n (by omega))
  isplitr; · iexact Hr
  isplitl [Hpre]; · iexact Hpre
  isplitl [HO]; · iexact HO
  unfold freeS
  iintro ⟨⟨Hs, Hst, Hld⟩, Hacc, HO⟩
  iapply (wp_take m c _ Q (8 * (n + 1)) 0 n hn
    (fun h => by
      have h' : 4 ≤ n := h
      show (if n - 4 < 14 then 8 * (n - 4 + 4) + 1 else 146 + (n - 4)) < _
      rw [if_pos (by omega)]; omega) (by omega))
  isplitr; · iexact Hr
  isplitl [Hcr]; · iexact Hcr
  isplitl [Hw]; · iexact Hw
  isplitl [HO]; · iexact HO
  iintro ⟨Hcr, Hd, HO⟩
  iapply (wp_ld m c _ Q (8 * (n + 1)) (by omega) (xsV c n) (ysV n) (ldS n) _ _ rfl (xW_take m c _ _))
  isplitr; · iexact Hr
  isplitl [Hx]; · iexact Hx
  isplitl [Hs]; · iexact Hs
  isplitl [Hld]; · iexact Hld
  isplitl [HO]; · iexact HO
  iintro ⟨Hx, Hs, Hld, HO⟩
  ihave Hs := (slotC_split m c (ysV n) (val m 0 c n) fullShare) $$ [Hs]
  · iexact Hs
  icases Hs with ⟨Hs1, Hs2⟩
  iapply (wp_sendc m c _ Q 0 n hn _ _ rfl)
  isplitr; · iexact Hr
  isplitl [Hpay]; · iexact Hpay
  isplitl [Hs1]; · iexact Hs1
  isplitl [Hd]; · iexact Hd
  isplitl [HO]; · iexact HO
  iintro ⟨Hfly, HO⟩
  iapply (wp_st m c _ Q (ysV n) (osV c n) (stS n) (val m 0 c n) fullShare.right _ _ rfl)
  isplitl [Hs2]; · iexact Hs2
  isplitl [Hout]; · iexact Hout
  isplitl [Hst]; · iexact Hst
  iintro Hfl
  iapply Hk
  isplitl [Hx]; · iexact Hx
  isplitl [Hch Hfly Hfl Hld Hacc]
  · iapply Hch
    isplitl [Hfly Hfl Hld]
    · unfold preS
      isplitl [Hfly]; · iexact Hfly
      isplitl [Hfl] <;> iassumption
    iexact Hacc
  isplitl [Hcr]; · iexact Hcr
  iexact HO

end Cert.KernelIdeal.Ag
end
-- ==== Proof.KernelIdeal.ChainR.lean ====
module

public import proofs.«01_k».proof.Proof.KernelIdeal.ChainS

/-! # Receiving along y

A chunk received along y is stored and forwarded along x and along z out of the same slot. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-- What chunk `n` finds: the store semaphore at rest, or the two transfers and the store of two chunks back. -/
def preR (c : Dev nD) : ℕ → sProp 𝕄
  | 0 => semVal ((c : Thread nD τ), .dma (dryS 0)) 0
  | 1 => semVal ((c : Thread nD τ), .dma (dryS 1)) 0
  | k + 2 => iprop(sFly 1 c k ∗ sFly 2 c k
      ∗ Fl c (dryS k) iprop(slotC m c (oyV c k) (val m 0 (nb 0 c) k) fullShare ∗ slotC m c (yrV k) (val m 0 (nb 0 c) k) fullShare.left)
      ∗ giveTok 0 c k)
/-- What is finished when chunk `n` is waited for. -/
def drnR (c : Dev nD) : ℕ → sProp 𝕄
  | 0 => iprop(emp)
  | 1 => iprop(emp)
  | k + 2 => iprop(slotC m c (oyV c k) (val m 0 (nb 0 c) k) fullShare ∗ semVal (sndC 1 c k) 0 ∗ semVal (sndC 2 c k) 0 ∗ keep 0 c k)
def accR (c : Dev nD) (n : ℕ) : sProp 𝕄 := iprop(semVal (rcvC 0 c n) 0 ∗ drnR m c n)
/-- What chunk `n` needs. -/
def todoR (c : Dev nD) (n : ℕ) : sProp 𝕄 :=
  iprop(rWait 0 c n ∗ giveTok 0 c n ∗ slotF c (oyV c n) ∗ (wslot 1 c n ∗ sPay 1 c n) ∗ (wslot 2 c n ∗ sPay 2 c n))

theorem three_join {sp : Space} (c : Dev nD) (v : Memref sig .tc sp S256x1024 .f32) (x : Chunk F) :
    iprop(slotC m c v x fullShare.left ∗ slotC m c v x fullShare.right.left ∗ slotC m c v x fullShare.right.right) ⊢ slotF c v := by
  iintro ⟨H1, H2, H3⟩
  iapply (slotC_F m c v x)
  iapply (slotC_join m c v x fullShare)
  isplitl [H1]; · iexact H1
  iapply (slotC_join m c v x fullShare.right)
  isplitl [H2] <;> iassumption

/-- Waiting out the chunk two back, with its credit due at the present time `t`. -/
theorem wp_drainR2 (c : Dev nD) (K : BProg F) (Q : PUnit → sProp 𝕄) (t : ℕ) (ht : t < 200) (k : ℕ) (hk : k < 16) (htC : tC 0 k = t) :
    iprop(recs m ∗ preR m c (k + 2) ∗ relSt 0 c k ∗ OW c t
        ∗ ((semVal ((c : Thread nD τ), .dma (dryS k)) 0 ∗ drnR m c (k + 2) ∗ relSt 0 c (k + 1) ∗ OW c (t + 1)) -∗ WPc c K Q))
      ⊢ WPc c (drainR c (k + 2) K) Q := by
  subst htC
  unfold drainR; rw [if_pos (by omega)]
  simp only [Nat.add_sub_cancel]
  unfold preR drnR
  iintro ⟨#Hr, ⟨Hf1, Hf2, Hfl, Hg⟩, Hrel, HO, Hk⟩
  iapply (wp_swait m c _ Q (tC 0 k) 1 k hk (xrV k) (yrV k) (wx4 _ _) (wx4 _ _) rfl ht)
  isplitr; · iexact Hr
  isplitl [Hf1]; · iexact Hf1
  isplitl [HO]; · iexact HO
  iintro ⟨Hs1, Hv1, HO⟩
  iapply (wp_swait m c _ Q (tC 0 k) 2 k hk (zrV k) (yrV k) (wx4 _ _) (wx4 _ _) rfl ht)
  isplitr; · iexact Hr
  isplitl [Hf2]; · iexact Hf2
  isplitl [HO]; · iexact HO
  iintro ⟨Hs2, Hv2, HO⟩
  iapply (wp_lwait m c _ Q (tC 0 k) ht (yrV k) (oyV c k) (dryS k) _ (wx4 _ _) (wxO _ _) rfl)
  isplitr; · iexact Hr
  isplitl [Hfl]; · iexact Hfl
  isplitl [HO]; · iexact HO
  iintro ⟨⟨Ho, Hs3⟩, Hst, HO⟩
  iapply (wp_give m c _ Q 0 k hk)
  isplitr; · iexact Hr
  isplitl [Hrel]; · iexact Hrel
  isplitl [Hg]; · iexact Hg
  isplitl [Hs1 Hs2 Hs3]
  · iapply (three_join m c (yrV k) (val m 0 (nb 0 c) k))
    isplitl [Hs3]; · iexact Hs3
    isplitl [Hs1]; · iexact Hs1
    iexact Hs2
  isplitl [HO]; · iexact HO
  iintro ⟨Hrel, Hkeep, HO⟩
  iapply Hk
  isplitl [Hst]; · iexact Hst
  isplitl [Ho Hv1 Hv2 Hkeep]
  · isplitl [Ho]; · iexact Ho
    isplitl [Hv1]; · iexact Hv1
    isplitl [Hv2] <;> iassumption
  isplitl [Hrel] <;> iassumption

theorem wp_drainR (c : Dev nD) (K : BProg F) (Q : PUnit → sProp 𝕄) : ∀ n : ℕ, n < 16 →
    iprop(recs m ∗ preR m c n ∗ relSt 0 c (n - 2) ∗ OW c (8 * (n + 2) + 1)
        ∗ ((semVal ((c : Thread nD τ), .dma (dryS n)) 0 ∗ drnR m c n ∗ relSt 0 c (n + 1 - 2) ∗ OW c (8 * (n + 2) + 2)) -∗ WPc c K Q))
      ⊢ WPc c (drainR c n K) Q
  | 0, _ => by
    unfold drainR; rw [if_neg (by omega)]
    unfold preR drnR OW
    rw [show O c (8 * (0 + 2) + 1) = O c (8 * (0 + 2) + 2) from O_skip c _ _ (by omega) (by decide +kernel)]
    iintro ⟨-, H, Hrel, HO, Hk⟩
    iapply Hk
    isplitl [H]; · iexact H
    isplitr; · itrivial
    isplitl [Hrel] <;> iassumption
  | 1, _ => by
    unfold drainR; rw [if_neg (by omega)]
    unfold preR drnR OW
    rw [show O c (8 * (1 + 2) + 1) = O c (8 * (1 + 2) + 2) from O_skip c _ _ (by omega) (by decide +kernel)]
    iintro ⟨-, H, Hrel, HO, Hk⟩
    iapply Hk
    isplitl [H]; · iexact H
    isplitr; · itrivial
    isplitl [Hrel] <;> iassumption
  | k + 2, hk => by
    have e2 : dryS (k + 2) = dryS k := by unfold dryS; rw [Nat.add_mod_right]
    rw [e2, show k + 2 + 1 - 2 = k + 1 by omega, show k + 2 - 2 = k from rfl]
    exact wp_drainR2 m c K Q (8 * (k + 2 + 2) + 1) (by omega) k (by omega)
      (by show (if k < 14 then 8 * (k + 4) + 1 else 146 + k) = _; rw [if_pos (by omega)])

theorem wp_yrecvP (c : Dev nD) (K : BProg F) (Q : PUnit → sProp 𝕄) (n : ℕ) (hn : n < 16) :
    iprop(recs m ∗ chain (preR m c) (todoR c) (accR m c) 16 n ∗ (relSt 0 c (n - 2) ∗ crSt 1 c (n - 4) ∗ crSt 2 c (n - 4)) ∗ OW c (8 * (n + 2) + 1)
        ∗ ((chain (preR m c) (todoR c) (accR m c) 16 (n + 1) ∗ (relSt 0 c (n + 1 - 2) ∗ crSt 1 c (n + 1 - 4) ∗ crSt 2 c (n + 1 - 4))
            ∗ OW c (8 * (n + 2) + 4)) -∗ WPc c K Q))
      ⊢ WPc c (yrecvP c n K) Q := by
  unfold yrecvP
  iintro ⟨#Hr, Hch, ⟨Hrel, Hcr1, Hcr2⟩, HO, Hk⟩
  ihave Hch := (chain_open _ _ _ hn) $$ Hch
  icases Hch with ⟨Hpre, Htodo, Hch⟩
  unfold todoR
  icases Htodo with ⟨Hrw, Hg, Hout, ⟨Hw1, Hp1⟩, ⟨Hw2, Hp2⟩⟩
  iapply (wp_drainR m c _ Q n hn)
  isplitr; · iexact Hr
  isplitl [Hpre]; · iexact Hpre
  isplitl [Hrel]; · iexact Hrel
  isplitl [HO]; · iexact HO
  iintro ⟨Hst, Hdrn, Hrel, HO⟩
  iapply (wp_rwait m c _ Q (8 * (n + 2) + 2) 0 n hn (ysV n) (yrV n) (wx2 _ _) (wx4 _ _) rfl
    (by show 8 * (n + 1) < _; omega) (by omega))
  isplitr; · iexact Hr
  isplitl [Hrw]; · iexact Hrw
  isplitl [HO]; · iexact HO
  iintro ⟨Hs, Hv, HO⟩
  ihave Hs := (slotC_split m c (yrV n) (val m 0 (nb 0 c) n) fullShare) $$ [Hs]
  · iexact Hs
  icases Hs with ⟨Hs1, Hs2⟩
  ihave Hs2 := (slotC_split m c (yrV n) (val m 0 (nb 0 c) n) fullShare.right) $$ Hs2
  icases Hs2 with ⟨Hs2, Hs3⟩
  iapply (wp_st m c _ Q (yrV n) (oyV c n) (dryS n) (val m 0 (nb 0 c) n) fullShare.left _ _ rfl)
  isplitl [Hs1]; · iexact Hs1
  isplitl [Hout]; · iexact Hout
  isplitl [Hst]; · iexact Hst
  iintro Hfl
  iapply (wp_take m c _ Q (8 * (n + 2) + 2) 1 n hn
    (fun h => by
      have h' : 4 ≤ n := h
      show (if n - 4 < 14 then 8 * (n - 4 + 5) + 4 else 148 + (n - 4)) < _
      rw [if_pos (by omega)]; omega) (by omega))
  isplitr; · iexact Hr
  isplitl [Hcr1]; · iexact Hcr1
  isplitl [Hw1]; · iexact Hw1
  isplitl [HO]; · iexact HO
  iintro ⟨Hcr1, Hd, HO⟩
  iapply (wp_sendc m c _ Q 1 n hn _ _ rfl)
  isplitr; · iexact Hr
  isplitl [Hp1]; · iexact Hp1
  isplitl [Hs2]; · iexact Hs2
  isplitl [Hd]; · iexact Hd
  isplitl [HO]; · iexact HO
  iintro ⟨Hf1, HO⟩
  iapply (wp_take m c _ Q (8 * (n + 2) + 3) 2 n hn
    (fun h => by
      have h' : 4 ≤ n := h
      show (if n - 4 < 14 then 8 * (n - 4 + 5) + 5 else 150 + (n - 4)) < _
      rw [if_pos (by omega)]; omega) (by omega))
  isplitr; · iexact Hr
  isplitl [Hcr2]; · iexact Hcr2
  isplitl [Hw2]; · iexact Hw2
  isplitl [HO]; · iexact HO
  iintro ⟨Hcr2, Hd, HO⟩
  iapply (wp_sendc m c _ Q 2 n hn _ _ rfl)
  isplitr; · iexact Hr
  isplitl [Hp2]; · iexact Hp2
  isplitl [Hs3]; · iexact Hs3
  isplitl [Hd]; · iexact Hd
  isplitl [HO]; · iexact HO
  iintro ⟨Hf2, HO⟩
  iapply Hk
  isplitl [Hch Hf1 Hf2 Hfl Hg Hv Hdrn]
  · iapply Hch
    isplitl [Hf1 Hf2 Hfl Hg]
    · unfold preR
      isplitl [Hf1]; · iexact Hf1
      isplitl [Hf2]; · iexact Hf2
      isplitl [Hfl] <;> iassumption
    unfold accR
    isplitl [Hv]; · iexact Hv
    iexact Hdrn
  isplitl [Hrel Hcr1 Hcr2]
  · isplitl [Hrel]; · iexact Hrel
    isplitl [Hcr1]; · iexact Hcr1
    iexact Hcr2
  iexact HO

end Cert.KernelIdeal.Ag
end
-- ==== Proof.KernelIdeal.ChainX.lean ====
module

public import proofs.«01_k».proof.Proof.KernelIdeal.ChainS

/-! # Receiving along x and along z

A chunk received along x and one received along z are stored; an even chunk goes on along x out of the z slot, an odd
one along z out of the x slot. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-- The second hop of chunk `k` on its way, and the share of the other slot that it does not use. -/
def hopF (c : Dev nD) (k : ℕ) : sProp 𝕄 :=
  if k % 2 = 0 then iprop(sFly 3 c (k / 2) ∗ slotC m c (xrV k) (val m 1 (nb 1 c) k) fullShare.right)
  else iprop(sFly 4 c (k / 2) ∗ slotC m c (zrV k) (val m 2 (nb 2 c) k) fullShare.right)
/-- The second hop's send cell, closed. -/
def hopV (c : Dev nD) (k : ℕ) : sProp 𝕄 := if k % 2 = 0 then semVal (sndC 3 c (k / 2)) 0 else semVal (sndC 4 c (k / 2)) 0
/-- What the second hop of chunk `k` needs. -/
def hopT (c : Dev nD) (k : ℕ) : sProp 𝕄 :=
  if k % 2 = 0 then iprop(wslot 3 c (k / 2) ∗ sPay 3 c (k / 2)) else iprop(wslot 4 c (k / 2) ∗ sPay 4 c (k / 2))

def freeX (c : Dev nD) (n : ℕ) : sProp 𝕄 :=
  iprop(semVal ((c : Thread nD τ), .dma (dx1S n)) 0 ∗ semVal ((c : Thread nD τ), .dma (dz1S n)) 0)
/-- The stores of chunk `k` on their way. -/
abbrev flX (c : Dev nD) (k : ℕ) : sProp 𝕄 :=
  Fl c (dx1S k) iprop(slotC m c (oxV c k) (val m 1 (nb 1 c) k) fullShare ∗ slotC m c (xrV k) (val m 1 (nb 1 c) k) fullShare.left)
abbrev flZ (c : Dev nD) (k : ℕ) : sProp 𝕄 :=
  Fl c (dz1S k) iprop(slotC m c (ozV c k) (val m 2 (nb 2 c) k) fullShare ∗ slotC m c (zrV k) (val m 2 (nb 2 c) k) fullShare.left)
/-- What chunk `n` finds. -/
def preX (c : Dev nD) : ℕ → sProp 𝕄
  | 0 => freeX c 0
  | 1 => freeX c 1
  | k + 2 => iprop(flX m c k ∗ flZ m c k ∗ giveTok 1 c k ∗ giveTok 2 c k ∗ hopF m c k)
/-- What is finished when chunk `n` is waited for. -/
def drnX (c : Dev nD) : ℕ → sProp 𝕄
  | 0 => iprop(emp)
  | 1 => iprop(emp)
  | k + 2 => iprop(slotC m c (oxV c k) (val m 1 (nb 1 c) k) fullShare ∗ slotC m c (ozV c k) (val m 2 (nb 2 c) k) fullShare
      ∗ hopV c k ∗ keep 1 c k ∗ keep 2 c k)
def accX (c : Dev nD) (n : ℕ) : sProp 𝕄 := iprop(semVal (rcvC 1 c n) 0 ∗ semVal (rcvC 2 c n) 0 ∗ drnX m c n)
/-- What chunk `n` needs. -/
def todoX (c : Dev nD) (n : ℕ) : sProp 𝕄 :=
  iprop(rWait 1 c n ∗ rWait 2 c n ∗ giveTok 1 c n ∗ giveTok 2 c n ∗ slotF c (oxV c n) ∗ slotF c (ozV c n) ∗ hopT c n)

/-- Waiting out the second hop of an odd chunk: both shares of the x slot are back. -/
theorem wp_waitZ2 (c : Dev nD) (K : BProg F) (Q : PUnit → sProp 𝕄) (t : ℕ) (ht : t < 200) (k : ℕ) (hk : k < 16) :
    iprop(recs m ∗ hopF m c k ∗ slotC m c (xrV k) (val m 1 (nb 1 c) k) fullShare.left ∗ OW c t
        ∗ ((slotF c (xrV k) ∗ (if k % 2 = 0 then sFly 3 c (k / 2)
              else iprop(slotC m c (zrV k) (val m 2 (nb 2 c) k) fullShare.right ∗ hopV c k)) ∗ OW c t) -∗ WPc c K Q))
      ⊢ WPc c (waitZ2 k K) Q := by
  unfold hopF hopV
  rcases Nat.mod_two_eq_zero_or_one k with h | h
  · have hp : waitZ2 k K = K := by unfold waitZ2; rw [if_neg (by omega)]
    rw [hp, if_pos h, if_pos h]
    iintro ⟨-, ⟨Hf, Hs2⟩, Hs1, HO, Hk⟩
    iapply Hk
    isplitl [Hs1 Hs2]
    · iapply (slotC_F m c (xrV k) (val m 1 (nb 1 c) k))
      iapply (slotC_join m c (xrV k) (val m 1 (nb 1 c) k) fullShare)
      isplitl [Hs1] <;> iassumption
    isplitl [Hf] <;> iassumption
  · obtain ⟨u, rfl⟩ : ∃ u, k = 2 * u + 1 := ⟨k / 2, by omega⟩
    have hp : waitZ2 (2 * u + 1) K = wt K (z2Ss u) (z2V u) (xrV (2 * u + 1)) (wx2 _ _) (wx4 _ _) := by
      unfold waitZ2; rw [if_pos h]; simp only [show (2 * u + 1) / 2 = u by omega]
    rw [hp, if_neg (by omega), if_neg (by omega), if_neg (by omega), show (2 * u + 1) / 2 = u by omega]
    iintro ⟨#Hr, ⟨Hf, Hz⟩, Hs1, HO, Hk⟩
    iapply (wp_swait m c _ Q t 4 u (by show u < 8; omega) (z2V u) (xrV (2 * u + 1)) (wx2 _ _) (wx4 _ _) rfl ht)
    isplitr; · iexact Hr
    isplitl [Hf]; · iexact Hf
    isplitl [HO]; · iexact HO
    iintro ⟨Hs2, Hv, HO⟩
    iapply Hk
    isplitl [Hs1 Hs2]
    · iapply (slotC_F m c (xrV (2 * u + 1)) (val m 1 (nb 1 c) (2 * u + 1)))
      iapply (slotC_join m c (xrV (2 * u + 1)) (val m 1 (nb 1 c) (2 * u + 1)) fullShare)
      isplitl [Hs1]; · iexact Hs1
      iexact Hs2
    isplitl [Hz Hv]
    · isplitl [Hz] <;> iassumption
    iexact HO

/-- Waiting out the second hop of an even chunk: both shares of the z slot are back. -/
theorem wp_waitX2 (c : Dev nD) (K : BProg F) (Q : PUnit → sProp 𝕄) (t : ℕ) (ht : t < 200) (k : ℕ) (hk : k < 16) :
    iprop(recs m ∗ (if k % 2 = 0 then sFly 3 c (k / 2)
              else iprop(slotC m c (zrV k) (val m 2 (nb 2 c) k) fullShare.right ∗ hopV c k))
        ∗ slotC m c (zrV k) (val m 2 (nb 2 c) k) fullShare.left ∗ OW c t
        ∗ ((slotF c (zrV k) ∗ hopV c k ∗ OW c t) -∗ WPc c K Q))
      ⊢ WPc c (waitX2 k K) Q := by
  unfold hopV
  rcases Nat.mod_two_eq_zero_or_one k with h | h
  · obtain ⟨u, rfl⟩ : ∃ u, k = 2 * u := ⟨k / 2, by omega⟩
    have hp : waitX2 (2 * u) K = wt K (x2Ss u) (x2V u) (zrV (2 * u)) (wx2 _ _) (wx4 _ _) := by
      unfold waitX2; rw [if_pos h]; simp only [show (2 * u) / 2 = u by omega]
    rw [hp, if_pos h, if_pos h, show (2 * u) / 2 = u by omega]
    iintro ⟨#Hr, Hf, Hs1, HO, Hk⟩
    iapply (wp_swait m c _ Q t 3 u (by show u < 8; omega) (x2V u) (zrV (2 * u)) (wx2 _ _) (wx4 _ _) rfl ht)
    isplitr; · iexact Hr
    isplitl [Hf]; · iexact Hf
    isplitl [HO]; · iexact HO
    iintro ⟨Hs2, Hv, HO⟩
    iapply Hk
    isplitl [Hs1 Hs2]
    · iapply (slotC_F m c (zrV (2 * u)) (val m 2 (nb 2 c) (2 * u)))
      iapply (slotC_join m c (zrV (2 * u)) (val m 2 (nb 2 c) (2 * u)) fullShare)
      isplitl [Hs1]; · iexact Hs1
      iexact Hs2
    isplitl [Hv] <;> iassumption
  · have hp : waitX2 k K = K := by unfold waitX2; rw [if_neg (by omega)]
    rw [hp, if_neg (by omega), if_neg (by omega)]
    iintro ⟨-, ⟨Hs2, Hv⟩, Hs1, HO, Hk⟩
    iapply Hk
    isplitl [Hs1 Hs2]
    · iapply (slotC_F m c (zrV k) (val m 2 (nb 2 c) k))
      iapply (slotC_join m c (zrV k) (val m 2 (nb 2 c) k) fullShare)
      isplitl [Hs1] <;> iassumption
    isplitl [Hv] <;> iassumption

theorem wp_waitDx (c : Dev nD) (K : BProg F) (Q : PUnit → sProp 𝕄) (t : ℕ) (ht : t < 200) (k : ℕ) :
    iprop(recs m ∗ flX m c k ∗ OW c t
        ∗ (((slotC m c (oxV c k) (val m 1 (nb 1 c) k) fullShare ∗ slotC m c (xrV k) (val m 1 (nb 1 c) k) fullShare.left)
            ∗ semVal ((c : Thread nD τ), .dma (dx1S k)) 0 ∗ OW c t) -∗ WPc c K Q)) ⊢ WPc c (waitDx c k K) Q :=
  wp_lwait m c _ Q t ht (xrV k) (oxV c k) (dx1S k) _ (wx4 _ _) (wxO _ _) rfl
theorem wp_waitDz (c : Dev nD) (K : BProg F) (Q : PUnit → sProp 𝕄) (t : ℕ) (ht : t < 200) (k : ℕ) :
    iprop(recs m ∗ flZ m c k ∗ OW c t
        ∗ (((slotC m c (ozV c k) (val m 2 (nb 2 c) k) fullShare ∗ slotC m c (zrV k) (val m 2 (nb 2 c) k) fullShare.left)
            ∗ semVal ((c : Thread nD τ), .dma (dz1S k)) 0 ∗ OW c t) -∗ WPc c K Q)) ⊢ WPc c (waitDz c k K) Q :=
  wp_lwait m c _ Q t ht (zrV k) (ozV c k) (dz1S k) _ (wx4 _ _) (wxO _ _) rfl

theorem wp_drainX2 (c : Dev nD) (K : BProg F) (Q : PUnit → sProp 𝕄) (k : ℕ) (hk : k < 14) :
    iprop(recs m ∗ preX m c (k + 2) ∗ (relSt 1 c k ∗ relSt 2 c k) ∗ OW c (8 * (k + 5) + 4)
        ∗ ((freeX c k ∗ drnX m c (k + 2) ∗ (relSt 1 c (k + 1) ∗ relSt 2 c (k + 1)) ∗ OW c (8 * (k + 5) + 6)) -∗ WPc c K Q))
      ⊢ WPc c (drainX c (k + 2) K) Q := by
  have t1 : 8 * (k + 5) + 4 = tC 1 k := by show _ = (if k < 14 then 8 * (k + 5) + 4 else 148 + k); rw [if_pos hk]
  have t2 : tC 1 k + 1 = tC 2 k := by
    show (if k < 14 then 8 * (k + 5) + 4 else 148 + k) + 1 = (if k < 14 then 8 * (k + 5) + 5 else 150 + k); rw [if_pos hk, if_pos hk]
  have t3 : 8 * (k + 5) + 6 = tC 2 k + 1 := by show _ = (if k < 14 then 8 * (k + 5) + 5 else 150 + k) + 1; rw [if_pos hk]
  rw [t1, t3]
  unfold drainX; rw [if_pos (by omega)]
  simp only [Nat.add_sub_cancel]
  unfold preX drnX freeX
  iintro ⟨#Hr, ⟨Hfx, Hfz, Hg1, Hg2, Hh⟩, ⟨Hr1, Hr2⟩, HO, Hk⟩
  iapply (wp_waitDx m c _ Q (tC 1 k) (by omega) k)
  isplitr; · iexact Hr
  isplitl [Hfx]; · iexact Hfx
  isplitl [HO]; · iexact HO
  iintro ⟨⟨Hox, Hsx⟩, Hvx, HO⟩
  iapply (wp_waitZ2 m c _ Q (tC 1 k) (by omega) k (by omega))
  isplitr; · iexact Hr
  isplitl [Hh]; · iexact Hh
  isplitl [Hsx]; · iexact Hsx
  isplitl [HO]; · iexact HO
  iintro ⟨Hsx, Hh, HO⟩
  iapply (wp_give m c _ Q 1 k (by show k < 16; omega))
  isplitr; · iexact Hr
  isplitl [Hr1]; · iexact Hr1
  isplitl [Hg1]; · iexact Hg1
  isplitl [Hsx]; · iexact Hsx
  isplitl [HO]; · iexact HO
  rw [t2]
  iintro ⟨Hr1, Hk1, HO⟩
  iapply (wp_waitDz m c _ Q (tC 2 k) (by omega) k)
  isplitr; · iexact Hr
  isplitl [Hfz]; · iexact Hfz
  isplitl [HO]; · iexact HO
  iintro ⟨⟨Hoz, Hsz⟩, Hvz, HO⟩
  iapply (wp_waitX2 m c _ Q (tC 2 k) (by omega) k (by omega))
  isplitr; · iexact Hr
  isplitl [Hh]; · iexact Hh
  isplitl [Hsz]; · iexact Hsz
  isplitl [HO]; · iexact HO
  iintro ⟨Hsz, Hh, HO⟩
  iapply (wp_give m c _ Q 2 k (by show k < 16; omega))
  isplitr; · iexact Hr
  isplitl [Hr2]; · iexact Hr2
  isplitl [Hg2]; · iexact Hg2
  isplitl [Hsz]; · iexact Hsz
  isplitl [HO]; · iexact HO
  iintro ⟨Hr2, Hk2, HO⟩
  iapply Hk
  isplitl [Hvx Hvz]
  · isplitl [Hvx] <;> iassumption
  isplitl [Hox Hoz Hh Hk1 Hk2]
  · isplitl [Hox]; · iexact Hox
    isplitl [Hoz]; · iexact Hoz
    isplitl [Hh]; · iexact Hh
    isplitl [Hk1] <;> iassumption
  isplitl [Hr1 Hr2]
  · isplitl [Hr1] <;> iassumption
  iexact HO

theorem wp_drainX (c : Dev nD) (K : BProg F) (Q : PUnit → sProp 𝕄) : ∀ n : ℕ, n < 16 →
    iprop(recs m ∗ preX m c n ∗ (relSt 1 c (n - 2) ∗ relSt 2 c (n - 2)) ∗ OW c (8 * (n + 3) + 4)
        ∗ ((freeX c n ∗ drnX m c n ∗ (relSt 1 c (n + 1 - 2) ∗ relSt 2 c (n + 1 - 2)) ∗ OW c (8 * (n + 3) + 6)) -∗ WPc c K Q))
      ⊢ WPc c (drainX c n K) Q
  | 0, _ => by
    unfold drainX; rw [if_neg (by omega)]
    unfold preX drnX OW
    rw [show O c (8 * (0 + 3) + 4) = O c (8 * (0 + 3) + 6) from O_skip c _ _ (by omega) (by decide +kernel)]
    iintro ⟨-, H, Hrel, HO, Hk⟩
    iapply Hk
    isplitl [H]; · iexact H
    isplitr; · itrivial
    isplitl [Hrel] <;> iassumption
  | 1, _ => by
    unfold drainX; rw [if_neg (by omega)]
    unfold preX drnX OW
    rw [show O c (8 * (1 + 3) + 4) = O c (8 * (1 + 3) + 6) from O_skip c _ _ (by omega) (by decide +kernel)]
    iintro ⟨-, H, Hrel, HO, Hk⟩
    iapply Hk
    isplitl [H]; · iexact H
    isplitr; · itrivial
    isplitl [Hrel] <;> iassumption
  | k + 2, hk => by
    have e1 : dx1S (k + 2) = dx1S k := by unfold dx1S; rw [Nat.add_mod_right]
    have e2 : dz1S (k + 2) = dz1S k := by unfold dz1S; rw [Nat.add_mod_right]
    rw [show freeX (F := F) c (k + 2) = freeX c k by unfold freeX; rw [e1, e2], show k + 2 + 1 - 2 = k + 1 by omega, show k + 2 - 2 = k from rfl]
    exact wp_drainX2 m c K Q k (by omega)

theorem wp_hop2 (c : Dev nD) (K : BProg F) (Q : PUnit → sProp 𝕄) (n : ℕ) (hn : n < 16) :
    iprop(recs m ∗ hopT c n ∗ (crSt 3 c ((n + 1) / 2 - 2) ∗ crSt 4 c (n / 2 - 2))
        ∗ slotC m c (xrV n) (val m 1 (nb 1 c) n) fullShare.right ∗ slotC m c (zrV n) (val m 2 (nb 2 c) n) fullShare.right
        ∗ OW c (8 * (n + 3) + 6)
        ∗ ((hopF m c n ∗ (crSt 3 c ((n + 1 + 1) / 2 - 2) ∗ crSt 4 c ((n + 1) / 2 - 2)) ∗ OW c (8 * (n + 3) + 7)) -∗ WPc c K Q))
      ⊢ WPc c (hop2 c n K) Q := by
  unfold hopT hopF
  rcases Nat.mod_two_eq_zero_or_one n with h | h
  · obtain ⟨u, rfl⟩ : ∃ u, n = 2 * u := ⟨n / 2, by omega⟩
    have hp : hop2 c (2 * u) K = take 2 u x2C (send K (zrV (2 * u)) (px c) (x2V u) (x2Ss u) (x2Rs u) (wx4 _ _) (wx2 _ _)) := by
      unfold hop2; rw [if_pos h]; simp only [show (2 * u) / 2 = u by omega]
    rw [hp, if_pos h, if_pos h, show (2 * u) / 2 = u by omega, show (2 * u + 1) / 2 = u by omega, show (2 * u + 1 + 1) / 2 = u + 1 by omega]
    iintro ⟨#Hr, ⟨Hw, Hp⟩, ⟨Hc3, Hc4⟩, Hsx, Hsz, HO, Hk⟩
    iapply (wp_take m c _ Q (8 * (2 * u + 3) + 6) 3 u (by show u < 8; omega)
      (fun h => by
        have h' : 2 ≤ u := h
        show (if u - 2 < 7 then 8 * (2 * (u - 2) + 6) + 7 else 159 + (u - 2)) < _
        rw [if_pos (by omega)]; omega) (by omega))
    isplitr; · iexact Hr
    isplitl [Hc3]; · iexact Hc3
    isplitl [Hw]; · iexact Hw
    isplitl [HO]; · iexact HO
    iintro ⟨Hc3, Hd, HO⟩
    iapply (wp_sendc m c _ Q 3 u (by show u < 8; omega) _ _ rfl)
    isplitr; · iexact Hr
    isplitl [Hp]; · iexact Hp
    isplitl [Hsz]; · iexact Hsz
    isplitl [Hd]; · iexact Hd
    isplitl [HO]; · iexact HO
    iintro ⟨Hf, HO⟩
    iapply Hk
    isplitl [Hf Hsx]
    · isplitl [Hf] <;> iassumption
    isplitl [Hc3 Hc4]
    · isplitl [Hc3]; · iexact Hc3
      iexact Hc4
    iexact HO
  · obtain ⟨u, rfl⟩ : ∃ u, n = 2 * u + 1 := ⟨n / 2, by omega⟩
    have hp : hop2 c (2 * u + 1) K = take 2 u z2C (send K (xrV (2 * u + 1)) (pz c) (z2V u) (z2Ss u) (z2Rs u) (wx4 _ _) (wx2 _ _)) := by
      unfold hop2; rw [if_neg (by omega)]; simp only [show (2 * u + 1) / 2 = u by omega]
    rw [hp, if_neg (by omega), if_neg (by omega), show (2 * u + 1) / 2 = u by omega, show (2 * u + 1 + 1) / 2 = u + 1 by omega,
      show (2 * u + 1 + 1 + 1) / 2 = u + 1 by omega]
    iintro ⟨#Hr, ⟨Hw, Hp⟩, ⟨Hc3, Hc4⟩, Hsx, Hsz, HO, Hk⟩
    iapply (wp_take m c _ Q (8 * (2 * u + 4) + 6) 4 u (by show u < 8; omega)
      (fun h => by
        have h' : 2 ≤ u := h
        show (if u - 2 < 7 then 8 * (2 * (u - 2) + 7) + 7 else 160 + (u - 2)) < _
        rw [if_pos (by omega)]; omega) (by omega))
    isplitr; · iexact Hr
    isplitl [Hc4]; · iexact Hc4
    isplitl [Hw]; · iexact Hw
    isplitl [HO]; · iexact HO
    iintro ⟨Hc4, Hd, HO⟩
    iapply (wp_sendc m c _ Q 4 u (by show u < 8; omega) _ _ rfl)
    isplitr; · iexact Hr
    isplitl [Hp]; · iexact Hp
    isplitl [Hsx]; · iexact Hsx
    isplitl [Hd]; · iexact Hd
    isplitl [HO]; · iexact HO
    iintro ⟨Hf, HO⟩
    iapply Hk
    isplitl [Hf Hsz]
    · isplitl [Hf] <;> iassumption
    isplitl [Hc3 Hc4]
    · isplitl [Hc3]; · iexact Hc3
      iexact Hc4
    iexact HO

theorem wp_xzP (c : Dev nD) (K : BProg F) (Q : PUnit → sProp 𝕄) (n : ℕ) (hn : n < 16) :
    iprop(recs m ∗ chain (preX m c) (todoX c) (accX m c) 16 n
        ∗ ((relSt 1 c (n - 2) ∗ relSt 2 c (n - 2)) ∗ crSt 3 c ((n + 1) / 2 - 2) ∗ crSt 4 c (n / 2 - 2)) ∗ OW c (8 * (n + 3) + 4)
        ∗ ((chain (preX m c) (todoX c) (accX m c) 16 (n + 1)
            ∗ ((relSt 1 c (n + 1 - 2) ∗ relSt 2 c (n + 1 - 2)) ∗ crSt 3 c ((n + 1 + 1) / 2 - 2) ∗ crSt 4 c ((n + 1) / 2 - 2))
            ∗ OW c (8 * (n + 3) + 7)) -∗ WPc c K Q))
      ⊢ WPc c (xzP c n K) Q := by
  unfold xzP
  iintro ⟨#Hr, Hch, ⟨Hrel, Hcr⟩, HO, Hk⟩
  ihave Hch := (chain_open _ _ _ hn) $$ Hch
  icases Hch with ⟨Hpre, Htodo, Hch⟩
  unfold todoX
  icases Htodo with ⟨Hrw1, Hrw2, Hg1, Hg2, Hox, Hoz, Hh⟩
  iapply (wp_drainX m c _ Q n hn)
  isplitr; · iexact Hr
  isplitl [Hpre]; · iexact Hpre
  isplitl [Hrel]; · iexact Hrel
  isplitl [HO]; · iexact HO
  unfold freeX
  iintro ⟨⟨Hvx, Hvz⟩, Hdrn, Hrel, HO⟩
  iapply (wp_rwait m c _ Q (8 * (n + 3) + 6) 1 n hn (yrV n) (xrV n) (wx4 _ _) (wx4 _ _) rfl
    (by show 8 * (n + 2) + 2 < _; omega) (by omega))
  isplitr; · iexact Hr
  isplitl [Hrw1]; · iexact Hrw1
  isplitl [HO]; · iexact HO
  iintro ⟨Hs, Hv1, HO⟩
  ihave Hs := (slotC_split m c (xrV n) (val m 1 (nb 1 c) n) fullShare) $$ [Hs]
  · iexact Hs
  icases Hs with ⟨Hsx1, Hsx2⟩
  iapply (wp_st m c _ Q (xrV n) (oxV c n) (dx1S n) (val m 1 (nb 1 c) n) fullShare.left _ _ rfl)
  isplitl [Hsx1]; · iexact Hsx1
  isplitl [Hox]; · iexact Hox
  isplitl [Hvx]; · iexact Hvx
  iintro Hfx
  iapply (wp_rwait m c _ Q (8 * (n + 3) + 6) 2 n hn (yrV n) (zrV n) (wx4 _ _) (wx4 _ _) rfl
    (by show 8 * (n + 2) + 3 < _; omega) (by omega))
  isplitr; · iexact Hr
  isplitl [Hrw2]; · iexact Hrw2
  isplitl [HO]; · iexact HO
  iintro ⟨Hs, Hv2, HO⟩
  ihave Hs := (slotC_split m c (zrV n) (val m 2 (nb 2 c) n) fullShare) $$ [Hs]
  · iexact Hs
  icases Hs with ⟨Hsz1, Hsz2⟩
  iapply (wp_st m c _ Q (zrV n) (ozV c n) (dz1S n) (val m 2 (nb 2 c) n) fullShare.left _ _ rfl)
  isplitl [Hsz1]; · iexact Hsz1
  isplitl [Hoz]; · iexact Hoz
  isplitl [Hvz]; · iexact Hvz
  iintro Hfz
  iapply (wp_hop2 m c _ Q n hn)
  isplitr; · iexact Hr
  isplitl [Hh]; · iexact Hh
  isplitl [Hcr]; · iexact Hcr
  isplitl [Hsx2]; · iexact Hsx2
  isplitl [Hsz2]; · iexact Hsz2
  isplitl [HO]; · iexact HO
  iintro ⟨Hh, Hcr, HO⟩
  iapply Hk
  isplitl [Hch Hfx Hfz Hg1 Hg2 Hh Hv1 Hv2 Hdrn]
  · iapply Hch
    isplitl [Hfx Hfz Hg1 Hg2 Hh]
    · unfold preX
      isplitl [Hfx]; · iexact Hfx
      isplitl [Hfz]; · iexact Hfz
      isplitl [Hg1]; · iexact Hg1
      isplitl [Hg2] <;> iassumption
    unfold accX
    isplitl [Hv1]; · iexact Hv1
    isplitl [Hv2]; · iexact Hv2
    iexact Hdrn
  isplitl [Hrel Hcr]
  · isplitl [Hrel] <;> iassumption
  iexact HO

end Cert.KernelIdeal.Ag
end
-- ==== Proof.KernelIdeal.ChainD.lean ====
module

public import proofs.«01_k».proof.Proof.KernelIdeal.ChainS

/-! # Receiving the diagonal chunks

A chunk that took two hops arrives along x when its number is even and along z when it is odd, and is stored. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-- The channel that brings diagonal chunk `n`, and its store semaphore. -/
def chD (n : ℕ) : Fin 5 := if n % 2 = 0 then 3 else 4
def ddS (n : ℕ) : DmaSem sig := if n % 2 = 0 then dx2S (n / 2) else dz2S (n / 2)

theorem chD_two (k : ℕ) : chD (k + 2) = chD k := by unfold chD; rw [Nat.add_mod_right]
theorem ddS_four (k : ℕ) : ddS (k + 2 + 2) = ddS k := by
  unfold ddS dx2S dz2S
  rw [show (k + 2 + 2) % 2 = k % 2 by omega, show (k + 2 + 2) / 2 % 2 = k / 2 % 2 by omega]
theorem credit_chD (i : Fin 5) (u : ℕ) : (dstV i u).view.dmaCredit = NB := by
  fin_cases i <;> rfl
theorem wx_dst (i : Fin 5) (u : ℕ) : (dstV i u).view.WordExact := by
  fin_cases i
  · exact wx4 _ _
  · exact wx4 _ _
  · exact wx4 _ _
  · exact wx2 _ _
  · exact wx2 _ _
theorem lt_chD {n : ℕ} (h : n < 16) : n / 2 < cN (chD n) := by
  unfold chD
  split
  · show n / 2 < 8; omega
  · show n / 2 < 8; omega

/-- The store of diagonal chunk `k` on its way. -/
abbrev flD (c : Dev nD) (k : ℕ) : sProp 𝕄 :=
  Fl c (ddS k) iprop(slotC m c (odV c k) (val m (chD k) (nb (chD k) c) (k / 2)) fullShare
    ∗ slotC m c (dstV (chD k) (k / 2)) (val m (chD k) (nb (chD k) c) (k / 2)) fullShare)
/-- What chunk `n` finds. -/
def preD (c : Dev nD) : ℕ → sProp 𝕄
  | 0 => iprop(semVal ((c : Thread nD τ), .dma (ddS 0)) 0 ∗ semVal ((c : Thread nD τ), .dma (ddS 2)) 0 ∗ relSt (chD 0) c 0)
  | 1 => iprop(semVal ((c : Thread nD τ), .dma (ddS 1)) 0 ∗ semVal ((c : Thread nD τ), .dma (ddS 3)) 0 ∗ relSt (chD 1) c 0)
  | k + 2 => iprop(semVal ((c : Thread nD τ), .dma (ddS (k + 2))) 0 ∗ flD m c k ∗ giveTok (chD k) c (k / 2) ∗ relSt (chD k) c (k / 2))
/-- The store semaphores of chunk `n` at rest, with the credits returned. -/
def freeD (c : Dev nD) (n : ℕ) : sProp 𝕄 :=
  iprop(semVal ((c : Thread nD τ), .dma (ddS n)) 0 ∗ semVal ((c : Thread nD τ), .dma (ddS (n + 2))) 0 ∗ relSt (chD n) c (n / 2))
/-- What is finished when chunk `n` is waited for. -/
def drnD (c : Dev nD) : ℕ → sProp 𝕄
  | 0 => iprop(emp)
  | 1 => iprop(emp)
  | k + 2 => iprop(slotC m c (odV c k) (val m (chD k) (nb (chD k) c) (k / 2)) fullShare ∗ keep (chD k) c (k / 2))
def accD (c : Dev nD) (n : ℕ) : sProp 𝕄 := iprop(semVal (rcvC (chD n) c (n / 2)) 0 ∗ drnD m c n)
/-- What chunk `n` needs. -/
def todoD (c : Dev nD) (n : ℕ) : sProp 𝕄 := iprop(rWait (chD n) c (n / 2) ∗ giveTok (chD n) c (n / 2) ∗ slotF c (odV c n))

theorem wp_drainD2 (c : Dev nD) (K : BProg F) (Q : PUnit → sProp 𝕄) (t : ℕ) (ht : t < 200) (k : ℕ) (hk : k < 16) (htC : tC (chD k) (k / 2) = t) :
    iprop(recs m ∗ preD m c (k + 2) ∗ OW c t
        ∗ ((freeD c (k + 2) ∗ drnD m c (k + 2) ∗ OW c (t + 1)) -∗ WPc c K Q))
      ⊢ WPc c (drainD c (k + 2) K) Q := by
  have hprog : drainD c (k + 2) K = wt (sig1 K (nb (chD k) c) (crS (chD k))) (ddS k) (dstV (chD k) (k / 2)) (odV c k) (wx_dst _ _) (wxO _ _) := by
    unfold drainD chD ddS
    rw [if_pos (by omega), Nat.add_mod_right]
    simp only [Nat.add_sub_cancel]
    rcases Nat.mod_two_eq_zero_or_one k with h | h
    · simp only [h, if_true]; rfl
    · simp only [h, Nat.one_ne_zero, if_false]; rfl
  subst htC
  rw [hprog]
  unfold preD drnD freeD
  rw [chD_two, ddS_four, show (k + 2) / 2 = k / 2 + 1 by omega]
  iintro ⟨#Hr, ⟨Hv2, Hfl, Hg, Hrel⟩, HO, Hk⟩
  iapply (wp_lwait m c _ Q (tC (chD k) (k / 2)) ht (dstV (chD k) (k / 2)) (odV c k) (ddS k) _ _ _ rfl)
  isplitr; · iexact Hr
  isplitl [Hfl]; · iexact Hfl
  isplitl [HO]; · iexact HO
  iintro ⟨⟨Ho, Hs⟩, Hv, HO⟩
  iapply (wp_give m c _ Q (chD k) (k / 2) (lt_chD hk))
  isplitr; · iexact Hr
  isplitl [Hrel]; · iexact Hrel
  isplitl [Hg]; · iexact Hg
  isplitl [Hs]
  · iapply (slotC_F m c (dstV (chD k) (k / 2)) (val m (chD k) (nb (chD k) c) (k / 2))) $$ Hs
  isplitl [HO]; · iexact HO
  iintro ⟨Hrel, Hkeep, HO⟩
  iapply Hk
  isplitl [Hv2 Hv Hrel]
  · isplitl [Hv2]; · iexact Hv2
    isplitl [Hv] <;> iassumption
  isplitl [Ho Hkeep]
  · isplitl [Ho] <;> iassumption
  iexact HO

theorem wp_drainD (c : Dev nD) (K : BProg F) (Q : PUnit → sProp 𝕄) : ∀ n : ℕ, n < 16 →
    iprop(recs m ∗ preD m c n ∗ OW c (8 * (n + 4) + 7)
        ∗ ((freeD c n ∗ drnD m c n ∗ OW c (8 * (n + 5))) -∗ WPc c K Q))
      ⊢ WPc c (drainD c n K) Q
  | 0, _ => by
    unfold drainD; rw [if_neg (by omega)]
    unfold preD drnD OW freeD
    rw [show O c (8 * (0 + 4) + 7) = O c (8 * (0 + 5)) from O_skip c _ _ (by omega) (by decide +kernel)]
    iintro ⟨-, H, HO, Hk⟩
    iapply Hk
    isplitl [H]; · iexact H
    isplitr; · itrivial
    iexact HO
  | 1, _ => by
    unfold drainD; rw [if_neg (by omega)]
    unfold preD drnD OW freeD
    rw [show O c (8 * (1 + 4) + 7) = O c (8 * (1 + 5)) from O_skip c _ _ (by omega) (by decide +kernel)]
    iintro ⟨-, H, HO, Hk⟩
    iapply Hk
    isplitl [H]; · iexact H
    isplitr; · itrivial
    iexact HO
  | k + 2, hk => by
    rw [show 8 * (k + 2 + 5) = 8 * (k + 2 + 4) + 7 + 1 by omega]
    refine wp_drainD2 m c K Q (8 * (k + 2 + 4) + 7) (by omega) k (by omega) ?_
    unfold chD
    rcases Nat.mod_two_eq_zero_or_one k with h | h
    · rw [if_pos h]
      show (if k / 2 < 7 then 8 * (2 * (k / 2) + 6) + 7 else 159 + k / 2) = _
      rw [if_pos (by omega)]; omega
    · rw [if_neg (by omega)]
      show (if k / 2 < 7 then 8 * (2 * (k / 2) + 7) + 7 else 160 + k / 2) = _
      rw [if_pos (by omega)]; omega

theorem wp_diagP (c : Dev nD) (K : BProg F) (Q : PUnit → sProp 𝕄) (n : ℕ) (hn : n < 16) :
    iprop(recs m ∗ chain (preD m c) (todoD c) (accD m c) 16 n ∗ OW c (8 * (n + 4) + 7)
        ∗ ((chain (preD m c) (todoD c) (accD m c) 16 (n + 1) ∗ OW c (8 * (n + 5))) -∗ WPc c K Q))
      ⊢ WPc c (diagP c n K) Q := by
  have hprog : ∃ (src : VView) (h : src.view.WordExact), diagP c n K = drainD c n (wt (cpOut K (dstV (chD n) (n / 2)) (odV c n) (ddS n) (wx_dst _ _) (wxO _ _))
      (rsS (chD n) (n / 2)) src (dstV (chD n) (n / 2)) h (wx_dst _ _)) := by
    unfold diagP chD ddS
    rcases Nat.mod_two_eq_zero_or_one n with h | h
    · simp only [h, if_true]; exact ⟨zrV n, wx4 _ _, rfl⟩
    · simp only [h, Nat.one_ne_zero, if_false]; exact ⟨xrV n, wx4 _ _, rfl⟩
  obtain ⟨src, hsrc, hprog⟩ := hprog
  have htS : tS (chD n) (n / 2) < 8 * (n + 5) := by
    unfold chD
    rcases Nat.mod_two_eq_zero_or_one n with h | h
    · rw [if_pos h]; show 8 * (2 * (n / 2) + 3) + 6 < _; omega
    · rw [if_neg (by omega)]; show 8 * (2 * (n / 2) + 4) + 6 < _; omega
  rw [hprog]
  iintro ⟨#Hr, Hch, HO, Hk⟩
  ihave Hch := (chain_open _ _ _ hn) $$ Hch
  icases Hch with ⟨Hpre, Htodo, Hch⟩
  unfold todoD
  icases Htodo with ⟨Hrw, Hg, Hout⟩
  iapply (wp_drainD m c _ Q n hn)
  isplitr; · iexact Hr
  isplitl [Hpre]; · iexact Hpre
  isplitl [HO]; · iexact HO
  unfold freeD
  iintro ⟨⟨Hv, Hv2, Hrel⟩, Hdrn, HO⟩
  iapply (wp_rwait m c _ Q (8 * (n + 5)) (chD n) (n / 2) (lt_chD hn) src (dstV (chD n) (n / 2)) hsrc (wx_dst _ _) (credit_chD _ _) htS (by omega))
  isplitr; · iexact Hr
  isplitl [Hrw]; · iexact Hrw
  isplitl [HO]; · iexact HO
  iintro ⟨Hs, Hvr, HO⟩
  iapply (wp_st m c _ Q (dstV (chD n) (n / 2)) (odV c n) (ddS n) (val m (chD n) (nb (chD n) c) (n / 2)) fullShare _ _ rfl)
  isplitl [Hs]; · iexact Hs
  isplitl [Hout]; · iexact Hout
  isplitl [Hv]; · iexact Hv
  iintro Hfl
  iapply Hk
  isplitl [Hch Hv2 Hfl Hg Hrel Hvr Hdrn]
  · iapply Hch
    isplitl [Hv2 Hfl Hg Hrel]
    · unfold preD
      isplitl [Hv2]; · iexact Hv2
      isplitl [Hfl]; · iexact Hfl
      isplitl [Hg] <;> iassumption
    unfold accD
    isplitl [Hvr] <;> iassumption
  iexact HO

end Cert.KernelIdeal.Ag
end
-- ==== Proof.KernelIdeal.ChainL.lean ====
module

public import proofs.«01_k».proof.Proof.KernelIdeal.ChainS

/-! # The local copies

The chunks of the argument that no neighbour sends are copied to the result through two local slots. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

theorem xlV_eq (c : Dev nD) (t k : ℕ) : ∃ off h, xlV c t k = xAt off h := by
  unfold xlV
  split
  · exact ⟨_, k0_off3_inb c (fi k), rfl⟩
  · exact ⟨_, k0_off5_inb c (fi k), rfl⟩
  · exact ⟨_, k0_off7_inb c (fi k), rfl⟩

theorem xl_take (c : Dev nD) (t k : ℕ) :
    xW m c ⊢ iprop(((xlV c t k).view.loc (c : Thread nD τ) ↦[(xlV c t k).view.set]{fullShare} m ((xlV c t k).view.loc (c : Thread nD τ)))
      ∗ (((xlV c t k).view.loc (c : Thread nD τ) ↦[(xlV c t k).view.set]{fullShare} m ((xlV c t k).view.loc (c : Thread nD τ))) -∗ xW m c)) := by
  obtain ⟨off, h, e⟩ := xlV_eq c t k
  rw [e]
  exact xW_take m c off h

/-- The local chunk of copy `n`, and where it goes. -/
abbrev xlN (c : Dev nD) (n : ℕ) : HView := xlV c (n % 3) (n / 3)
abbrev olN (c : Dev nD) (n : ℕ) : HView := olV c (n % 3) (n / 3)

theorem credit_olN (c : Dev nD) (n : ℕ) : (olN c n).view.dmaCredit = NB := by
  unfold olN olV; split <;> rfl

/-- The local slot and semaphores of copy `n`, at rest. -/
def freeL (c : Dev nD) (n : ℕ) : sProp 𝕄 :=
  iprop(slotF c (lcV n) ∗ semVal ((c : Thread nD τ), .dma (lsS n)) 0 ∗ semVal ((c : Thread nD τ), .dma (llS n)) 0)
/-- What copy `n` finds. -/
def preL (c : Dev nD) : ℕ → sProp 𝕄
  | 0 => freeL c 0
  | 1 => freeL c 1
  | k + 2 => iprop(Fl c (lsS k) iprop(slotC m c (olN c k) (rdOf m c (xlN c k)) fullShare ∗ slotC m c (lcV k) (rdOf m c (xlN c k)) fullShare)
      ∗ semVal ((c : Thread nD τ), .dma (llS k)) 0)
/-- What is finished when copy `n` starts. -/
def accL (c : Dev nD) : ℕ → sProp 𝕄
  | 0 => iprop(emp)
  | 1 => iprop(emp)
  | k + 2 => slotC m c (olN c k) (rdOf m c (xlN c k)) fullShare
/-- What copy `n` needs. -/
def todoL (c : Dev nD) (n : ℕ) : sProp 𝕄 := slotF c (olN c n)

theorem wp_drainL (c : Dev nD) (K : BProg F) (Q : PUnit → sProp 𝕄) (t : ℕ) (ht : t < 200) : ∀ n : ℕ,
    iprop(recs m ∗ preL m c n ∗ OW c t ∗ ((freeL c n ∗ accL m c n ∗ OW c t) -∗ WPc c K Q)) ⊢ WPc c (drainL c n K) Q
  | 0 => by
    unfold drainL; rw [if_neg (by omega)]
    unfold preL accL
    iintro ⟨-, H, HO, Hk⟩
    iapply Hk
    isplitl [H]; · iexact H
    isplitr; · itrivial
    iexact HO
  | 1 => by
    unfold drainL; rw [if_neg (by omega)]
    unfold preL accL
    iintro ⟨-, H, HO, Hk⟩
    iapply Hk
    isplitl [H]; · iexact H
    isplitr; · itrivial
    iexact HO
  | k + 2 => by
    have e1 : lcV (k + 2) = lcV k := slot2_congr _ (Nat.add_mod_right k 2)
    have e2 : lsS (k + 2) = lsS k := by unfold lsS; rw [Nat.add_mod_right]
    have e3 : llS (k + 2) = llS k := by unfold llS; rw [Nat.add_mod_right]
    unfold drainL; rw [if_pos (by omega)]
    simp only [Nat.add_sub_cancel]
    unfold preL accL freeL
    rw [e1, e2, e3]
    iintro ⟨#Hr, ⟨Hfl, Hld⟩, HO, Hk⟩
    iapply (wp_lwait m c _ Q t ht (lcV k) (olN c k) (lsS k) _ (wx2 _ _) (wxOL _ _ _) (credit_olN c k))
    isplitr; · iexact Hr
    isplitl [Hfl]; · iexact Hfl
    isplitl [HO]; · iexact HO
    iintro ⟨⟨Ho, Hs⟩, Hst, HO⟩
    iapply Hk
    isplitl [Hs Hst Hld]
    · isplitl [Hs]
      · iapply (slotC_F m c (lcV k) (rdOf m c (xlN c k))) $$ Hs
      isplitl [Hst] <;> iassumption
    isplitl [Ho]; · iexact Ho
    iexact HO

theorem wp_lclP (c : Dev nD) (K : BProg F) (Q : PUnit → sProp 𝕄) (t : ℕ) (ht : t < 200) (n : ℕ) (hn : n < 48) :
    iprop(recs m ∗ xW m c ∗ chain (preL m c) (todoL c) (accL m c) 48 n ∗ OW c t
        ∗ ((xW m c ∗ chain (preL m c) (todoL c) (accL m c) 48 (n + 1) ∗ OW c t) -∗ WPc c K Q))
      ⊢ WPc c (lclP c n K) Q := by
  unfold lclP
  iintro ⟨#Hr, Hx, Hch, HO, Hk⟩
  ihave Hch := (chain_open _ _ _ hn) $$ Hch
  icases Hch with ⟨Hpre, Hout, Hch⟩
  unfold todoL
  iapply (wp_drainL m c _ Q t ht n)
  isplitr; · iexact Hr
  isplitl [Hpre]; · iexact Hpre
  isplitl [HO]; · iexact HO
  unfold freeL
  iintro ⟨⟨Hs, Hst, Hld⟩, Hacc, HO⟩
  iapply (wp_ld m c _ Q t ht (xlN c n) (lcV n) (llS n) _ _ rfl (xl_take m c _ _))
  isplitr; · iexact Hr
  isplitl [Hx]; · iexact Hx
  isplitl [Hs]; · iexact Hs
  isplitl [Hld]; · iexact Hld
  isplitl [HO]; · iexact HO
  iintro ⟨Hx, Hs, Hld, HO⟩
  iapply (wp_st m c _ Q (lcV n) (olN c n) (lsS n) (rdOf m c (xlN c n)) fullShare _ _ (credit_olN c n))
  isplitl [Hs]; · iexact Hs
  isplitl [Hout]; · iexact Hout
  isplitl [Hst]; · iexact Hst
  iintro Hfl
  iapply Hk
  isplitl [Hx]; · iexact Hx
  isplitl [Hch Hfl Hld Hacc]
  · iapply Hch
    isplitl [Hfl Hld]
    · unfold preL
      isplitl [Hfl] <;> iassumption
    iexact Hacc
  iexact HO

end Cert.KernelIdeal.Ag
end
-- ==== Proof.KernelIdeal.Loop.lean ====
module

public import proofs.«01_k».proof.Proof.KernelIdeal.ChainR
public import proofs.«01_k».proof.Proof.KernelIdeal.ChainX
public import proofs.«01_k».proof.Proof.KernelIdeal.ChainD
public import proofs.«01_k».proof.Proof.KernelIdeal.ChainL

/-! # The loop and what follows it

The five sequences run together through the sixteen iterations, the iterations that only receive, and the last waits. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## The state of the five sequences -/

abbrev cS (c : Dev nD) (n : ℕ) : sProp 𝕄 := chain (preS m c) (todoS c) (accS m c) 16 n
abbrev cR (c : Dev nD) (n : ℕ) : sProp 𝕄 := chain (preR m c) (todoR c) (accR m c) 16 n
abbrev cX (c : Dev nD) (n : ℕ) : sProp 𝕄 := chain (preX m c) (todoX c) (accX m c) 16 n
abbrev cD (c : Dev nD) (n : ℕ) : sProp 𝕄 := chain (preD m c) (todoD c) (accD m c) 16 n
abbrev cL (c : Dev nD) (n : ℕ) : sProp 𝕄 := chain (preL m c) (todoL c) (accL m c) 48 n
abbrev exR (c : Dev nD) (a : ℕ) : sProp 𝕄 := iprop(relSt 0 c (a - 2) ∗ crSt 1 c (a - 4) ∗ crSt 2 c (a - 4))
abbrev exX (c : Dev nD) (b : ℕ) : sProp 𝕄 :=
  iprop((relSt 1 c (b - 2) ∗ relSt 2 c (b - 2)) ∗ crSt 3 c ((b + 1) / 2 - 2) ∗ crSt 4 c (b / 2 - 2))
/-- The receiving sequences after `a`, `b` and `d` steps. -/
def St (c : Dev nD) (a b d : ℕ) : sProp 𝕄 := iprop((cR m c a ∗ exR c a) ∗ (cX m c b ∗ exX c b) ∗ cD m c d)

theorem OW_skip (c : Dev nD) (a b : ℕ) (hab : a ≤ b) (h : ∀ p : Pay, p.ok = true → ¬(a ≤ p.tm ∧ p.tm < b)) :
    OW (F := F) c a = OW c b := by
  unfold OW; rw [O_skip c a b hab h]

theorem st_y (c : Dev nD) (K : BProg F) (Q : PUnit → sProp 𝕄) (a b d : ℕ) (ha : a < 16) :
    iprop(recs m ∗ St m c a b d ∗ OW c (8 * (a + 2) + 1) ∗ ((St m c (a + 1) b d ∗ OW c (8 * (a + 2) + 4)) -∗ WPc c K Q))
      ⊢ WPc c (yrecvP c a K) Q := by
  unfold St
  iintro ⟨#Hr, ⟨⟨Hc, He⟩, H⟩, HO, Hk⟩
  iapply (wp_yrecvP m c K Q a ha)
  isplitr; · iexact Hr
  isplitl [Hc]; · iexact Hc
  isplitl [He]; · iexact He
  isplitl [HO]; · iexact HO
  iintro ⟨Hc, He, HO⟩
  iapply Hk
  isplitl [Hc He H]
  · isplitl [Hc He]
    · isplitl [Hc] <;> iassumption
    iexact H
  iexact HO
theorem st_x (c : Dev nD) (K : BProg F) (Q : PUnit → sProp 𝕄) (a b d : ℕ) (hb : b < 16) :
    iprop(recs m ∗ St m c a b d ∗ OW c (8 * (b + 3) + 4) ∗ ((St m c a (b + 1) d ∗ OW c (8 * (b + 3) + 7)) -∗ WPc c K Q))
      ⊢ WPc c (xzP c b K) Q := by
  unfold St
  iintro ⟨#Hr, ⟨H, ⟨Hc, He⟩, H'⟩, HO, Hk⟩
  iapply (wp_xzP m c K Q b hb)
  isplitr; · iexact Hr
  isplitl [Hc]; · iexact Hc
  isplitl [He]; · iexact He
  isplitl [HO]; · iexact HO
  iintro ⟨Hc, He, HO⟩
  iapply Hk
  isplitl [Hc He H H']
  · isplitl [H]; · iexact H
    isplitl [Hc He]
    · isplitl [Hc] <;> iassumption
    iexact H'
  iexact HO
theorem st_d (c : Dev nD) (K : BProg F) (Q : PUnit → sProp 𝕄) (a b d : ℕ) (hd : d < 16) :
    iprop(recs m ∗ St m c a b d ∗ OW c (8 * (d + 4) + 7) ∗ ((St m c a b (d + 1) ∗ OW c (8 * (d + 5))) -∗ WPc c K Q))
      ⊢ WPc c (diagP c d K) Q := by
  unfold St
  iintro ⟨#Hr, ⟨H, H', Hc⟩, HO, Hk⟩
  iapply (wp_diagP m c K Q d hd)
  isplitr; · iexact Hr
  isplitl [Hc]; · iexact Hc
  isplitl [HO]; · iexact HO
  iintro ⟨Hc, HO⟩
  iapply Hk
  isplitl [Hc H H']
  · isplitl [H]; · iexact H
    isplitl [H'] <;> iassumption
  iexact HO

/-- The receiving phases of iteration `t`. -/
theorem wp_recvs (c : Dev nD) (K : BProg F) (Q : PUnit → sProp 𝕄) : ∀ t : ℕ, t < 17 →
    iprop(recs m ∗ St m c (t - 1) (t - 2) (t - 3) ∗ OW c (8 * (t + 1) + 1)
        ∗ ((St m c (t + 1 - 1) (t + 1 - 2) (t + 1 - 3) ∗ OW c (8 * (t + 2))) -∗ WPc c K Q))
      ⊢ WPc c (recvs c t K) Q
  | 0, _ => by
    rw [show recvs c 0 K = K from rfl, OW_skip c (8 * (0 + 1) + 1) (8 * (0 + 2)) (by omega) (by decide +kernel)]
    iintro ⟨-, H, HO, Hk⟩
    iapply Hk
    isplitl [H] <;> iassumption
  | 1, _ => by
    rw [show recvs c 1 K = yrecvP c 0 K from rfl]
    iintro ⟨#Hr, H, HO, Hk⟩
    iapply (st_y m c K Q 0 0 0 (by omega))
    isplitr; · iexact Hr
    isplitl [H]; · iexact H
    isplitl [HO]; · iexact HO
    rw [OW_skip c (8 * (0 + 2) + 4) (8 * (1 + 2)) (by omega) (by decide +kernel)]
    iexact Hk
  | 2, _ => by
    rw [show recvs c 2 K = yrecvP c 1 (xzP c 0 K) from rfl]
    iintro ⟨#Hr, H, HO, Hk⟩
    iapply (st_y m c (xzP c 0 K) Q 1 0 0 (by omega))
    isplitr; · iexact Hr
    isplitl [H]; · iexact H
    isplitl [HO]; · iexact HO
    iintro ⟨H, HO⟩
    iapply (st_x m c K Q 2 0 0 (by omega))
    isplitr; · iexact Hr
    isplitl [H]; · iexact H
    isplitl [HO]; · iexact HO
    rw [OW_skip c (8 * (0 + 3) + 7) (8 * (2 + 2)) (by omega) (by decide +kernel)]
    iexact Hk
  | s + 3, hs => by
    have hp : recvs c (s + 3) K = yrecvP c (s + 2) (xzP c (s + 1) (diagP c s K)) := by
      unfold recvs
      simp only [show 3 ≤ s + 3 by omega, show 2 ≤ s + 3 by omega, show s + 3 < 18 by omega, show 1 ≤ s + 3 by omega,
        show s + 3 < 17 by omega, and_self, if_true]
      rfl
    rw [hp]
    iintro ⟨#Hr, H, HO, Hk⟩
    iapply (st_y m c (xzP c (s + 1) (diagP c s K)) Q (s + 2) (s + 1) s (by omega))
    isplitr; · iexact Hr
    isplitl [H]; · iexact H
    isplitl [HO]; · iexact HO
    iintro ⟨H, HO⟩
    iapply (st_x m c (diagP c s K) Q (s + 2 + 1) (s + 1) s (by omega))
    isplitr; · iexact Hr
    isplitl [H]; · iexact H
    isplitl [HO]; · iexact HO
    iintro ⟨H, HO⟩
    iapply (st_d m c K Q (s + 2 + 1) (s + 1 + 1) s (by omega))
    isplitr; · iexact Hr
    isplitl [H]; · iexact H
    isplitl [HO]; · iexact HO
    iexact Hk

/-- The two last iterations of the receiving phases. -/
theorem wp_tail (c : Dev nD) (K : BProg F) (Q : PUnit → sProp 𝕄) :
    iprop(recs m ∗ St m c 15 14 13 ∗ OW c 136 ∗ ((St m c 16 16 16 ∗ OW c 160) -∗ WPc c K Q))
      ⊢ WPc c (recvs c 16 <| recvs c 17 <| recvs c 18 K) Q := by
  rw [OW_skip c 136 137 (by omega) (by decide +kernel), show recvs c 18 K = diagP c 15 K from rfl, show recvs c 17 (diagP c 15 K) = xzP c 15 (diagP c 14 (diagP c 15 K)) from rfl]
  iintro ⟨#Hr, H, HO, Hk⟩
  iapply (wp_recvs m c (xzP c 15 (diagP c 14 (diagP c 15 K))) Q 16 (by omega))
  isplitr; · iexact Hr
  isplitl [H]; · iexact H
  isplitl [HO]; · iexact HO
  iintro ⟨H, HO⟩
  iapply (st_x m c (diagP c 14 (diagP c 15 K)) Q 16 15 14 (by omega))
  isplitr; · iexact Hr
  isplitl [H]; · iexact H
  isplitl [HO]
  · iapply (Entails.of_eq (OW_skip c 144 148 (by omega) (by decide +kernel))) $$ HO
  iintro ⟨H, HO⟩
  iapply (st_d m c (diagP c 15 K) Q 16 16 14 (by omega))
  isplitr; · iexact Hr
  isplitl [H]; · iexact H
  isplitl [HO]; · iexact HO
  iintro ⟨H, HO⟩
  iapply (st_d m c K Q 16 16 15 (by omega))
  isplitr; · iexact Hr
  isplitl [H]; · iexact H
  isplitl [HO]
  · iapply (Entails.of_eq (OW_skip c 152 159 (by omega) (by decide +kernel))) $$ HO
  iexact Hk

/-! ## The loop -/

/-- The state before iteration `t`. -/
def LS (c : Dev nD) (t : ℕ) : sProp 𝕄 :=
  iprop(xW m c ∗ (cS m c t ∗ crSt 0 c (t - 4)) ∗ St m c (t - 1) (t - 2) (t - 3) ∗ cL m c (3 * t) ∗ OW c (8 * (t + 1)))

theorem wp_iter (c : Dev nD) (K : BProg F) (Q : PUnit → sProp 𝕄) (t : ℕ) (ht : t < 16) :
    iprop(recs m ∗ LS m c t ∗ (LS m c (t + 1) -∗ WPc c K Q)) ⊢ WPc c (iter c t K) Q := by
  unfold LS iter
  iintro ⟨#Hr, ⟨Hx, ⟨HS, H0⟩, HSt, HL, HO⟩, Hk⟩
  iapply (wp_sendP m c _ Q t ht)
  isplitr; · iexact Hr
  isplitl [Hx]; · iexact Hx
  isplitl [HS]; · iexact HS
  isplitl [H0]; · iexact H0
  isplitl [HO]; · iexact HO
  iintro ⟨Hx, HS, H0, HO⟩
  iapply (wp_recvs m c _ Q t (by omega))
  isplitr; · iexact Hr
  isplitl [HSt]; · iexact HSt
  isplitl [HO]; · iexact HO
  iintro ⟨HSt, HO⟩
  iapply (wp_lclP m c _ Q (8 * (t + 2)) (by omega) (3 * t) (by omega))
  isplitr; · iexact Hr
  isplitl [Hx]; · iexact Hx
  isplitl [HL]; · iexact HL
  isplitl [HO]; · iexact HO
  iintro ⟨Hx, HL, HO⟩
  iapply (wp_lclP m c _ Q (8 * (t + 2)) (by omega) (3 * t + 1) (by omega))
  isplitr; · iexact Hr
  isplitl [Hx]; · iexact Hx
  isplitl [HL]; · iexact HL
  isplitl [HO]; · iexact HO
  iintro ⟨Hx, HL, HO⟩
  iapply (wp_lclP m c _ Q (8 * (t + 2)) (by omega) (3 * t + 2) (by omega))
  isplitr; · iexact Hr
  isplitl [Hx]; · iexact Hx
  isplitl [HL]; · iexact HL
  isplitl [HO]; · iexact HO
  iintro ⟨Hx, HL, HO⟩
  iapply Hk
  isplitl [Hx]; · iexact Hx
  isplitl [HS H0]
  · isplitl [HS] <;> iassumption
  isplitl [HSt]; · iexact HSt
  isplitl [HL]; · iexact HL
  iexact HO

theorem wp_iters (c : Dev nD) (K : BProg F) (Q : PUnit → sProp 𝕄) : ∀ n t : ℕ, t + n ≤ 16 →
    iprop(recs m ∗ LS m c t ∗ (LS m c (t + n) -∗ WPc c K Q)) ⊢ WPc c (iters c K n t) Q
  | 0, t, _ => by
    unfold iters
    iintro ⟨-, H, Hk⟩
    iapply Hk
    iexact H
  | n + 1, t, h => by
    unfold iters
    iintro ⟨#Hr, H, Hk⟩
    iapply (wp_iter m c (iters c K n (t + 1)) Q t (by omega))
    isplitr; · iexact Hr
    isplitl [H]; · iexact H
    iintro H
    iapply (wp_iters c K Q n (t + 1) (by omega))
    isplitr; · iexact Hr
    isplitl [H]; · iexact H
    rw [show t + 1 + n = t + (n + 1) by omega]
    iexact Hk

end Cert.KernelIdeal.Ag
end
-- ==== Proof.KernelIdeal.Final.lean ====
module

public import proofs.«01_k».proof.Proof.KernelIdeal.Loop

/-! # After the loop

The last stores and transfers are waited for, the last slots and credits returned. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## After the loop -/

/-- All the last credits to wait for. -/
def crLefts (c : Dev nD) : sProp 𝕄 := iprop(crLeft 0 c ∗ crLeft 1 c ∗ crLeft 2 c ∗ crLeft 3 c ∗ crLeft 4 c)
def crSts (c : Dev nD) : sProp 𝕄 := iprop(crSt 0 c 12 ∗ crSt 1 c 12 ∗ crSt 2 c 12 ∗ crSt 3 c 6 ∗ crSt 4 c 6)
def crVs (c : Dev nD) : sProp 𝕄 :=
  iprop(semVal (crdC 0 c) 0 ∗ semVal (crdC 1 c) 0 ∗ semVal (crdC 2 c) 0 ∗ semVal (crdC 3 c) 0 ∗ semVal (crdC 4 c) 0)

theorem wp_credits (c : Dev nD) (K : BProg F) (Q : PUnit → sProp 𝕄) :
    iprop(recs m ∗ crLefts c ∗ crSts c ∗ OW c 168 ∗ ((crVs c ∗ OW c 168) -∗ WPc c K Q))
      ⊢ WPc c (wtN (wtN (wtN (wtN (wtN K z2C 2#32) x2C 2#32) z1C 4#32) x1C 4#32) yC 4#32) Q := by
  unfold crLefts crSts
  iintro ⟨#Hr, ⟨L0, L1, L2, L3, L4⟩, ⟨S0, S1, S2, S3, S4⟩, HO, Hk⟩
  iapply (wp_crfin m c _ Q 0 4#32 rfl (by decide))
  isplitr; · iexact Hr
  isplitl [L0]; · iexact L0
  isplitl [S0]; · iexact S0
  isplitl [HO]; · iexact HO
  iintro ⟨V0, HO⟩
  iapply (wp_crfin m c _ Q 1 4#32 rfl (by decide))
  isplitr; · iexact Hr
  isplitl [L1]; · iexact L1
  isplitl [S1]; · iexact S1
  isplitl [HO]; · iexact HO
  iintro ⟨V1, HO⟩
  iapply (wp_crfin m c _ Q 2 4#32 rfl (by decide))
  isplitr; · iexact Hr
  isplitl [L2]; · iexact L2
  isplitl [S2]; · iexact S2
  isplitl [HO]; · iexact HO
  iintro ⟨V2, HO⟩
  iapply (wp_crfin m c _ Q 3 2#32 rfl (by decide))
  isplitr; · iexact Hr
  isplitl [L3]; · iexact L3
  isplitl [S3]; · iexact S3
  isplitl [HO]; · iexact HO
  iintro ⟨V3, HO⟩
  iapply (wp_crfin m c _ Q 4 2#32 rfl (by decide))
  isplitr; · iexact Hr
  isplitl [L4]; · iexact L4
  isplitl [S4]; · iexact S4
  isplitl [HO]; · iexact HO
  iintro ⟨V4, HO⟩
  iapply Hk
  unfold crVs
  isplitl [V0 V1 V2 V3 V4]
  · isplitl [V0]; · iexact V0
    isplitl [V1]; · iexact V1
    isplitl [V2]; · iexact V2
    isplitl [V3] <;> iassumption
  iexact HO

/-- The x and z chunks 14 and 15, finished. -/
theorem wp_finX (c : Dev nD) (K : BProg F) (Q : PUnit → sProp 𝕄) :
    iprop(recs m ∗ (slotC m c (xrV 14) (val m 1 (nb 1 c) 14) fullShare.left ∗ slotC m c (zrV 14) (val m 2 (nb 2 c) 14) fullShare.left)
        ∗ (slotC m c (xrV 15) (val m 1 (nb 1 c) 15) fullShare.left ∗ slotC m c (zrV 15) (val m 2 (nb 2 c) 15) fullShare.left)
        ∗ (giveTok 1 c 14 ∗ giveTok 2 c 14 ∗ hopF m c 14) ∗ (giveTok 1 c 15 ∗ giveTok 2 c 15 ∗ hopF m c 15)
        ∗ (relSt 1 c 14 ∗ relSt 2 c 14) ∗ OW c 162
        ∗ (((hopV c 14 ∗ keep 1 c 14 ∗ keep 2 c 14) ∗ (hopV c 15 ∗ keep 1 c 15 ∗ keep 2 c 15) ∗ OW c 166) -∗ WPc c K Q))
      ⊢ WPc c (waitZ2 15 <| waitX2 14 <| sig1 (sig1 (sig1 (sig1 K (pz c) z1C) (pz c) z1C) (px c) x1C) (px c) x1C) Q := by
  iintro ⟨#Hr, ⟨X14, Z14⟩, ⟨X15, Z15⟩, ⟨G1, G2, HF⟩, ⟨G1', G2', HF'⟩, ⟨R1, R2⟩, HO, Hk⟩
  iapply (show iprop(recs m ∗ hopF m c 14 ∗ slotC m c (xrV 14) (val m 1 (nb 1 c) 14) fullShare.left ∗ OW c 162
        ∗ ((slotF c (xrV 14) ∗ (if 14 % 2 = 0 then sFly 3 c (14 / 2)
              else iprop(slotC m c (zrV 14) (val m 2 (nb 2 c) 14) fullShare.right ∗ hopV c 14)) ∗ OW c 162) -∗
          WPc c (waitZ2 15 <| waitX2 14 <| sig1 (sig1 (sig1 (sig1 K (pz c) z1C) (pz c) z1C) (px c) x1C) (px c) x1C) Q))
      ⊢ WPc c (waitZ2 15 <| waitX2 14 <| sig1 (sig1 (sig1 (sig1 K (pz c) z1C) (pz c) z1C) (px c) x1C) (px c) x1C) Q from
    wp_waitZ2 m c (waitZ2 15 <| waitX2 14 <| sig1 (sig1 (sig1 (sig1 K (pz c) z1C) (pz c) z1C) (px c) x1C) (px c) x1C) Q 162 (by omega) 14 (by omega))
  isplitr; · iexact Hr
  isplitl [HF]; · iexact HF
  isplitl [X14]; · iexact X14
  isplitl [HO]; · iexact HO
  iintro ⟨X14, HF, HO⟩
  iapply (wp_waitZ2 m c (waitX2 14 <| sig1 (sig1 (sig1 (sig1 K (pz c) z1C) (pz c) z1C) (px c) x1C) (px c) x1C) Q 162 (by omega) 15 (by omega))
  isplitr; · iexact Hr
  isplitl [HF']; · iexact HF'
  isplitl [X15]; · iexact X15
  isplitl [HO]; · iexact HO
  iintro ⟨X15, HF', HO⟩
  iapply (wp_waitX2 m c (sig1 (sig1 (sig1 (sig1 K (pz c) z1C) (pz c) z1C) (px c) x1C) (px c) x1C) Q 162 (by omega) 14 (by omega))
  isplitr; · iexact Hr
  isplitl [HF]; · iexact HF
  isplitl [Z14]; · iexact Z14
  isplitl [HO]; · iexact HO
  iintro ⟨Z14, V14, HO⟩
  iapply (show iprop(recs m ∗ (if 15 % 2 = 0 then sFly 3 c (15 / 2)
              else iprop(slotC m c (zrV 15) (val m 2 (nb 2 c) 15) fullShare.right ∗ hopV c 15))
        ∗ slotC m c (zrV 15) (val m 2 (nb 2 c) 15) fullShare.left ∗ OW c 162
        ∗ ((slotF c (zrV 15) ∗ hopV c 15 ∗ OW c 162) -∗
          WPc c (sig1 (sig1 (sig1 (sig1 K (pz c) z1C) (pz c) z1C) (px c) x1C) (px c) x1C) Q))
      ⊢ WPc c (sig1 (sig1 (sig1 (sig1 K (pz c) z1C) (pz c) z1C) (px c) x1C) (px c) x1C) Q from
    wp_waitX2 m c (sig1 (sig1 (sig1 (sig1 K (pz c) z1C) (pz c) z1C) (px c) x1C) (px c) x1C) Q 162 (by omega) 15 (by omega))
  isplitr; · iexact Hr
  isplitl [HF']; · iexact HF'
  isplitl [Z15]; · iexact Z15
  isplitl [HO]; · iexact HO
  iintro ⟨Z15, V15, HO⟩
  iapply (wp_give m c _ Q 1 14 (by decide))
  isplitr; · iexact Hr
  isplitl [R1]; · iexact R1
  isplitl [G1]; · iexact G1
  isplitl [X14]; · iexact X14
  isplitl [HO]; · iexact HO
  iintro ⟨R1, K1, HO⟩
  iapply (wp_give m c _ Q 1 15 (by decide))
  isplitr; · iexact Hr
  isplitl [R1]; · iexact R1
  isplitl [G1']; · iexact G1'
  isplitl [X15]; · iexact X15
  isplitl [HO]; · iexact HO
  iintro ⟨R1, K1', HO⟩
  iapply (wp_give m c _ Q 2 14 (by decide))
  isplitr; · iexact Hr
  isplitl [R2]; · iexact R2
  isplitl [G2]; · iexact G2
  isplitl [Z14]; · iexact Z14
  isplitl [HO]; · iexact HO
  iintro ⟨R2, K2, HO⟩
  iapply (wp_give m c _ Q 2 15 (by decide))
  isplitr; · iexact Hr
  isplitl [R2]; · iexact R2
  isplitl [G2']; · iexact G2'
  isplitl [Z15]; · iexact Z15
  isplitl [HO]; · iexact HO
  iintro ⟨R2, K2', HO⟩
  iapply Hk
  isplitl [V14 K1 K2]
  · isplitl [V14]; · iexact V14
    isplitl [K1] <;> iassumption
  isplitl [V15 K1' K2']
  · isplitl [V15]; · iexact V15
    isplitl [K1'] <;> iassumption
  iexact HO

/-- What each sequence leaves behind: the semaphores it used at rest, and its finished steps. -/
def endS (c : Dev nD) : sProp 𝕄 := iprop((freeS c 16 ∗ freeS c 17) ∗ bigSep (Finset.range 16) (accS m c) ∗ accS m c 16 ∗ accS m c 17)
def endR (c : Dev nD) : sProp 𝕄 :=
  iprop((semVal ((c : Thread nD τ), .dma (dryS 14)) 0 ∗ semVal ((c : Thread nD τ), .dma (dryS 15)) 0)
    ∗ bigSep (Finset.range 16) (accR m c) ∗ drnR m c 16 ∗ drnR m c 17)
def endX (c : Dev nD) : sProp 𝕄 :=
  iprop((freeX c 14 ∗ freeX c 15) ∗ bigSep (Finset.range 16) (accX m c) ∗ drnX m c 16 ∗ drnX m c 17)
def endD (c : Dev nD) : sProp 𝕄 :=
  iprop((freeD c 16 ∗ freeD c 17) ∗ bigSep (Finset.range 16) (accD m c) ∗ drnD m c 16 ∗ drnD m c 17)
def endL (c : Dev nD) : sProp 𝕄 := iprop((freeL c 48 ∗ freeL c 49) ∗ bigSep (Finset.range 48) (accL m c) ∗ accL m c 48 ∗ accL m c 49)

theorem wp_finalP (c : Dev nD) (Q : PUnit → sProp 𝕄) :
    iprop(recs m ∗ cS m c 16 ∗ crSt 0 c 12 ∗ St m c 16 16 16 ∗ cL m c 48 ∗ crLefts c ∗ OW c 160
        ∗ ((endS m c ∗ endR m c ∗ endX m c ∗ endD m c ∗ endL m c ∗ crVs c ∗ OW c 168) -∗ Q ⟨⟩))
      ⊢ WPc c (finalP c) Q := by
  unfold finalP St cS cR cX cD cL chain
  iintro ⟨#Hr, ⟨S16, S17, -, SA⟩, C0, ⟨⟨⟨R16, R17, -, RA⟩, ⟨E0, C1, C2⟩⟩, ⟨⟨X16, X17, -, XA⟩, ⟨E12, C3, C4⟩⟩, ⟨D16, D17, -, DA⟩⟩,
    ⟨L48, L49, -, LA⟩, HCL, HO, Hk⟩
  iapply (wp_drainS m c _ Q 160 (by omega) 16 (by omega))
  isplitr; · iexact Hr
  isplitl [S16]; · iexact S16
  isplitl [HO]; · iexact HO
  iintro ⟨S16, SA16, HO⟩
  iapply (wp_drainR2 m c _ Q 160 (by omega) 14 (by omega) rfl)
  isplitr; · iexact Hr
  isplitl [R16]; · iexact R16
  isplitl [E0]; · iexact E0
  isplitl [HO]; · iexact HO
  iintro ⟨R16, RA16, E0, HO⟩
  unfold preX
  icases X16 with ⟨FX, FZ, GH⟩
  icases X17 with ⟨FX', FZ', GH'⟩
  iapply (wp_waitDx m c _ Q 161 (by omega) 14)
  isplitr; · iexact Hr
  isplitl [FX]; · iexact FX
  isplitl [HO]; · iexact HO
  iintro ⟨⟨OX, SX⟩, VX, HO⟩
  iapply (wp_waitDz m c _ Q 161 (by omega) 14)
  isplitr; · iexact Hr
  isplitl [FZ]; · iexact FZ
  isplitl [HO]; · iexact HO
  iintro ⟨⟨OZ, SZ⟩, VZ, HO⟩
  iapply (wp_drainS m c _ Q 161 (by omega) 17 (by omega))
  isplitr; · iexact Hr
  isplitl [S17]; · iexact S17
  isplitl [HO]; · iexact HO
  iintro ⟨S17, SA17, HO⟩
  iapply (wp_drainR2 m c _ Q 161 (by omega) 15 (by omega) rfl)
  isplitr; · iexact Hr
  isplitl [R17]; · iexact R17
  isplitl [E0]; · iexact E0
  isplitl [HO]; · iexact HO
  iintro ⟨R17, RA17, E0, HO⟩
  iapply (wp_waitDx m c _ Q 162 (by omega) 15)
  isplitr; · iexact Hr
  isplitl [FX']; · iexact FX'
  isplitl [HO]; · iexact HO
  iintro ⟨⟨OX', SX'⟩, VX', HO⟩
  iapply (wp_waitDz m c _ Q 162 (by omega) 15)
  isplitr; · iexact Hr
  isplitl [FZ']; · iexact FZ'
  isplitl [HO]; · iexact HO
  iintro ⟨⟨OZ', SZ'⟩, VZ', HO⟩
  iapply (wp_finX m c _ Q)
  isplitr; · iexact Hr
  isplitl [SX SZ]
  · isplitl [SX] <;> iassumption
  isplitl [SX' SZ']
  · isplitl [SX'] <;> iassumption
  isplitl [GH]; · iexact GH
  isplitl [GH']; · iexact GH'
  isplitl [E12]; · iexact E12
  isplitl [HO]; · iexact HO
  iintro ⟨XK, XK', HO⟩
  iapply (wp_drainD2 m c _ Q 166 (by omega) 14 (by omega) rfl)
  isplitr; · iexact Hr
  isplitl [D16]; · iexact D16
  isplitl [HO]; · iexact HO
  iintro ⟨D16, DA16, HO⟩
  iapply (wp_drainD2 m c _ Q 167 (by omega) 15 (by omega) rfl)
  isplitr; · iexact Hr
  isplitl [D17]; · iexact D17
  isplitl [HO]; · iexact HO
  iintro ⟨D17, DA17, HO⟩
  iapply (wp_drainL m c _ Q 168 (by omega) 48)
  isplitr; · iexact Hr
  isplitl [L48]; · iexact L48
  isplitl [HO]; · iexact HO
  iintro ⟨L48, LA48, HO⟩
  iapply (wp_drainL m c _ Q 168 (by omega) 49)
  isplitr; · iexact Hr
  isplitl [L49]; · iexact L49
  isplitl [HO]; · iexact HO
  iintro ⟨L49, LA49, HO⟩
  iapply (wp_credits m c _ Q)
  isplitr; · iexact Hr
  isplitl [HCL]; · iexact HCL
  isplitl [C0 C1 C2 C3 C4]
  · unfold crSts
    isplitl [C0]; · iexact C0
    isplitl [C1]; · iexact C1
    isplitl [C2]; · iexact C2
    isplitl [C3]; · iexact C3
    iexact C4
  isplitl [HO]; · iexact HO
  iintro ⟨CV, HO⟩
  unfold WPc
  rw [wp_ret]
  imodintro
  iapply Hk
  isplitl [S16 S17 SA SA16 SA17]
  · unfold endS
    isplitl [S16 S17]
    · isplitl [S16] <;> iassumption
    isplitl [SA]; · iexact SA
    isplitl [SA16] <;> iassumption
  isplitl [R16 R17 RA RA16 RA17]
  · unfold endR
    isplitl [R16 R17]
    · isplitl [R16] <;> iassumption
    isplitl [RA]; · iexact RA
    isplitl [RA16] <;> iassumption
  isplitl [VX VZ VX' VZ' XA OX OZ OX' OZ' XK XK']
  · unfold endX freeX drnX
    isplitl [VX VZ VX' VZ']
    · isplitl [VX VZ]
      · isplitl [VX] <;> iassumption
      isplitl [VX'] <;> iassumption
    isplitl [XA]; · iexact XA
    isplitl [OX OZ XK]
    · isplitl [OX]; · iexact OX
      isplitl [OZ] <;> iassumption
    isplitl [OX']; · iexact OX'
    isplitl [OZ'] <;> iassumption
  isplitl [D16 D17 DA DA16 DA17]
  · unfold endD
    isplitl [D16 D17]
    · isplitl [D16] <;> iassumption
    isplitl [DA]; · iexact DA
    isplitl [DA16] <;> iassumption
  isplitl [L48 L49 LA LA48 LA49]
  · unfold endL
    isplitl [L48 L49]
    · isplitl [L48] <;> iassumption
    isplitl [LA]; · iexact LA
    isplitl [LA48] <;> iassumption
  isplitl [CV] <;> iassumption

end Cert.KernelIdeal.Ag
end
-- ==== Proof.KernelIdeal.Body.lean ====
module

public import Idealize.SL.BI.BigOpNat
public import proofs.«01_k».proof.Proof.KernelIdeal.Final

/-! # The body

The state at the start is dealt to the five sequences, and what they leave is gathered. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## Families -/

theorem fam_in {I : Type} (s : Finset I) (A B : I → sProp 𝕄) : iprop(bigSep s A ∗ bigSep s B) ⊢ bigSep s fun i => iprop(A i ∗ B i) :=
  Entails.of_eq (bigSep_sep s A B).symm
theorem fam_out {I : Type} (s : Finset I) (A B : I → sProp 𝕄) : (bigSep s fun i => iprop(A i ∗ B i)) ⊢ iprop(bigSep s A ∗ bigSep s B) :=
  Entails.of_eq (bigSep_sep s A B)

/-- Families over the even and over the odd numbers. -/
theorem fam_parity (A B : ℕ → sProp 𝕄) : ∀ N : ℕ,
    bigSep (Finset.range (2 * N)) (fun n => if n % 2 = 0 then A (n / 2) else B (n / 2)) ⊢ iprop(bigSep (Finset.range N) A ∗ bigSep (Finset.range N) B)
  | 0 => by
    simp only [Nat.mul_zero, Finset.range_zero, bigSep_empty]
    iintro -
    isplitr
    · iempintro
    · iempintro
  | N + 1 => by
    rw [show 2 * (N + 1) = 2 * N + 1 + 1 by omega, bigSep_range_succ, bigSep_range_succ, bigSep_range_succ, bigSep_range_succ,
      if_neg (by omega), if_pos (by omega), show (2 * N + 1) / 2 = N by omega, show 2 * N / 2 = N by omega]
    iintro ⟨HB, HA, H⟩
    ihave H := (fam_parity A B N) $$ H
    icases H with ⟨H1, H2⟩
    isplitl [HA H1]
    · isplitl [HA] <;> iassumption
    isplitl [HB] <;> iassumption
theorem fam_parity' (A B : ℕ → sProp 𝕄) : ∀ N : ℕ,
    iprop(bigSep (Finset.range N) A ∗ bigSep (Finset.range N) B) ⊢ bigSep (Finset.range (2 * N)) (fun n => if n % 2 = 0 then A (n / 2) else B (n / 2))
  | 0 => by
    simp only [Nat.mul_zero, Finset.range_zero, bigSep_empty]
    iintro -
    iempintro
  | N + 1 => by
    rw [show 2 * (N + 1) = 2 * N + 1 + 1 by omega, bigSep_range_succ, bigSep_range_succ, bigSep_range_succ, bigSep_range_succ,
      if_neg (by omega), if_pos (by omega), show (2 * N + 1) / 2 = N by omega, show 2 * N / 2 = N by omega]
    iintro ⟨⟨HA, H1⟩, HB, H2⟩
    isplitl [HB]; · iexact HB
    isplitl [HA]; · iexact HA
    iapply (fam_parity' A B N)
    isplitl [H1] <;> iassumption
/-- A family of two channels by the parity of the number. -/
theorem fam_chD (A : Fin 5 → ℕ → sProp 𝕄) : bigSep (Finset.range 16) (fun n => A (chD n) (n / 2))
    = bigSep (Finset.range (2 * 8)) (fun n => if n % 2 = 0 then A 3 (n / 2) else A 4 (n / 2)) :=
  bigSep_congr fun n _ => by unfold chD; split <;> rfl

/-- What two more steps leave of a family. -/
theorem fam_shift (A : ℕ → sProp 𝕄) : ∀ N : ℕ, iprop(bigSep (Finset.range N) A ∗ A N ∗ A (N + 1)) ⊢ bigSep (Finset.range N) fun k => A (k + 2)
  | 0 => by
    simp only [Finset.range_zero, bigSep_empty]
    iintro -
    iempintro
  | N + 1 => by
    rw [bigSep_range_succ, bigSep_range_succ]
    iintro ⟨⟨H0, H⟩, H1, H2⟩
    isplitl [H2]; · iexact H2
    iapply (fam_shift A N)
    isplitl [H]; · iexact H
    isplitl [H0] <;> iassumption

/-! ## The start -/

/-- What the sender of chunk `u` holds from the start. -/
def wRest (i : Fin 5) (c : Dev nD) (u : ℕ) : sProp 𝕄 :=
  iprop(writeTok ES ((nb i c, i, u) : Key) 1 ∗ cred (tallyAt (crdC i c) (tC i (u - cW i) + 1) 1))
/-- What a device holds of a channel at the start. -/
def chS (i : Fin 5) (c : Dev nD) : sProp 𝕄 :=
  iprop(bigSep (Finset.range (cN i)) (sPay i c) ∗ bigSep (Finset.range (cN i)) (giveTok i c) ∗ bigSep (Finset.range (cN i)) (rWait i c)
    ∗ bigSep (Finset.Ico (cW i) (cN i)) (wRest i c) ∗ crLeft i c ∗ atPos ER (crdC i c) 0 ∅ 0)
/-- The local semaphores and slots, at rest. -/
def localS (c : Dev nD) : sProp 𝕄 :=
  iprop((freeS c 0 ∗ freeS c 1) ∗ (semVal ((c : Thread nD τ), .dma (dryS 0)) 0 ∗ semVal ((c : Thread nD τ), .dma (dryS 1)) 0)
    ∗ (freeX c 0 ∗ freeX c 1)
    ∗ ((semVal ((c : Thread nD τ), .dma (ddS 0)) 0 ∗ semVal ((c : Thread nD τ), .dma (ddS 2)) 0)
      ∗ (semVal ((c : Thread nD τ), .dma (ddS 1)) 0 ∗ semVal ((c : Thread nD τ), .dma (ddS 3)) 0))
    ∗ (freeL c 0 ∗ freeL c 1))
/-- The blocks of the result, at some contents. -/
def outF (c : Dev nD) : sProp 𝕄 :=
  iprop((bigSep (Finset.range 16) fun k => slotF c (osV c k)) ∗ (bigSep (Finset.range 16) fun k => slotF c (oyV c k))
    ∗ (bigSep (Finset.range 16) fun k => slotF c (oxV c k)) ∗ (bigSep (Finset.range 16) fun k => slotF c (ozV c k))
    ∗ (bigSep (Finset.range 16) fun k => slotF c (odV c k)) ∗ (bigSep (Finset.range 48) fun k => slotF c (olN c k)))
/-- The blocks of the result, at the values that arrive there. -/
def outC (c : Dev nD) : sProp 𝕄 :=
  iprop((bigSep (Finset.range 16) fun k => slotC m c (osV c k) (val m 0 c k) fullShare)
    ∗ (bigSep (Finset.range 16) fun k => slotC m c (oyV c k) (val m 0 (nb 0 c) k) fullShare)
    ∗ (bigSep (Finset.range 16) fun k => slotC m c (oxV c k) (val m 1 (nb 1 c) k) fullShare)
    ∗ (bigSep (Finset.range 16) fun k => slotC m c (ozV c k) (val m 2 (nb 2 c) k) fullShare)
    ∗ (bigSep (Finset.range 16) fun k => slotC m c (odV c k) (val m (chD k) (nb (chD k) c) (k / 2)) fullShare)
    ∗ (bigSep (Finset.range 48) fun k => slotC m c (olN c k) (rdOf m c (xlN c k)) fullShare))

theorem wslots (i : Fin 5) (c : Dev nD) :
    iprop(slotsF i (nb i c) ∗ bigSep (Finset.Ico (cW i) (cN i)) (wRest i c)) ⊢ (bigSep (Finset.range (cN i)) (wslot i c) : sProp 𝕄) := by
  have e : Finset.range (cN i) = Finset.range (cW i) ∪ Finset.Ico (cW i) (cN i) := by
    have := cW_le i
    ext x; simp only [Finset.mem_range, Finset.mem_union, Finset.mem_Ico]; omega
  have h1 : slotsF (F := F) i (nb i c) = bigSep (Finset.range (cW i)) (wslot i c) := by
    unfold slotsF
    exact bigSep_congr fun u hu => by unfold wslot; rw [if_pos (Finset.mem_range.mp hu)]
  have h2 : (bigSep (Finset.Ico (cW i) (cN i)) (wRest i c) : sProp 𝕄) = bigSep (Finset.Ico (cW i) (cN i)) (wslot i c) :=
    bigSep_congr fun u hu => by
      have := (Finset.mem_Ico.mp hu).1
      unfold wslot wRest; rw [if_neg (by omega)]
  rw [h1, h2, e, bigSep_union (Finset.disjoint_left.mpr fun x hx hy => by
    have := Finset.mem_range.mp hx; have := (Finset.mem_Ico.mp hy).1; omega)]
  exact BIBase.Entails.rfl

theorem crSt_zero (i : Fin 5) (c : Dev nD) : atPos ER (crdC i c) 0 ∅ 0 ⊢ (crSt i c 0 : sProp 𝕄) := by
  unfold crSt
  iintro H
  iexists ∅
  isplitr
  · ipureintro
    exact ⟨Finset.empty_subset _, Nat.zero_le _⟩
  isplitl [H]; · iexact H
  rw [bigSep_empty]
  iempintro
theorem relSt_zero (i : Fin 5) (c : Dev nD) : iprop(emp) ⊢ (relSt i c 0 : sProp 𝕄) := by
  unfold relSt
  rw [Finset.range_zero, bigSep_empty]
  exact BIBase.Entails.rfl

theorem chain_start (pre todo acc : ℕ → sProp 𝕄) (N : ℕ) :
    iprop((pre 0 ∗ pre 1) ∗ bigSep (Finset.range N) todo) ⊢ chain pre todo acc N 0 := by
  unfold chain
  rw [Finset.range_zero, bigSep_empty, ← Finset.range_eq_Ico]
  iintro ⟨⟨H0, H1⟩, H⟩
  isplitl [H0]; · iexact H0
  isplitl [H1]; · iexact H1
  isplitl [H]; · iexact H
  iempintro

def startAll (c : Dev nD) : sProp 𝕄 :=
  iprop((chS 0 c ∗ chS 1 c ∗ chS 2 c ∗ chS 3 c ∗ chS 4 c) ∗ outF c ∗ localS c ∗ xW m c)

theorem start_loop (c : Dev nD) : iprop(nbSlots c ∗ startAll m c ∗ OW c 8) ⊢ iprop(LS m c 0 ∗ crLefts c) := by
  unfold nbSlots startAll chS outF localS LS St crLefts
  iintro ⟨⟨B0, B1, B2, B3, B4⟩, ⟨⟨⟨P0, G0, R0, W0, L0, A0⟩, ⟨P1, G1, R1, W1, L1, A1⟩, ⟨P2, G2, R2, W2, L2, A2⟩, ⟨P3, G3, R3, W3, L3, A3⟩,
    ⟨P4, G4, R4, W4, L4, A4⟩⟩, ⟨OS, OY, OX, OZ, OD, OL⟩, ⟨FS, FR, FX, ⟨⟨D0, D2⟩, ⟨D1, D3⟩⟩, FL⟩, HX⟩, HO⟩
  isplitr [L0 L1 L2 L3 L4]
  · isplitl [HX]; · iexact HX
    isplitl [B0 W0 P0 OS FS A0]
    · isplitl [B0 W0 P0 OS FS]
      · iapply (chain_start (preS m c) (todoS c) (accS m c) 16)
        isplitl [FS]; · iexact FS
        unfold todoS
        iapply (fam_in (Finset.range 16) (wslot 0 c) fun n => iprop(sPay 0 c n ∗ slotF c (osV c n)))
        isplitl [B0 W0]
        · iapply (wslots 0 c)
          isplitl [B0] <;> iassumption
        iapply (fam_in (Finset.range 16) (sPay 0 c) fun n => slotF c (osV c n))
        isplitl [P0]; · iexact P0
        iexact OS
      iapply (crSt_zero 0 c) $$ A0
    isplitl [B1 W1 P1 B2 W2 P2 G0 R0 OY FR A1 A2 B3 W3 P3 B4 W4 P4 G1 R1 G2 R2 OX OZ FX A3 A4 G3 R3 G4 R4 OD D0 D1 D2 D3]
    · isplitl [B1 W1 P1 B2 W2 P2 G0 R0 OY FR A1 A2]
      · isplitl [B1 W1 P1 B2 W2 P2 G0 R0 OY FR]
        · iapply (chain_start (preR m c) (todoR c) (accR m c) 16)
          isplitl [FR]; · iexact FR
          unfold todoR
          iapply (fam_in (Finset.range 16) (rWait 0 c) fun n => iprop(giveTok 0 c n ∗ slotF c (oyV c n) ∗ (wslot 1 c n ∗ sPay 1 c n) ∗ (wslot 2 c n ∗ sPay 2 c n)))
          isplitl [R0]; · iexact R0
          iapply (fam_in (Finset.range 16) (giveTok 0 c) fun n => iprop(slotF c (oyV c n) ∗ (wslot 1 c n ∗ sPay 1 c n) ∗ (wslot 2 c n ∗ sPay 2 c n)))
          isplitl [G0]; · iexact G0
          iapply (fam_in (Finset.range 16) (fun n => slotF c (oyV c n)) fun n => iprop((wslot 1 c n ∗ sPay 1 c n) ∗ (wslot 2 c n ∗ sPay 2 c n)))
          isplitl [OY]; · iexact OY
          iapply (fam_in (Finset.range 16) (fun n => iprop(wslot 1 c n ∗ sPay 1 c n)) fun n => iprop(wslot 2 c n ∗ sPay 2 c n))
          isplitl [B1 W1 P1]
          · iapply (fam_in (Finset.range 16) (wslot 1 c) (sPay 1 c))
            isplitl [B1 W1]
            · iapply (wslots 1 c)
              isplitl [B1] <;> iassumption
            iexact P1
          iapply (fam_in (Finset.range 16) (wslot 2 c) (sPay 2 c))
          isplitl [B2 W2]
          · iapply (wslots 2 c)
            isplitl [B2] <;> iassumption
          iexact P2
        isplitr; · iapply (relSt_zero 0 c); iempintro
        isplitl [A1]; · iapply (crSt_zero 1 c) $$ A1
        iapply (crSt_zero 2 c) $$ A2
      isplitl [B3 W3 P3 B4 W4 P4 G1 R1 G2 R2 OX OZ FX A3 A4]
      · isplitl [B3 W3 P3 B4 W4 P4 G1 R1 G2 R2 OX OZ FX]
        · iapply (chain_start (preX m c) (todoX c) (accX m c) 16)
          isplitl [FX]; · iexact FX
          unfold todoX
          iapply (fam_in (Finset.range 16) (rWait 1 c) fun n => iprop(rWait 2 c n ∗ giveTok 1 c n ∗ giveTok 2 c n ∗ slotF c (oxV c n) ∗ slotF c (ozV c n) ∗ hopT c n))
          isplitl [R1]; · iexact R1
          iapply (fam_in (Finset.range 16) (rWait 2 c) fun n => iprop(giveTok 1 c n ∗ giveTok 2 c n ∗ slotF c (oxV c n) ∗ slotF c (ozV c n) ∗ hopT c n))
          isplitl [R2]; · iexact R2
          iapply (fam_in (Finset.range 16) (giveTok 1 c) fun n => iprop(giveTok 2 c n ∗ slotF c (oxV c n) ∗ slotF c (ozV c n) ∗ hopT c n))
          isplitl [G1]; · iexact G1
          iapply (fam_in (Finset.range 16) (giveTok 2 c) fun n => iprop(slotF c (oxV c n) ∗ slotF c (ozV c n) ∗ hopT c n))
          isplitl [G2]; · iexact G2
          iapply (fam_in (Finset.range 16) (fun n => slotF c (oxV c n)) fun n => iprop(slotF c (ozV c n) ∗ hopT c n))
          isplitl [OX]; · iexact OX
          iapply (fam_in (Finset.range 16) (fun n => slotF c (ozV c n)) (hopT c))
          isplitl [OZ]; · iexact OZ
          iapply (show _ ⊢ (bigSep (Finset.range 16) (hopT c) : sProp 𝕄) from
            fam_parity' (fun u => iprop(wslot 3 c u ∗ sPay 3 c u)) (fun u => iprop(wslot 4 c u ∗ sPay 4 c u)) 8)
          isplitl [B3 W3 P3]
          · iapply (fam_in (Finset.range 8) (wslot 3 c) (sPay 3 c))
            isplitl [B3 W3]
            · iapply (wslots 3 c)
              isplitl [B3] <;> iassumption
            iexact P3
          iapply (fam_in (Finset.range 8) (wslot 4 c) (sPay 4 c))
          isplitl [B4 W4]
          · iapply (wslots 4 c)
            isplitl [B4] <;> iassumption
          iexact P4
        isplitr
        · isplitr; · iapply (relSt_zero 1 c); iempintro
          iapply (relSt_zero 2 c); iempintro
        isplitl [A3]; · iapply (crSt_zero 3 c) $$ A3
        iapply (crSt_zero 4 c) $$ A4
      iapply (chain_start (preD m c) (todoD c) (accD m c) 16)
      isplitl [D0 D1 D2 D3]
      · unfold preD
        isplitl [D0 D2]
        · isplitl [D0]; · iexact D0
          isplitl [D2]; · iexact D2
          iapply (relSt_zero (chD 0) c); iempintro
        isplitl [D1]; · iexact D1
        isplitl [D3]; · iexact D3
        iapply (relSt_zero (chD 1) c); iempintro
      unfold todoD
      iapply (fam_in (Finset.range 16) (fun n => rWait (chD n) c (n / 2)) fun n => iprop(giveTok (chD n) c (n / 2) ∗ slotF c (odV c n)))
      isplitl [R3 R4]
      · iapply (Entails.of_eq (fam_chD fun i u => rWait i c u).symm)
        iapply (fam_parity' (rWait 3 c) (rWait 4 c) 8)
        isplitl [R3]; · iexact R3
        iexact R4
      iapply (fam_in (Finset.range 16) (fun n => giveTok (chD n) c (n / 2)) fun n => slotF c (odV c n))
      isplitl [G3 G4]
      · iapply (Entails.of_eq (fam_chD fun i u => giveTok i c u).symm)
        iapply (fam_parity' (giveTok 3 c) (giveTok 4 c) 8)
        isplitl [G3]; · iexact G3
        iexact G4
      iexact OD
    isplitl [OL FL]
    · iapply (chain_start (preL m c) (todoL c) (accL m c) 48)
      isplitl [FL]; · iexact FL
      iexact OL
    iexact HO
  isplitl [L0]; · iexact L0
  isplitl [L1]; · iexact L1
  isplitl [L2]; · iexact L2
  isplitl [L3] <;> iassumption

/-! ## The end -/

/-- What a device holds of a channel at the end. -/
def chE (i : Fin 5) (c : Dev nD) : sProp 𝕄 :=
  iprop((bigSep (Finset.range (cN i)) fun u => semVal (sndC i c u) 0) ∗ (bigSep (Finset.range (cN i)) fun u => semVal (rcvC i c u) 0)
    ∗ bigSep (Finset.range (cN i)) (keep i c) ∗ semVal (crdC i c) 0)
def endAll (c : Dev nD) : sProp 𝕄 :=
  iprop((chE 0 c ∗ chE 1 c ∗ chE 2 c ∗ chE 3 c ∗ chE 4 c) ∗ outC m c ∗ localS c ∗ xW m c)

theorem end_S (c : Dev nD) : endS m c ⊢ iprop((freeS c 0 ∗ freeS c 1)
    ∗ (bigSep (Finset.range 16) fun k => slotC m c (osV c k) (val m 0 c k) fullShare) ∗ bigSep (Finset.range 16) fun u => semVal (sndC 0 c u) 0) := by
  unfold endS
  iintro ⟨HF, HA⟩
  isplitl [HF]; · iexact HF
  iapply (BIBase.Entails.trans (fam_shift (accS m c) 16)
    (fam_out (Finset.range 16) (fun k => slotC m c (osV c k) (val m 0 c k) fullShare) fun u => semVal (sndC 0 c u) 0)) $$ HA
theorem end_L (c : Dev nD) : endL m c ⊢ iprop((freeL c 0 ∗ freeL c 1)
    ∗ (bigSep (Finset.range 48) fun k => slotC m c (olN c k) (rdOf m c (xlN c k)) fullShare)) := by
  unfold endL
  iintro ⟨HF, HA⟩
  isplitl [HF]; · iexact HF
  iapply (fam_shift (accL m c) 48) $$ HA
theorem end_R (c : Dev nD) : endR m c ⊢ iprop((semVal ((c : Thread nD τ), .dma (dryS 0)) 0 ∗ semVal ((c : Thread nD τ), .dma (dryS 1)) 0)
    ∗ (bigSep (Finset.range 16) fun u => semVal (rcvC 0 c u) 0)
    ∗ (bigSep (Finset.range 16) fun k => slotC m c (oyV c k) (val m 0 (nb 0 c) k) fullShare)
    ∗ (bigSep (Finset.range 16) fun u => semVal (sndC 1 c u) 0) ∗ (bigSep (Finset.range 16) fun u => semVal (sndC 2 c u) 0)
    ∗ bigSep (Finset.range 16) (keep 0 c)) := by
  unfold endR accR
  iintro ⟨HF, HA, HD⟩
  isplitl [HF]; · iexact HF
  ihave HA := (fam_out (Finset.range 16) (fun u => semVal (rcvC 0 c u) 0) (drnR m c)) $$ HA
  icases HA with ⟨HV, HA⟩
  isplitl [HV]; · iexact HV
  ihave HA := (BIBase.Entails.trans (fam_shift (drnR m c) 16)
    (fam_out (Finset.range 16) (fun k => slotC m c (oyV c k) (val m 0 (nb 0 c) k) fullShare)
    (fun k => iprop(semVal (sndC 1 c k) 0 ∗ semVal (sndC 2 c k) 0 ∗ keep 0 c k)))) $$ [HA HD]
  · isplitl [HA] <;> iassumption
  icases HA with ⟨HO, HA⟩
  isplitl [HO]; · iexact HO
  ihave HA := (fam_out (Finset.range 16) (fun k => semVal (sndC 1 c k) 0) (fun k => iprop(semVal (sndC 2 c k) 0 ∗ keep 0 c k))) $$ HA
  icases HA with ⟨HO, HA⟩
  isplitl [HO]; · iexact HO
  iapply (fam_out (Finset.range 16) (fun k => semVal (sndC 2 c k) 0) (keep 0 c)) $$ HA
theorem end_X (c : Dev nD) : endX m c ⊢ iprop((freeX c 0 ∗ freeX c 1)
    ∗ (bigSep (Finset.range 16) fun u => semVal (rcvC 1 c u) 0) ∗ (bigSep (Finset.range 16) fun u => semVal (rcvC 2 c u) 0)
    ∗ (bigSep (Finset.range 16) fun k => slotC m c (oxV c k) (val m 1 (nb 1 c) k) fullShare)
    ∗ (bigSep (Finset.range 16) fun k => slotC m c (ozV c k) (val m 2 (nb 2 c) k) fullShare)
    ∗ ((bigSep (Finset.range 8) fun u => semVal (sndC 3 c u) 0) ∗ (bigSep (Finset.range 8) fun u => semVal (sndC 4 c u) 0))
    ∗ bigSep (Finset.range 16) (keep 1 c) ∗ bigSep (Finset.range 16) (keep 2 c)) := by
  unfold endX accX
  iintro ⟨HF, HA, HD⟩
  isplitl [HF]; · iexact HF
  ihave HA := (fam_out (Finset.range 16) (fun u => semVal (rcvC 1 c u) 0) (fun n => iprop(semVal (rcvC 2 c n) 0 ∗ drnX m c n))) $$ HA
  icases HA with ⟨HV, HA⟩
  isplitl [HV]; · iexact HV
  ihave HA := (fam_out (Finset.range 16) (fun u => semVal (rcvC 2 c u) 0) (drnX m c)) $$ HA
  icases HA with ⟨HV, HA⟩
  isplitl [HV]; · iexact HV
  ihave HA := (BIBase.Entails.trans (fam_shift (drnX m c) 16)
    (fam_out (Finset.range 16) (fun k => slotC m c (oxV c k) (val m 1 (nb 1 c) k) fullShare)
    (fun k => iprop(slotC m c (ozV c k) (val m 2 (nb 2 c) k) fullShare ∗ hopV c k ∗ keep 1 c k ∗ keep 2 c k)))) $$ [HA HD]
  · isplitl [HA] <;> iassumption
  icases HA with ⟨HO, HA⟩
  isplitl [HO]; · iexact HO
  ihave HA := (fam_out (Finset.range 16) (fun k => slotC m c (ozV c k) (val m 2 (nb 2 c) k) fullShare)
    (fun k => iprop(hopV c k ∗ keep 1 c k ∗ keep 2 c k))) $$ HA
  icases HA with ⟨HO, HA⟩
  isplitl [HO]; · iexact HO
  ihave HA := (fam_out (Finset.range 16) (hopV c) (fun k => iprop(keep 1 c k ∗ keep 2 c k))) $$ HA
  icases HA with ⟨HO, HA⟩
  isplitl [HO]
  · iapply (show (bigSep (Finset.range 16) (hopV c) : sProp 𝕄) ⊢ _ from
      fam_parity (fun u => semVal (sndC 3 c u) 0) (fun u => semVal (sndC 4 c u) 0) 8) $$ HO
  iapply (fam_out (Finset.range 16) (keep 1 c) (keep 2 c)) $$ HA
theorem end_D (c : Dev nD) : endD m c ⊢ iprop(((semVal ((c : Thread nD τ), .dma (ddS 0)) 0 ∗ semVal ((c : Thread nD τ), .dma (ddS 2)) 0)
      ∗ (semVal ((c : Thread nD τ), .dma (ddS 1)) 0 ∗ semVal ((c : Thread nD τ), .dma (ddS 3)) 0))
    ∗ ((bigSep (Finset.range 8) fun u => semVal (rcvC 3 c u) 0) ∗ (bigSep (Finset.range 8) fun u => semVal (rcvC 4 c u) 0))
    ∗ (bigSep (Finset.range 16) fun k => slotC m c (odV c k) (val m (chD k) (nb (chD k) c) (k / 2)) fullShare)
    ∗ (bigSep (Finset.range 8) (keep 3 c) ∗ bigSep (Finset.range 8) (keep 4 c))) := by
  unfold endD accD freeD
  iintro ⟨⟨⟨F0, F2, -⟩, ⟨F1, F3, -⟩⟩, HA, HD⟩
  isplitl [F0 F1 F2 F3]
  · isplitl [F0 F2]
    · isplitl [F0]; · iexact F0
      iexact F2
    isplitl [F1]; · iexact F1
    iexact F3
  ihave HA := (fam_out (Finset.range 16) (fun n => semVal (rcvC (chD n) c (n / 2)) 0) (drnD m c)) $$ HA
  icases HA with ⟨HV, HA⟩
  isplitl [HV]
  · iapply (fam_parity (fun u => semVal (rcvC 3 c u) 0) (fun u => semVal (rcvC 4 c u) 0) 8)
    iapply (Entails.of_eq (fam_chD fun i u => semVal (rcvC i c u) 0)) $$ HV
  ihave HA := (BIBase.Entails.trans (fam_shift (drnD m c) 16)
    (fam_out (Finset.range 16) (fun k => slotC m c (odV c k) (val m (chD k) (nb (chD k) c) (k / 2)) fullShare)
    (fun k => keep (chD k) c (k / 2)))) $$ [HA HD]
  · isplitl [HA] <;> iassumption
  icases HA with ⟨HO, HA⟩
  isplitl [HO]; · iexact HO
  iapply (fam_parity (keep 3 c) (keep 4 c) 8)
  iapply (Entails.of_eq (fam_chD fun i u => keep i c u)) $$ HA

theorem end_all (c : Dev nD) : iprop(endS m c ∗ endR m c ∗ endX m c ∗ endD m c ∗ endL m c ∗ crVs c ∗ xW m c) ⊢ endAll m c := by
  unfold endAll chE outC localS crVs
  iintro ⟨HS, HR, HX, HD, HL, ⟨V0, V1, V2, V3, V4⟩, Hx⟩
  ihave HS := (end_S m c) $$ HS
  icases HS with ⟨FS, OS, S0⟩
  ihave HR := (end_R m c) $$ HR
  icases HR with ⟨FR, R0, OY, S1, S2, K0⟩
  ihave HX := (end_X m c) $$ HX
  icases HX with ⟨FX, R1, R2, OX, OZ, ⟨S3, S4⟩, K1, K2⟩
  ihave HD := (end_D m c) $$ HD
  icases HD with ⟨FD, ⟨R3, R4⟩, OD, K3, K4⟩
  ihave HL := (end_L m c) $$ HL
  icases HL with ⟨FL, OL⟩
  isplitl [S0 S1 S2 S3 S4 R0 R1 R2 R3 R4 K0 K1 K2 K3 K4 V0 V1 V2 V3 V4]
  · isplitl [S0 R0 K0 V0]
    · isplitl [S0]; · iexact S0
      isplitl [R0]; · iexact R0
      isplitl [K0]; · iexact K0
      iexact V0
    isplitl [S1 R1 K1 V1]
    · isplitl [S1]; · iexact S1
      isplitl [R1]; · iexact R1
      isplitl [K1]; · iexact K1
      iexact V1
    isplitl [S2 R2 K2 V2]
    · isplitl [S2]; · iexact S2
      isplitl [R2]; · iexact R2
      isplitl [K2]; · iexact K2
      iexact V2
    isplitl [S3 R3 K3 V3]
    · isplitl [S3]; · iexact S3
      isplitl [R3]; · iexact R3
      isplitl [K3]; · iexact K3
      iexact V3
    isplitl [S4]; · iexact S4
    isplitl [R4]; · iexact R4
    isplitl [K4]; · iexact K4
    iexact V4
  isplitl [OS OY OX OZ OD OL]
  · isplitl [OS]; · iexact OS
    isplitl [OY]; · iexact OY
    isplitl [OX]; · iexact OX
    isplitl [OZ]; · iexact OZ
    isplitl [OD] <;> iassumption
  isplitl [FS FR FX FD FL]
  · isplitl [FS]; · iexact FS
    isplitl [FR]; · iexact FR
    isplitl [FX]; · iexact FX
    isplitl [FD] <;> iassumption
  iexact Hx

/-! ## The body -/

/-- The whole body: from the state at the start to the result in place and every semaphore at rest. -/
theorem wp_bodyP (c : Dev nD) (Q : PUnit → sProp 𝕄) :
    iprop(recs m ∗ barTok c ∗ mySlots c ∗ startAll m c ∗ OW c 0 ∗ ((endAll m c ∗ semVal (barC c) 0 ∗ OW c 168) -∗ Q ⟨⟩))
      ⊢ WPc c (bodyP c) Q := by
  unfold bodyP
  iintro ⟨#Hr, HB, HM, HS, HO, Hk⟩
  iapply (wp_bar m c _ Q)
  isplitr; · iexact Hr
  isplitl [HB]; · iexact HB
  isplitl [HM]; · iexact HM
  isplitl [HO]; · iexact HO
  iintro ⟨HN, HV, HO⟩
  ihave H := (start_loop m c) $$ [HN HS HO]
  · isplitl [HN]; · iexact HN
    isplitl [HS] <;> iassumption
  icases H with ⟨HL, HC⟩
  iapply (wp_iters m c _ Q 16 0 (by omega))
  isplitr; · iexact Hr
  isplitl [HL]; · iexact HL
  iintro HL
  unfold LS
  icases HL with ⟨Hx, ⟨HS, H0⟩, HSt, HL, HO⟩
  iapply (wp_tail m c _ Q)
  isplitr; · iexact Hr
  isplitl [HSt]; · iexact HSt
  isplitl [HO]; · iexact HO
  iintro ⟨HSt, HO⟩
  iapply (wp_finalP m c Q)
  isplitr; · iexact Hr
  isplitl [HS]; · iexact HS
  isplitl [H0]; · iexact H0
  isplitl [HSt]; · iexact HSt
  isplitl [HL]; · iexact HL
  isplitl [HC]; · iexact HC
  isplitl [HO]; · iexact HO
  iintro ⟨ES, ER, EX, ED, EL, EV, HO⟩
  iapply Hk
  isplitl [ES ER EX ED EL EV Hx]
  · iapply (end_all m c)
    isplitl [ES]; · iexact ES
    isplitl [ER]; · iexact ER
    isplitl [EX]; · iexact EX
    isplitl [ED]; · iexact ED
    isplitl [EL]; · iexact EL
    isplitl [EV] <;> iassumption
  isplitl [HV] <;> iassumption

end Cert.KernelIdeal.Ag
end
-- ==== Proof.KernelIdeal.Sems.lean ====
module

public import proofs.«01_k».proof.Proof.KernelIdeal.Body

/-! # The semaphores of a device

All the semaphores of a device sorted by use: channel by channel, the local copies, the entry handshake. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## All the semaphores of a device, by use -/

/-- The semaphores of a channel: its send and receive semaphores, then its credit semaphore. -/
def chL (i : Fin 5) : List (SemLoc sig) :=
  ((List.range (cN i)).map fun u => .dma (ssS i u)) ++ (((List.range (cN i)).map fun u => .dma (rsS i u)) ++ [.reg (crS i)])
/-- The semaphores of the local copies. -/
def locL : List (SemLoc sig) :=
  [.dma (ldS 0), .dma (ldS 1), .dma (stS 0), .dma (stS 1), .dma (dryS 0), .dma (dryS 1), .dma (dx1S 0), .dma (dx1S 1), .dma (dz1S 0), .dma (dz1S 1),
    .dma (dx2S 0), .dma (dx2S 1), .dma (dz2S 0), .dma (dz2S 1), .dma (llS 0), .dma (llS 1), .dma (lsS 0), .dma (lsS 1)]
/-- All of them. -/
def semL : List (SemLoc sig) := chL 0 ++ (chL 1 ++ (chL 2 ++ (chL 3 ++ (chL 4 ++ (locL ++ [.reg barS])))))

theorem semL_univ : (Finset.univ : Finset (SemLoc sig)) = semL.toFinset := by decide +kernel
theorem semL_nodup : semL.Nodup := by decide +kernel

/-- Two resources that entail each other are one. -/
theorem ent_antisymm {P Q : sProp 𝕄} (h₁ : P ⊢ Q) (h₂ : Q ⊢ P) : P = Q := BI.equiv_iff.mp ⟨h₁, h₂⟩
theorem sep_swap_eq (P Q : sProp 𝕄) : iprop(P ∗ Q) = iprop(Q ∗ P) := BI.equiv_iff.mp ⟨BI.sep_comm, BI.sep_comm⟩

/-- Families side by side and under entailment. -/
theorem fam_sep {I : Type} (s : Finset I) (A B : I → sProp 𝕄) : (bigSep s fun i => iprop(A i ∗ B i)) = iprop(bigSep s A ∗ bigSep s B) :=
  bigSep_sep s A B
theorem fam_mono {I : Type} (s : Finset I) {A B : I → sProp 𝕄} (h : ∀ i ∈ s, A i ⊢ B i) : bigSep s A ⊢ bigSep s B := bigSep_mono h

/-- A family over pairs is a family of families. -/
theorem fam_prod {A B : Type} [DecidableEq A] [DecidableEq B] (s : Finset A) (t : Finset B) (Φ : A × B → sProp 𝕄) :
    bigSep (s ×ˢ t) Φ = bigSep s fun a => bigSep t fun b => Φ (a, b) := by
  induction s using Finset.induction_on with
  | empty => rfl
  | insert a s ha ih =>
    have e : insert a s ×ˢ t = t.map ⟨fun b => (a, b), fun x y h => (Prod.mk.inj h).2⟩ ∪ s ×ˢ t := by
      ext ⟨x, y⟩
      rw [Finset.mem_product, Finset.mem_union, Finset.mem_product, Finset.mem_map, Finset.mem_insert]
      constructor
      · rintro ⟨h, hy⟩
        rcases h with h | h
        · exact .inl ⟨y, hy, by rw [show x = a from h]; rfl⟩
        · exact .inr ⟨h, hy⟩
      · rintro (⟨b, hb, h⟩ | ⟨h, hy⟩)
        · have h1 : a = x := (Prod.mk.inj h).1
          have h2 : b = y := (Prod.mk.inj h).2
          exact ⟨.inl h1.symm, h2 ▸ hb⟩
        · exact ⟨.inr h, hy⟩
    have hd : Disjoint (t.map ⟨fun b => (a, b), fun x y h => (Prod.mk.inj h).2⟩) (s ×ˢ t) := by
      rw [Finset.disjoint_left]
      rintro ⟨x, y⟩ h1 h2
      obtain ⟨b, -, hb⟩ := Finset.mem_map.mp h1
      exact ha ((Prod.mk.inj hb).1 ▸ (Finset.mem_product.mp h2).1)
    rw [e, bigSep_union hd, bigSep_insert ha, ih, bigSep_map]
    rfl

theorem bs_append {I : Type} [DecidableEq I] (l l' : List I) (h : (l ++ l').Nodup) (Ψ : I → sProp 𝕄) :
    bigSep (l ++ l').toFinset Ψ = iprop(bigSep l.toFinset Ψ ∗ bigSep l'.toFinset Ψ) := by
  rw [List.toFinset_append, bigSep_union (List.disjoint_toFinset_iff_disjoint.mpr (List.disjoint_of_nodup_append h))]
  rfl
theorem bs_single {I : Type} [DecidableEq I] (a : I) (Ψ : I → sProp 𝕄) : bigSep [a].toFinset Ψ = Ψ a := by
  rw [show [a].toFinset = {a} by simp, bigSep_singleton]
theorem bs_range {I : Type} [DecidableEq I] (f : ℕ → I) (Ψ : I → sProp 𝕄) : ∀ n : ℕ, ((List.range n).map f).Nodup →
    bigSep ((List.range n).map f).toFinset Ψ = bigSep (Finset.range n) fun u => Ψ (f u)
  | 0, _ => rfl
  | n + 1, h => by
    rw [List.range_succ, List.map_append] at h ⊢
    rw [bs_append _ _ h, bs_range f Ψ n (List.Nodup.of_append_left h), bigSep_range_succ]
    rw [show List.map f [n] = [f n] from rfl, bs_single]
    exact sep_swap_eq _ _

/-- A family over a channel's semaphores. -/
def chF (Ψ : SemLoc sig → sProp 𝕄) (i : Fin 5) : sProp 𝕄 :=
  iprop((bigSep (Finset.range (cN i)) fun u => Ψ (.dma (ssS i u))) ∗ (bigSep (Finset.range (cN i)) fun u => Ψ (.dma (rsS i u))) ∗ Ψ (.reg (crS i)))
/-- A family over the local copies' semaphores. -/
def locF (Ψ : SemLoc sig → sProp 𝕄) : sProp 𝕄 :=
  iprop(Ψ (.dma (ldS 0)) ∗ Ψ (.dma (ldS 1)) ∗ Ψ (.dma (stS 0)) ∗ Ψ (.dma (stS 1)) ∗ Ψ (.dma (dryS 0)) ∗ Ψ (.dma (dryS 1)) ∗ Ψ (.dma (dx1S 0)) ∗ Ψ (.dma (dx1S 1)) ∗ Ψ (.dma (dz1S 0)) ∗ Ψ (.dma (dz1S 1)) ∗ Ψ (.dma (dx2S 0)) ∗ Ψ (.dma (dx2S 1)) ∗ Ψ (.dma (dz2S 0)) ∗ Ψ (.dma (dz2S 1)) ∗ Ψ (.dma (llS 0)) ∗ Ψ (.dma (llS 1)) ∗ Ψ (.dma (lsS 0)) ∗ Ψ (.dma (lsS 1)))
theorem locF_eq (Ψ : SemLoc sig → sProp 𝕄) : locF Ψ = bigSepL locL Ψ := rfl

theorem bs_ch (i : Fin 5) (h : (chL i).Nodup) (Ψ : SemLoc sig → sProp 𝕄) : bigSep (chL i).toFinset Ψ = chF Ψ i := by
  unfold chL at h ⊢
  have h2 := List.Nodup.of_append_right h
  rw [bs_append _ _ h, bs_append _ _ h2, bs_range _ _ _ (List.Nodup.of_append_left h), bs_range _ _ _ (List.Nodup.of_append_left h2), bs_single]
  rfl

theorem fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A family over all semaphores: channel by channel, the local ones, the barrier. -/
theorem sems_split (Ψ : SemLoc sig → sProp 𝕄) :
    bigSep Finset.univ Ψ = iprop((chF Ψ 0 ∗ chF Ψ 1 ∗ chF Ψ 2 ∗ chF Ψ 3 ∗ chF Ψ 4) ∗ locF Ψ ∗ Ψ (.reg barS)) := by
  have h0 := semL_nodup
  rw [semL_univ]
  unfold semL at h0 ⊢
  have h1 := List.Nodup.of_append_right h0
  have h2 := List.Nodup.of_append_right h1
  have h3 := List.Nodup.of_append_right h2
  have h4 := List.Nodup.of_append_right h3
  have h5 := List.Nodup.of_append_right h4
  rw [bs_append _ _ h0, bs_append _ _ h1, bs_append _ _ h2, bs_append _ _ h3, bs_append _ _ h4, bs_append _ _ h5,
    bs_ch 0 (List.Nodup.of_append_left h0), bs_ch 1 (List.Nodup.of_append_left h1), bs_ch 2 (List.Nodup.of_append_left h2),
    bs_ch 3 (List.Nodup.of_append_left h3), bs_ch 4 (List.Nodup.of_append_left h4), bs_single,
    bigSep_eq_bigSepL locL (List.Nodup.of_append_left h5) Ψ, ← locF_eq]
  refine ent_antisymm ?_ ?_
  · iintro ⟨H0, H1, H2, H3, H4, H5, H6⟩
    isplitl [H0 H1 H2 H3 H4]
    · isplitl [H0]; · iexact H0
      isplitl [H1]; · iexact H1
      isplitl [H2]; · iexact H2
      isplitl [H3]; · iexact H3
      iexact H4
    isplitl [H5]; · iexact H5
    iexact H6
  · iintro ⟨⟨H0, H1, H2, H3, H4⟩, H5, H6⟩
    isplitl [H0]; · iexact H0
    isplitl [H1]; · iexact H1
    isplitl [H2]; · iexact H2
    isplitl [H3]; · iexact H3
    isplitl [H4]; · iexact H4
    isplitl [H5]; · iexact H5
    iexact H6

theorem loc_other : ∀ sm ∈ locL, isProt sm = false := by decide +kernel

/-- The kernel's own semaphores: all that are not the launch's. -/
abbrev OwnSem : Type := {sm : SemLoc sig // sm.isScoped .tc = true}
def osem (k : OwnSem) : SemLoc sig := k.1
theorem ownSemFacts : Pipeline.OwnSemFacts cfg0.spec osem where
  isScoped k := k.2
  inj := Subtype.val_injective
  disj := fun _ w => w.elim0

theorem all_sems (c : Dev nD) :
    iprop(Pipeline.ownSems0 osem c ∗ unscopedSems0 c) = (bigSep Finset.univ fun sm : SemLoc sig => semVal ((c : Thread nD τ), sm) 0 : sProp 𝕄) := by
  rw [bigSep_filter_split Finset.univ (fun sm : SemLoc sig => sm.isScoped .tc = true), ← bigSep_subtype]
  rfl

/-- The counters of the local copies' semaphores. -/
def locV (c : Dev nD) : sProp 𝕄 := locF fun sm => semVal ((c : Thread nD τ), sm) 0
/-- The slots that stay with their device. -/
def locSlots (c : Dev nD) : sProp 𝕄 := iprop((slotF c (ysV 0) ∗ slotF c (ysV 1)) ∗ (slotF c (lcV 0) ∗ slotF c (lcV 1)))

theorem localS_eq (c : Dev nD) : localS c = (iprop(locV c ∗ locSlots c) : sProp 𝕄) := by
  unfold localS freeS freeX freeL locSlots locV locF
  refine ent_antisymm ?_ ?_
  · iintro ⟨⟨⟨Y0, S0, L0⟩, ⟨Y1, S1, L1⟩⟩, ⟨R0, R1⟩, ⟨⟨X0, Z0⟩, ⟨X1, Z1⟩⟩, ⟨⟨D0, D2⟩, ⟨D1, D3⟩⟩, ⟨⟨C0, M0, N0⟩, ⟨C1, M1, N1⟩⟩⟩
    isplitr [Y0 Y1 C0 C1]
    · isplitl [L0]; · iexact L0
      isplitl [L1]; · iexact L1
      isplitl [S0]; · iexact S0
      isplitl [S1]; · iexact S1
      isplitl [R0]; · iexact R0
      isplitl [R1]; · iexact R1
      isplitl [X0]; · iexact X0
      isplitl [X1]; · iexact X1
      isplitl [Z0]; · iexact Z0
      isplitl [Z1]; · iexact Z1
      isplitl [D0]; · iexact D0
      isplitl [D2]; · iexact D2
      isplitl [D1]; · iexact D1
      isplitl [D3]; · iexact D3
      isplitl [N0]; · iexact N0
      isplitl [N1]; · iexact N1
      isplitl [M0]; · iexact M0
      iexact M1
    isplitl [Y0 Y1]
    · isplitl [Y0]; · iexact Y0
      iexact Y1
    isplitl [C0]; · iexact C0
    iexact C1
  · iintro ⟨⟨L0, L1, S0, S1, R0, R1, X0, X1, Z0, Z1, D0, D2, D1, D3, N0, N1, M0, M1⟩, ⟨Y0, Y1⟩, C0, C1⟩
    isplitl [Y0 S0 L0 Y1 S1 L1]
    · isplitl [Y0 S0 L0]
      · isplitl [Y0]; · iexact Y0
        isplitl [S0]; · iexact S0
        iexact L0
      isplitl [Y1]; · iexact Y1
      isplitl [S1]; · iexact S1
      iexact L1
    isplitl [R0 R1]
    · isplitl [R0]; · iexact R0
      iexact R1
    isplitl [X0 Z0 X1 Z1]
    · isplitl [X0 Z0]
      · isplitl [X0]; · iexact X0
        iexact Z0
      isplitl [X1]; · iexact X1
      iexact Z1
    isplitl [D0 D2 D1 D3]
    · isplitl [D0 D2]
      · isplitl [D0]; · iexact D0
        iexact D2
      isplitl [D1]; · iexact D1
      iexact D3
    isplitl [C0 M0 N0]
    · isplitl [C0]; · iexact C0
      isplitl [M0]; · iexact M0
      iexact N0
    isplitl [C1]; · iexact C1
    isplitl [M1]; · iexact M1
    iexact N1

/-- The protocol's semaphores: channel by channel and the barrier. -/
theorem prot_split (Ψ : SemLoc sig → sProp 𝕄) :
    bigSep prot Ψ = iprop((chF Ψ 0 ∗ chF Ψ 1 ∗ chF Ψ 2 ∗ chF Ψ 3 ∗ chF Ψ 4) ∗ Ψ (.reg barS)) := by
  unfold prot
  rw [bigSep_filter, sems_split]
  have hc : ∀ i, chF (fun sm => if isProt sm = true then Ψ sm else iprop(emp)) i = chF Ψ i := fun i => by
    unfold chF
    beta_reduce
    rw [if_pos (show isProt (.reg (crS i)) = true by unfold isProt; rw [role_cr]; rfl)]
    congr 1
    · exact bigSep_congr fun u hu => if_pos (by unfold isProt; rw [role_ss i u (Finset.mem_range.mp hu)]; rfl)
    congr 1
    exact bigSep_congr fun u hu => if_pos (by unfold isProt; rw [role_rs i u (Finset.mem_range.mp hu)]; rfl)
  have hl : locF (fun sm => if isProt sm = true then Ψ sm else iprop(emp)) = (bigSep locL.toFinset fun _ => iprop(emp) : sProp 𝕄) := by
    rw [locF_eq, ← bigSep_eq_bigSepL locL (by decide +kernel)]
    exact bigSep_congr fun sm h => if_neg (by rw [loc_other sm (List.mem_toFinset.mp h)]; exact Bool.false_ne_true)
  have hc' : ∀ i, chF (fun sm => if isProt sm = true then Ψ sm else BI.emp) i = chF Ψ i := hc
  have hl' : locF (fun sm => if isProt sm = true then Ψ sm else BI.emp) = (bigSep locL.toFinset fun _ => BI.emp : sProp 𝕄) := hl
  rw [hc', hc', hc', hc', hc', hl', bigSep_emp_const, if_pos (show isProt (.reg barS) = true by unfold isProt; rw [role_bar]; rfl)]
  refine ent_antisymm ?_ ?_
  · iintro ⟨H, -, HB⟩
    isplitl [H]; · iexact H
    iexact HB
  · iintro ⟨H, HB⟩
    isplitl [H]; · iexact H
    isplitr; · iempintro
    iexact HB

end Cert.KernelIdeal.Ag
end
-- ==== Proof.KernelIdeal.Ghost.lean ====
module

public import proofs.«01_k».proof.Proof.KernelIdeal.Sems

/-! # The launch tokens

What the cells of every device start with, dealt to the devices that use it. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## What a device's own cells start with -/

theorem dut_lt (R : Role) : dut R ⊆ Finset.range 16 := by
  cases R with
  | snd i u => exact fun x h => by rw [Finset.mem_singleton.mp h]; decide
  | rcv i u => exact fun x h => by rw [Finset.mem_singleton.mp h]; decide
  | crd i => exact Finset.range_subset_range.mpr (cN_le i)
  | bar => exact Finset.range_subset_range.mpr (by decide)
  | other => exact Finset.empty_subset _

/-- The duty tokens, one per cell of the protocol and duty of it. -/
def toks : Finset (GSem nD τ sig × ℕ × ℕ) :=
  (((Finset.univ ×ˢ prot) ×ˢ Finset.range 16).filter fun x : (Dev nD × SemLoc sig) × ℕ => x.2 ∈ dut (role x.1.2)).map
    ⟨fun x => (((x.1.1 : Thread nD τ), x.1.2), 0, x.2), fun a b h => by
      have h1 := congrArg (fun g : GSem nD τ sig × ℕ × ℕ => g.1.1.1) h
      have h2 := congrArg (fun g : GSem nD τ sig × ℕ × ℕ => g.1.2) h
      have h3 := congrArg (fun g : GSem nD τ sig × ℕ × ℕ => g.2.2) h
      exact Prod.ext (Prod.ext h1 h2) h3⟩

theorem cells_eq (Φ : GSem nD τ sig → sProp 𝕄) :
    bigSep cells Φ = bigSep Finset.univ fun c : Dev nD => bigSep prot fun sm => Φ ((c : Thread nD τ), sm) := by
  unfold cells
  rw [bigSep_map, fam_prod]
  rfl
theorem toks_eq (Φ : GSem nD τ sig × ℕ × ℕ → sProp 𝕄) :
    bigSep toks Φ = bigSep Finset.univ fun c : Dev nD => bigSep prot fun sm => bigSep (dut (role sm)) fun d => Φ (((c : Thread nD τ), sm), 0, d) := by
  unfold toks
  rw [bigSep_map, bigSep_filter, fam_prod, fam_prod]
  refine bigSep_congr fun c _ => bigSep_congr fun sm _ => ?_
  have e : ((Finset.range 16).filter fun b => b ∈ dut (role sm)) = dut (role sm) := by
    rw [Finset.filter_mem_eq_inter, Finset.inter_eq_right.mpr (dut_lt _)]
  rw [← bigSep_filter]
  exact congrArg (fun s => bigSep s fun d => Φ (((c : Thread nD τ), sm), 0, d)) e

/-- A cell's tokens and its reader's position. -/
def ownC (c : Dev nD) (sm : SemLoc sig) : sProp 𝕄 :=
  iprop((bigSep (dut (role sm)) fun d => dutyTok ER ((c : Thread nD τ), sm) 0 d) ∗ atPos ER ((c : Thread nD τ), sm) 0 ∅ 0)

/-- A family over the slots of a device that are used again. -/
def keyF (Φ : Key → sProp 𝕄) (c : Dev nD) (i : Fin 5) : sProp 𝕄 := bigSep (Finset.Ico (cW i) (cN i)) fun u => Φ (c, i, u)
def keys5 (Φ : Key → sProp 𝕄) (c : Dev nD) : sProp 𝕄 := iprop(keyF Φ c 0 ∗ keyF Φ c 1 ∗ keyF Φ c 2 ∗ keyF Φ c 3 ∗ keyF Φ c 4)
theorem keys_out (Φ : Key → sProp 𝕄) :
    bigSep keys Φ ⊢ bigSep Finset.univ (keys5 Φ) := by
  unfold keys keys5
  rw [fam_prod]
  refine fam_mono _ fun c _ => ?_
  rw [fam_prod, ← fin5 (fun i => keyF Φ c i)]
  refine fam_mono _ fun i _ => bigSep_subset ?_
  intro u hu
  have := cN_le i
  rw [Finset.mem_Ico] at hu
  exact Finset.mem_range.mpr (by omega)

/-! ## What is dealt -/

/-- What a channel's cells start with and stays. -/
def chA (i : Fin 5) (c : Dev nD) : sProp 𝕄 :=
  iprop((bigSep (Finset.range (cN i)) fun u => dutyTok ER (sndC i c u) 0 0) ∗ (bigSep (Finset.range (cN i)) fun u => atPos ER (sndC i c u) 0 ∅ 0)
    ∗ (bigSep (Finset.range (cN i)) fun u => atPos ER (rcvC i c u) 0 ∅ 0) ∗ atPos ER (crdC i c) 0 ∅ 0 ∗ keyF (fun k => readerAt ES k 0) c i)
/-- What goes to the other end. -/
def chB (i : Fin 5) (c : Dev nD) : sProp 𝕄 :=
  iprop((bigSep (Finset.range (cN i)) fun u => dutyTok ER (rcvC i c u) 0 0) ∗ (bigSep (Finset.range (cN i)) fun u => dutyTok ER (crdC i c) 0 u)
    ∗ keyF (fun k => writeTok ES k 1) c i)
/-- What a device has of a channel before its credits. -/
def chG (i : Fin 5) (c : Dev nD) : sProp 𝕄 :=
  iprop(bigSep (Finset.range (cN i)) (sPay i c) ∗ bigSep (Finset.range (cN i)) (giveTok i c)
    ∗ (bigSep (Finset.range (cN i)) fun u => atPos ER (rcvC i c u) 0 ∅ 0)
    ∗ keyF (fun k => writeTok ES k 1) (nb i c) i ∗ atPos ER (crdC i c) 0 ∅ 0)

theorem chF_out (i : Fin 5) (c : Dev nD) :
    iprop(chF (ownC c) i ∗ keyF (fun k => readerAt ES k 0) c i ∗ keyF (fun k => writeTok ES k 1) c i) ⊢ (iprop(chA i c ∗ chB i c) : sProp 𝕄) := by
  have hs : (bigSep (Finset.range (cN i)) fun u => ownC (F := F) c (.dma (ssS i u)))
      = iprop((bigSep (Finset.range (cN i)) fun u => dutyTok ER (sndC i c u) 0 0) ∗ bigSep (Finset.range (cN i)) fun u => atPos ER (sndC i c u) 0 ∅ 0) := by
    refine Eq.trans (bigSep_congr fun u hu => ?_) (fam_sep _ (fun u => dutyTok ER (sndC i c u) 0 0) fun u => atPos ER (sndC i c u) 0 ∅ 0)
    unfold ownC
    rw [role_ss i u (Finset.mem_range.mp hu)]
    show iprop(bigSep {0} _ ∗ _) = _
    rw [bigSep_singleton]
  have hr : (bigSep (Finset.range (cN i)) fun u => ownC (F := F) c (.dma (rsS i u)))
      = iprop((bigSep (Finset.range (cN i)) fun u => dutyTok ER (rcvC i c u) 0 0) ∗ bigSep (Finset.range (cN i)) fun u => atPos ER (rcvC i c u) 0 ∅ 0) := by
    refine Eq.trans (bigSep_congr fun u hu => ?_) (fam_sep _ (fun u => dutyTok ER (rcvC i c u) 0 0) fun u => atPos ER (rcvC i c u) 0 ∅ 0)
    unfold ownC
    rw [role_rs i u (Finset.mem_range.mp hu)]
    show iprop(bigSep {0} _ ∗ _) = _
    rw [bigSep_singleton]
  have hc : ownC (F := F) c (.reg (crS i)) = iprop((bigSep (Finset.range (cN i)) fun u => dutyTok ER (crdC i c) 0 u) ∗ atPos ER (crdC i c) 0 ∅ 0) := by
    unfold ownC
    rw [role_cr i]
    rfl
  unfold chF chA chB
  rw [hs, hr, hc]
  iintro ⟨⟨⟨T0, A0⟩, ⟨T1, A1⟩, T2, A2⟩, HR, HW⟩
  isplitl [T0 A0 A1 A2 HR]
  · isplitl [T0]; · iexact T0
    isplitl [A0]; · iexact A0
    isplitl [A1]; · iexact A1
    isplitl [A2]; · iexact A2
    iexact HR
  isplitl [T1]; · iexact T1
  isplitl [T2]; · iexact T2
  iexact HW

/-- The readers' counts, listed by the chunk that returns the slot. -/
theorem readers_shift (i : Fin 5) (c : Dev nD) :
    keyF (fun k => readerAt ES k 0) c i
      = (bigSep (Finset.range (cN i)) fun u => if u + cW i < cN i then readerAt ES ((c, i, u + cW i) : Key) 0 else iprop(emp) : sProp 𝕄) := by
  have e : Finset.Ico (cW i) (cN i) = ((Finset.range (cN i)).filter fun u => u + cW i < cN i).map (addRightEmbedding (cW i)) := by
    ext x
    simp only [Finset.mem_Ico, Finset.mem_map, Finset.mem_filter, Finset.mem_range, addRightEmbedding_apply]
    constructor
    · rintro ⟨h1, h2⟩
      exact ⟨x - cW i, ⟨by omega, by omega⟩, by omega⟩
    · rintro ⟨u, ⟨h1, h2⟩, rfl⟩
      exact ⟨by omega, h2⟩
  unfold keyF
  rw [e, bigSep_map, bigSep_filter]
  rfl

theorem chG_intro (i : Fin 5) (c : Dev nD) : iprop(chA i c ∗ chB i (nb i c)) ⊢ (chG i c : sProp 𝕄) := by
  have hg := fam_sep (Finset.range (cN i)) (fun u => (dutyTok ER (crdC i (nb i c)) 0 u : sProp 𝕄))
    (fun u => if u + cW i < cN i then readerAt ES ((c, i, u + cW i) : Key) 0 else iprop(emp))
  have hs := fam_sep (Finset.range (cN i)) (fun u => (dutyTok ER (sndC i c u) 0 0 : sProp 𝕄))
    (fun u => iprop(dutyTok ER (rcvC i (nb i c) u) 0 0 ∗ atPos ER (sndC i c u) 0 ∅ 0))
  have hs' := fam_sep (Finset.range (cN i)) (fun u => (dutyTok ER (rcvC i (nb i c) u) 0 0 : sProp 𝕄))
    (fun u => atPos ER (sndC i c u) 0 ∅ 0)
  unfold chA chB chG sPay giveTok
  rw [readers_shift, hs, hs', hg]
  iintro ⟨⟨T0, A0, A1, A2, HR⟩, T1, T2, HW⟩
  isplitl [T0 T1 A0]
  · isplitl [T0]; · iexact T0
    isplitl [T1]; · iexact T1
    iexact A0
  isplitl [T2 HR]
  · isplitl [T2]; · iexact T2
    iexact HR
  isplitl [A1]; · iexact A1
  isplitl [HW]; · iexact HW
  iexact A2

/-- The two ends of a channel, exchanged. -/
def nbE (i : Fin 5) : Dev nD ≃ Dev nD := ⟨nb i, nb i, nb_nb i, nb_nb i⟩
theorem fam_nb (i : Fin 5) (Φ : Dev nD → sProp 𝕄) : bigSep Finset.univ Φ = bigSep Finset.univ fun c => Φ (nb i c) :=
  bigSep_univ_equiv (nbE i) Φ

theorem deal_ch (i : Fin 5) : (bigSep Finset.univ fun c : Dev nD => iprop(chA i c ∗ chB i c)) ⊢ (bigSep Finset.univ (chG i) : sProp 𝕄) := by
  rw [fam_sep Finset.univ (chA i) (chB i), fam_nb i (chB i)]
  refine BIBase.Entails.trans (fam_in Finset.univ (chA i) fun c => chB i (nb i c)) ?_
  exact fam_mono _ fun c _ => chG_intro i c

/-- The handshake's tokens at their owner and where they are used. -/
def barA (c : Dev nD) : sProp 𝕄 :=
  iprop((dutyTok ER (barC c) 0 0 ∗ dutyTok ER (barC c) 0 1 ∗ dutyTok ER (barC c) 0 2) ∗ atPos ER (barC c) 0 ∅ 0)
def barG (c : Dev nD) : sProp 𝕄 :=
  iprop((dutyTok ER (barC (nb 0 c)) 0 0 ∗ dutyTok ER (barC (nb 1 c)) 0 1 ∗ dutyTok ER (barC (nb 2 c)) 0 2) ∗ atPos ER (barC c) 0 ∅ 0)
theorem barA_eq (c : Dev nD) : ownC c (.reg barS) ⊢ (barA c : sProp 𝕄) := by
  unfold ownC barA
  rw [role_bar]
  show iprop(bigSep (Finset.range 3) _ ∗ _) ⊢ _
  rw [bigSep_range_succ, bigSep_range_succ, bigSep_range_succ, Finset.range_zero, bigSep_empty]
  iintro ⟨⟨T2, T1, T0, -⟩, HA⟩
  isplitr [HA]
  · isplitl [T0]; · iexact T0
    isplitl [T1]; · iexact T1
    iexact T2
  iexact HA
theorem deal_bar : (bigSep Finset.univ barA : sProp 𝕄) ⊢ bigSep Finset.univ barG := by
  have e1 : (bigSep Finset.univ barA : sProp 𝕄) = iprop(((bigSep Finset.univ fun c => dutyTok ER (barC c) 0 0)
      ∗ (bigSep Finset.univ fun c => dutyTok ER (barC c) 0 1) ∗ (bigSep Finset.univ fun c => dutyTok ER (barC c) 0 2)) ∗ bigSep Finset.univ fun c => atPos ER (barC c) 0 ∅ 0) := by
    unfold barA
    rw [← fam_sep, ← fam_sep, ← fam_sep]
  have e2 : (bigSep Finset.univ barG : sProp 𝕄) = iprop(((bigSep Finset.univ fun c => dutyTok ER (barC (nb 0 c)) 0 0)
      ∗ (bigSep Finset.univ fun c => dutyTok ER (barC (nb 1 c)) 0 1) ∗ (bigSep Finset.univ fun c => dutyTok ER (barC (nb 2 c)) 0 2)) ∗ bigSep Finset.univ fun c => atPos ER (barC c) 0 ∅ 0) := by
    unfold barG
    rw [← fam_sep, ← fam_sep, ← fam_sep]
  rw [e1, e2, fam_nb 0 (fun c => (dutyTok ER (barC c) 0 0 : sProp 𝕄)), fam_nb 1 (fun c => (dutyTok ER (barC c) 0 1 : sProp 𝕄)),
    fam_nb 2 (fun c => (dutyTok ER (barC c) 0 2 : sProp 𝕄))]

/-- What a device has before its credits. -/
def dealt (c : Dev nD) : sProp 𝕄 := iprop((chG 0 c ∗ chG 1 c ∗ chG 2 c ∗ chG 3 c ∗ chG 4 c) ∗ barG c)

/-- Five families side by side. -/
theorem fam_five {I : Type} (S : Finset I) (A B C D E : I → sProp 𝕄) :
    (bigSep S fun c => iprop(A c ∗ B c ∗ C c ∗ D c ∗ E c)) = iprop(bigSep S A ∗ bigSep S B ∗ bigSep S C ∗ bigSep S D ∗ bigSep S E) := by
  rw [← fam_sep, ← fam_sep, ← fam_sep, ← fam_sep]

theorem deal_all :
    iprop((bigSep Finset.univ fun c : Dev nD => bigSep prot (ownC c)) ∗ bigSep keys (fun k => readerAt ES k 0) ∗ bigSep keys (fun k => writeTok ES k 1))
      ⊢ (bigSep Finset.univ dealt : sProp 𝕄) := by
  have e : (bigSep Finset.univ dealt : sProp 𝕄) = iprop((bigSep Finset.univ (chG 0) ∗ bigSep Finset.univ (chG 1) ∗ bigSep Finset.univ (chG 2)
      ∗ bigSep Finset.univ (chG 3) ∗ bigSep Finset.univ (chG 4)) ∗ bigSep Finset.univ barG) := by
    unfold dealt
    rw [← fam_five, ← fam_sep]
  rw [e]
  iintro ⟨HO, HR, HW⟩
  ihave HR := (keys_out (fun k => readerAt ES k 0)) $$ HR
  ihave HW := (keys_out (fun k => writeTok ES k 1)) $$ HW
  ihave HK := (fam_in Finset.univ (keys5 fun k => readerAt ES k 0) (keys5 fun k => writeTok ES k 1)) $$ [HR HW]
  · isplitl [HR]; · iexact HR
    iexact HW
  ihave H := (BIBase.Entails.trans (fam_in Finset.univ (fun c : Dev nD => bigSep prot (ownC c)) fun c => iprop(keys5 (fun k => readerAt ES k 0) c ∗ keys5 (fun k => writeTok ES k 1) c))
      (fam_mono Finset.univ (B := fun c => iprop(((chA 0 c ∗ chB 0 c) ∗ (chA 1 c ∗ chB 1 c) ∗ (chA 2 c ∗ chB 2 c) ∗ (chA 3 c ∗ chB 3 c) ∗ (chA 4 c ∗ chB 4 c)) ∗ barA c)) fun c _ => by
        rw [prot_split]
        unfold keys5
        iintro ⟨⟨⟨F0, F1, F2, F3, F4⟩, FB⟩, ⟨R0, R1, R2, R3, R4⟩, W0, W1, W2, W3, W4⟩
        isplitr [FB]
        · isplitl [F0 R0 W0]
          · iapply (chF_out 0 c)
            isplitl [F0]; · iexact F0
            isplitl [R0]; · iexact R0
            iexact W0
          isplitl [F1 R1 W1]
          · iapply (chF_out 1 c)
            isplitl [F1]; · iexact F1
            isplitl [R1]; · iexact R1
            iexact W1
          isplitl [F2 R2 W2]
          · iapply (chF_out 2 c)
            isplitl [F2]; · iexact F2
            isplitl [R2]; · iexact R2
            iexact W2
          isplitl [F3 R3 W3]
          · iapply (chF_out 3 c)
            isplitl [F3]; · iexact F3
            isplitl [R3]; · iexact R3
            iexact W3
          iapply (chF_out 4 c)
          isplitl [F4]; · iexact F4
          isplitl [R4]; · iexact R4
          iexact W4
        iapply (barA_eq c) $$ FB)) $$ [HO HK]
  · isplitl [HO]; · iexact HO
    iexact HK
  ihave H := (fam_out Finset.univ (fun c : Dev nD => iprop((chA 0 c ∗ chB 0 c) ∗ (chA 1 c ∗ chB 1 c) ∗ (chA 2 c ∗ chB 2 c) ∗ (chA 3 c ∗ chB 3 c) ∗ (chA 4 c ∗ chB 4 c))) barA) $$ H
  icases H with ⟨H, HB⟩
  ihave H := (Entails.of_eq (fam_five Finset.univ (fun c : Dev nD => iprop(chA 0 c ∗ chB 0 c)) (fun c => iprop(chA 1 c ∗ chB 1 c)) (fun c => iprop(chA 2 c ∗ chB 2 c))
      (fun c => iprop(chA 3 c ∗ chB 3 c)) (fun c => iprop(chA 4 c ∗ chB 4 c)))) $$ H
  icases H with ⟨H0, H1, H2, H3, H4⟩
  isplitr [HB]
  · isplitl [H0]; · iapply (deal_ch 0) $$ H0
    isplitl [H1]; · iapply (deal_ch 1) $$ H1
    isplitl [H2]; · iapply (deal_ch 2) $$ H2
    isplitl [H3]; · iapply (deal_ch 3) $$ H3
    iapply (deal_ch 4) $$ H4
  iapply deal_bar $$ HB

end Cert.KernelIdeal.Ag
end
-- ==== Proof.KernelIdeal.Fund.lean ====
module

public import proofs.«01_k».proof.Proof.KernelIdeal.Ghost
public import proofs.«01_k».proof.Proof.Gen.KernelIdeal.Launch

/-! # The global step at launch

The cells and slots are put under their invariants, and every device gets the standing facts and its tokens. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## The launch element and the global step -/

/-- The standing facts without the levels. -/
def recs0 : sProp 𝕄 :=
  iprop((bigSep cells fun g => iprop((∃ κ : ℕ, cellInv ER (rd m) κ g) ∗ reached ER g 0))
    ∗ bigSep keys fun k => iprop(∃ κ : ℕ, slotInv ES κ k (slotK k)))
instance recs0_persistent : BI.Persistent (recs0 (F := F) m) := by unfold recs0; infer_instance
theorem recs_intro : iprop(recs0 m ∗ levs (F := F)) ⊢ recs m := by
  unfold recs0 recs
  iintro ⟨⟨H1, H2⟩, H3⟩
  isplitl [H1]; · iexact H1
  isplitl [H2]; · iexact H2
  iexact H3

/-- Everything the launch element pays for. -/
def allG : sProp 𝕄 :=
  iprop(bigSep cells (fun g => roundState ER (rd m) g 0) ∗ bigSep cells (fun g => reached ER g 0) ∗ bigSep cells (fun g => atPos ER g 0 ∅ 0)
    ∗ bigSep toks (fun x => dutyTok ER x.1 x.2.1 x.2.2) ∗ BI.own (ES (initSlots keys 1)))
/-- It is handed to the first device; the global step deals it. -/
def G (c : Dev nD) : sProp 𝕄 := if c = 0 then allG m else iprop(emp)
/-- What the global step gives a device. -/
def G' (c : Dev nD) : sProp 𝕄 := iprop(recs0 m ∗ dealt c ∗ locV c)

def uB : UB × UC := (initOf cells toks, (initSlots keys 1, 1))
def u₀ : UU := (initOf (Pipeline.cells cfgs cellOf_inj) (Pipeline.launchToks cfgs cellOf_inj), uB)

theorem fund_all : BI.own ((embR : Emb (UB × UC) 𝕄) uB) ⊢ (|==> bigSep Finset.univ (G m) : sProp 𝕄) := by
  unfold uB
  iintro H
  ihave H := (own_pair_emb (embR : Emb (UB × UC) 𝕄) _ _) $$ H
  icases H with ⟨HB, HC⟩
  ihave HC := (own_pair_emb ((Emb.inr : Emb UC (UB × UC)).trans (embR : Emb (UB × UC) 𝕄)) _ _) $$ HC
  icases HC with ⟨HS, -⟩
  ihave HB := (Entails.of_eq (show BI.own (((Emb.inl : Emb UB (UB × UC)).trans (embR : Emb (UB × UC) 𝕄)) (initOf cells toks)) = BI.own (ER (initOf cells toks)) from rfl)) $$ HB
  imod (Rounds.fund ER (rd m) cells toks) $$ HB with ⟨H1, H2, H3, H4⟩
  imodintro
  rw [bigSep_univ_at (G m) 0]
  isplitl
  · unfold G
    rw [if_pos rfl]
    unfold allG
    isplitl [H1]; · iexact H1
    isplitl [H2]; · iexact H2
    isplitl [H3]; · iexact H3
    isplitl [H4]; · iexact H4
    iexact HS
  · rw [show bigSep (Finset.univ.erase (0 : Dev nD)) (G m) = bigSep (Finset.univ.erase (0 : Dev nD)) fun _ => (iprop(emp) : sProp 𝕄) from
      bigSep_congr fun c hc => by unfold G; rw [if_neg (Finset.ne_of_mem_erase hc)]]
    rw [show (bigSep (Finset.univ.erase (0 : Dev nD)) fun _ => (iprop(emp) : sProp 𝕄)) = iprop(emp) from bigSep_emp_const _]
    iempintro

/-- A device's counters: those of the protocol and those of its local copies. -/
theorem sems_out (c : Dev nD) :
    iprop(Pipeline.ownSems0 osem c ∗ unscopedSems0 c ∗ G m c)
      ⊢ iprop((bigSep prot fun sm => semVal ((c : Thread nD τ), sm) 0) ∗ locV c ∗ G m c) := by
  have e := all_sems (F := F) c
  rw [sems_split] at e
  rw [prot_split]
  iintro ⟨H1, H2, HG⟩
  ihave H := (Entails.of_eq e) $$ [H1 H2]
  · isplitl [H1]; · iexact H1
    iexact H2
  icases H with ⟨HC, HL, HB⟩
  isplitl [HC HB]
  · isplitl [HC]; · iexact HC
    iexact HB
  isplitl [HL]; · unfold locV; iexact HL
  iexact HG

/-- A standing fact beside a family goes to each of its members. -/
theorem fam_with {I : Type} [DecidableEq I] (S : Finset I) {R : sProp 𝕄} [BI.Persistent R] {Φ Ψ : I → sProp 𝕄}
    (h : ∀ i ∈ S, iprop(R ∗ Φ i) ⊢ Ψ i) : iprop(R ∗ bigSep S Φ) ⊢ bigSep S Ψ := by
  refine BIBase.Entails.trans ?_ (fam_mono S h)
  rw [fam_sep]
  iintro ⟨HR, H⟩
  isplitl [HR]; · iapply (BI.bigSep_of_persistent S R) $$ HR
  iexact H

theorem cells_alloc : iprop(bigSep cells (fun g => semVal g 0) ∗ bigSep cells (fun g => roundState ER (rd m) g 0))
    ⊢ (|={Set.univ}=> bigSep cells fun g => iprop(∃ κ : ℕ, cellInv ER (rd m) κ g) : sProp 𝕄) := by
  rw [← fam_sep]
  refine BIBase.Entails.trans (fam_mono cells fun g _ => ?_) (bigSep_fupd _ _)
  exact BIBase.Entails.trans (Rounds.body_intro ER (rd m) g) inv_alloc

theorem glob : (bigSep Finset.univ fun c => iprop(Pipeline.ownSems0 osem c ∗ unscopedSems0 c ∗ G m c) : sProp 𝕄)
    ⊢ |={Set.univ}=> bigSep Finset.univ (G' m) := by
  refine BIBase.Entails.trans (fam_mono Finset.univ fun c _ => sems_out m c) ?_
  rw [fam_sep Finset.univ (fun c : Dev nD => bigSep prot fun sm => semVal ((c : Thread nD τ), sm) 0) fun c => iprop(locV c ∗ G m c),
    fam_sep Finset.univ locV (G m), ← cells_eq fun g => semVal g 0]
  iintro ⟨HV, HL, HG⟩
  ihave HG := (BIBase.Entails.trans (bigSep_elim (Φ := G m) (Finset.mem_univ (0 : Dev nD))) (Entails.of_eq (show G m 0 = allG m from if_pos rfl))) $$ HG
  unfold allG
  icases HG with ⟨HR, #Hr, HA, HT, HS⟩
  imod (cells_alloc m) $$ [HV HR] with HI
  · isplitl [HV]; · iexact HV
    iexact HR
  imod (slots_init ES keys 1 (slotK (F := F))) $$ HS with ⟨%ιs, -, HK, HRd, HW⟩
  imodintro
  ihave HK := (fam_mono keys (A := fun k => slotInv ES (ιs k) k (slotK (F := F) k)) (B := fun k => iprop(∃ κ : ℕ, slotInv ES κ k (slotK (F := F) k)))
    fun k _ => by
      iintro H
      iexists (ιs k)
      iexact H) $$ HK
  ihave HW := (Entails.of_eq (show (bigSep (keys ×ˢ Finset.range 1) fun x => writeTok ES x.1 (x.2 + 1)) = (bigSep keys fun k => writeTok ES k 1 : sProp 𝕄) from by
    rw [fam_prod]
    refine bigSep_congr fun k _ => ?_
    rw [bigSep_range_succ, Finset.range_zero, bigSep_empty]
    exact ent_antisymm (by iintro ⟨H, -⟩; iexact H) (by iintro H; isplitl; · iexact H
                                                        iempintro))) $$ HW
  ihave HO := (fam_in Finset.univ (fun c : Dev nD => bigSep prot fun sm => bigSep (dut (role sm)) fun d => dutyTok ER ((c : Thread nD τ), sm) 0 d)
    (fun c : Dev nD => bigSep prot fun sm => atPos ER ((c : Thread nD τ), sm) 0 ∅ 0)) $$ [HT HA]
  · isplitl [HT]
    · iapply (Entails.of_eq (toks_eq fun x => dutyTok ER x.1 x.2.1 x.2.2)) $$ HT
    · iapply (Entails.of_eq (cells_eq fun g => atPos ER g 0 ∅ 0)) $$ HA
  ihave HO := (fam_mono Finset.univ (B := fun c : Dev nD => bigSep prot (ownC c)) fun c _ =>
    fam_in prot (fun sm => bigSep (dut (role sm)) fun d => dutyTok ER ((c : Thread nD τ), sm) 0 d) fun sm => atPos ER ((c : Thread nD τ), sm) 0 ∅ 0) $$ HO
  ihave HD := deal_all $$ [HO HRd HW]
  · isplitl [HO]; · iexact HO
    isplitl [HRd]; · iexact HRd
    iexact HW
  ihave HD := (fam_in Finset.univ dealt locV) $$ [HD HL]
  · isplitl [HD]; · iexact HD
    iexact HL
  iapply (fam_with Finset.univ (R := recs0 m) (Φ := fun c => iprop(dealt c ∗ locV c)) fun c _ => by
    unfold G'
    exact BIBase.Entails.rfl)
  isplitr [HD]
  · unfold recs0
    isplitl [HI]
    · iapply (fam_in cells (fun g => iprop(∃ κ : ℕ, cellInv ER (rd m) κ g)) fun g => reached ER g 0)
      isplitl [HI]; · iexact HI
      iexact Hr
    iexact HK
  iexact HD

end Cert.KernelIdeal.Ag
end
-- ==== Proof.KernelIdeal.Credit.lean ====
module

public import proofs.«01_k».proof.Proof.KernelIdeal.Ghost

/-! # The launch credit

What all devices owe at launch, as credits at the devices it is owed to. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## The launch credit -/

/-- Launch credit of a sum. -/
theorem launchCred_sum {P : Type} [DecidableEq P] (S : Finset P) (T : P → Dev nD → CellTallies nD τ sig ℕ) (c : Dev nD) :
    (Pipeline.launchCred (fun d => ∑ p ∈ S, T p d) c : sProp 𝕄) = bigSep S fun p => Pipeline.launchCred (T p) c := by
  induction S using Finset.induction_on with
  | empty =>
    simp only [Finset.sum_empty]
    rw [Pipeline.launchCred_zero, bigSep_empty]
    rfl
  | insert a S ha ih =>
    rw [bigSep_insert ha, ← ih, show (fun d => ∑ p ∈ insert a S, T p d) = fun d => T a d + (∑ p ∈ S, T p d) from funext fun d => Finset.sum_insert ha,
      Pipeline.launchCred_add]
    rfl

/-- What each device owes its neighbour is a credit at each device. -/
theorem launchCred_pay (p : Pay) (c : Dev nD) :
    (Pipeline.launchCred (fun d => p.tally d) c : sProp 𝕄) ⊢ cred (tallyAt ((c : Thread nD τ), p.sm) (p.tm + 1) p.am) := by
  have e : tallyOn ((c : Thread nD τ), p.sm) (launchCredit (Pipeline.owing fun d => p.tally d) 0 ((c : Thread nD τ), p.sm))
      = (tallyAt ((c : Thread nD τ), p.sm) (p.tm + 1) p.am : CellTallies nD τ sig ℕ) := by
    unfold tallyAt
    refine congrArg _ (Finsupp.ext fun u => ?_)
    rw [Pipeline.launchCredit_owing, Finsupp.single_apply]
    have h : ∀ d : Dev nD, p.tally d ((c : Thread nD τ), p.sm) u = if d = nb p.2.1 c then (if p.tm + 1 = u then p.am else 0) else 0 := fun d => by
      unfold Pay.tally
      rw [tallyAt_apply]
      by_cases hd : d = nb p.2.1 c
      · rw [if_pos hd, hd, nb_nb]
        by_cases hu : p.tm + 1 = u
        · rw [if_pos ⟨rfl, hu.symm⟩, if_pos hu]
        · rw [if_neg fun h => hu h.2.symm, if_neg hu]
      · rw [if_neg hd, if_neg]
        rintro ⟨h, -⟩
        have h1 : c = nb p.2.1 d := congrArg (fun g : GSem nD τ sig => g.1.1) h
        exact hd (by rw [h1, nb_nb])
    rw [Finset.sum_congr rfl fun d _ => h d, Finset.sum_ite_eq' Finset.univ (nb p.2.1 c), if_pos (Finset.mem_univ _)]
  rw [← e]
  unfold Pipeline.launchCred
  exact bigSep_elim (Φ := fun sm : SemLoc sig => cred (tallyOn ((c : Thread nD τ), sm) (launchCredit (Pipeline.owing fun d => p.tally d) 0 ((c : Thread nD τ), sm)))) (Finset.mem_univ p.sm)

/-- The credits by kind. -/
def crB (c : Dev nD) : sProp 𝕄 := bigSep (Finset.range 3) fun j => cred (tallyAt (barC c) (j + 1) 1)
def crR (i : Fin 5) (c : Dev nD) : sProp 𝕄 := bigSep (Finset.range (cN i)) fun u => cred (tallyAt (rcvC i c u) (tS i u + 1) NB)
def crC (i : Fin 5) (c : Dev nD) : sProp 𝕄 := bigSep (Finset.range (cN i)) fun u => cred (tallyAt (crdC i c) (tC i u + 1) 1)

/-- A family over sixteen numbers, cut off. -/
theorem fam_fin16 (n : ℕ) (hn : n ≤ 16) (A : ℕ → sProp 𝕄) :
    (bigSep (Finset.univ : Finset (Fin 16)) fun u => if u.val < n then A u.val else iprop(emp)) = bigSep (Finset.range n) A := by
  have e : Finset.range n = ((Finset.univ : Finset (Fin 16)).filter fun u => u.val < n).map Fin.valEmbedding := by
    ext x
    simp only [Finset.mem_range, Finset.mem_map, Finset.mem_filter, Finset.mem_univ, true_and, Fin.valEmbedding_apply]
    exact ⟨fun h => ⟨⟨x, by omega⟩, h, rfl⟩, fun ⟨u, h, hu⟩ => hu ▸ h⟩
  rw [e, bigSep_map, bigSep_filter]
  rfl

/-- A payment's credit at its receiver. -/
def payC (c : Dev nD) (p : Pay) : sProp 𝕄 := cred (tallyAt ((c : Thread nD τ), p.sm) (p.tm + 1) p.am)

theorem creds_all (c : Dev nD) : (Pipeline.launchCred (fun d => O d 0) c : sProp 𝕄)
    ⊢ iprop(crB c ∗ (bigSep Finset.univ fun i => crR i c) ∗ bigSep Finset.univ fun i => crC i c) := by
  have h1 : (Pipeline.launchCred (fun d => O d 0) c : sProp 𝕄) ⊢ bigSep (pays 0) (payC c) := by
    rw [show (fun d => O d 0) = fun d => ∑ p ∈ pays 0, Pay.tally d p from rfl, launchCred_sum (pays 0) fun p d => p.tally d]
    exact fam_mono _ fun p _ => launchCred_pay p c
  refine BIBase.Entails.trans h1 ?_
  have e : pays 0 = Finset.univ.filter fun p : Pay => p.ok = true := by
    unfold pays
    exact Finset.filter_congr fun p _ => ⟨fun h => h.1, fun h => ⟨h, Nat.zero_le _⟩⟩
  rw [e, bigSep_filter, bigSep_univ_prod,
    bigSep_univ_eq_bigSepL [0, 1, 2] (by decide) (by decide)]
  have hR : (bigSep Finset.univ fun b : Fin 5 × Fin 16 => if Pay.ok (1, b) = true then payC (F := F) c (1, b) else BI.emp) = bigSep Finset.univ fun i => crR i c := by
    rw [bigSep_univ_prod]
    refine bigSep_congr fun i _ => ?_
    unfold crR
    rw [← fam_fin16 (cN i) (cN_le i)]
    refine bigSep_congr fun u _ => ?_
    by_cases h : u.val < cN i
    · rw [if_pos h, if_pos (show Pay.ok (1, i, u) = true from decide_eq_true h)]; rfl
    · rw [if_neg h, if_neg (show ¬ Pay.ok (1, i, u) = true from fun h' => h (of_decide_eq_true h'))]; rfl
  have hC : (bigSep Finset.univ fun b : Fin 5 × Fin 16 => if Pay.ok (2, b) = true then payC (F := F) c (2, b) else BI.emp) = bigSep Finset.univ fun i => crC i c := by
    rw [bigSep_univ_prod]
    refine bigSep_congr fun i _ => ?_
    unfold crC
    rw [← fam_fin16 (cN i) (cN_le i)]
    refine bigSep_congr fun u _ => ?_
    by_cases h : u.val < cN i
    · rw [if_pos h, if_pos (show Pay.ok (2, i, u) = true from decide_eq_true h)]; rfl
    · rw [if_neg h, if_neg (show ¬ Pay.ok (2, i, u) = true from fun h' => h (of_decide_eq_true h'))]; rfl
  have hB : (bigSep Finset.univ fun b : Fin 5 × Fin 16 => if Pay.ok (0, b) = true then payC (F := F) c (0, b) else BI.emp) ⊢ crB c := by
    rw [bigSep_univ_prod]
    refine BIBase.Entails.trans (fam_mono _ (B := fun i : Fin 5 => if i.val < 3 then cred (tallyAt (barC c) (i.val + 1) 1) else iprop(emp)) fun i _ => ?_) ?_
    · refine BIBase.Entails.trans (bigSep_elim (Φ := fun u : Fin 16 => if Pay.ok (0, (i, u)) = true then payC (F := F) c (0, (i, u)) else BI.emp) (Finset.mem_univ (0 : Fin 16))) ?_
      by_cases h : i.val < 3
      · rw [if_pos h, if_pos (show Pay.ok (0, i, 0) = true from decide_eq_true ⟨h, rfl⟩)]; exact BIBase.Entails.rfl
      · rw [if_neg h]; iintro -; iempintro
    · rw [fin5]
      unfold crB
      rw [bigSep_range_succ, bigSep_range_succ, bigSep_range_succ, Finset.range_zero, bigSep_empty]
      rw [if_pos (show (0 : Fin 5).val < 3 by decide), if_pos (show (1 : Fin 5).val < 3 by decide), if_pos (show (2 : Fin 5).val < 3 by decide)]
      iintro ⟨H0, H1, H2, -, -⟩
      isplitl [H2]; · iexact H2
      isplitl [H1]; · iexact H1
      isplitl [H0]; · iexact H0
      iempintro
  exact BI.sep_mono hB (BI.sep_mono (Entails.of_eq hR) (Entails.of_eq hC))

/-- A channel's credits by the slot they allow to be written again, and the last ones. -/
theorem crC_out (i : Fin 5) (c : Dev nD) :
    crC i c ⊢ (iprop((bigSep (Finset.Ico (cW i) (cN i)) fun u => cred (tallyAt (crdC i c) (tC i (u - cW i) + 1) 1)) ∗ crLeft i c) : sProp 𝕄) := by
  have hW := cW_le i
  have e : Finset.range (cN i) = ((Finset.Ico (cW i) (cN i)).image fun u => u - cW i) ∪ (Finset.range (cW i)).map (addLeftEmbedding (cN i - cW i)) := by
    ext x
    simp only [Finset.mem_range, Finset.mem_union, Finset.mem_image, Finset.mem_Ico, Finset.mem_map, addLeftEmbedding_apply]
    constructor
    · intro h
      by_cases hx : x < cN i - cW i
      · exact .inl ⟨x + cW i, ⟨by omega, by omega⟩, by omega⟩
      · exact .inr ⟨x - (cN i - cW i), by omega, by omega⟩
    · rintro (⟨u, ⟨h1, h2⟩, rfl⟩ | ⟨j, h1, rfl⟩) <;> omega
  have e2 : Finset.Ico (cW i) (cN i) = (Finset.range (cN i - cW i)).map (addRightEmbedding (cW i)) := by
    ext x
    simp only [Finset.mem_range, Finset.mem_Ico, Finset.mem_map, addRightEmbedding_apply]
    exact ⟨fun h => ⟨x - cW i, by omega, by omega⟩, fun ⟨u, h, hu⟩ => by omega⟩
  have e1 : ((Finset.Ico (cW i) (cN i)).image fun u => u - cW i) = Finset.range (cN i - cW i) := by
    ext x
    simp only [Finset.mem_range, Finset.mem_Ico, Finset.mem_image]
    exact ⟨fun ⟨u, h, hu⟩ => by omega, fun h => ⟨x + cW i, by omega, by omega⟩⟩
  have hd : Disjoint (Finset.range (cN i - cW i)) ((Finset.range (cW i)).map (addLeftEmbedding (cN i - cW i))) := by
    rw [Finset.disjoint_left]
    intro x h1 h2
    simp only [Finset.mem_range, Finset.mem_map, addLeftEmbedding_apply] at h1 h2
    obtain ⟨j, hj, rfl⟩ := h2
    omega
  unfold crC crLeft
  rw [e, e1, bigSep_union hd, bigSep_map, e2, bigSep_map]
  refine BIBase.Entails.trans (BI.sep_mono_l (fam_mono (Finset.range (cN i - cW i)) (B := fun u => cred (tallyAt (crdC i c) (tC i (u + cW i - cW i) + 1) 1)) fun u _ => ?_)) BIBase.Entails.rfl
  rw [Nat.add_sub_cancel]

/-- A channel at the start: its tokens and its credits. -/
theorem chS_intro (i : Fin 5) (c : Dev nD) : iprop(chG i c ∗ crR i c ∗ crC i c) ⊢ (chS i c : sProp 𝕄) := by
  have hr := fam_sep (Finset.range (cN i)) (fun u => (cred (tallyAt (rcvC i c u) (tS i u + 1) NB) : sProp 𝕄)) fun u => atPos ER (rcvC i c u) 0 ∅ 0
  have hw := fam_sep (Finset.Ico (cW i) (cN i)) (fun u => (writeTok ES ((nb i c, i, u) : Key) 1 : sProp 𝕄)) fun u => cred (tallyAt (crdC i c) (tC i (u - cW i) + 1) 1)
  unfold chG chS rWait wRest
  rw [hr, hw]
  iintro ⟨⟨HP, HG, HA, HW, HC⟩, HR, HK⟩
  ihave HK := (crC_out i c) $$ HK
  icases HK with ⟨HK, HL⟩
  isplitl [HP]; · iexact HP
  isplitl [HG]; · iexact HG
  isplitl [HR HA]
  · unfold crR
    isplitl [HR]; · iexact HR
    iexact HA
  isplitl [HW HK]
  · unfold keyF
    isplitl [HW]; · iexact HW
    iexact HK
  isplitl [HL]; · iexact HL
  iexact HC

/-- All channels and the handshake at the start. -/
theorem start_chans (c : Dev nD) : iprop(dealt c ∗ Pipeline.launchCred (fun d => O d 0) c)
    ⊢ (iprop(barTok c ∗ chS 0 c ∗ chS 1 c ∗ chS 2 c ∗ chS 3 c ∗ chS 4 c) : sProp 𝕄) := by
  unfold dealt barG barTok
  iintro ⟨⟨⟨H0, H1, H2, H3, H4⟩, HT, HA⟩, HC⟩
  ihave HC := (creds_all c) $$ HC
  icases HC with ⟨HB, HR, HK⟩
  ihave HR := (Entails.of_eq (fin5 fun i => crR i c)) $$ HR
  ihave HK := (Entails.of_eq (fin5 fun i => crC i c)) $$ HK
  icases HR with ⟨R0, R1, R2, R3, R4⟩
  icases HK with ⟨K0, K1, K2, K3, K4⟩
  isplitl [HT HA HB]
  · isplitl [HT]; · iexact HT
    unfold crB
    isplitl [HB]; · iexact HB
    iexact HA
  isplitl [H0 R0 K0]
  · iapply (chS_intro 0 c)
    isplitl [H0]; · iexact H0
    isplitl [R0]; · iexact R0
    iexact K0
  isplitl [H1 R1 K1]
  · iapply (chS_intro 1 c)
    isplitl [H1]; · iexact H1
    isplitl [R1]; · iexact R1
    iexact K1
  isplitl [H2 R2 K2]
  · iapply (chS_intro 2 c)
    isplitl [H2]; · iexact H2
    isplitl [R2]; · iexact R2
    iexact K2
  isplitl [H3 R3 K3]
  · iapply (chS_intro 3 c)
    isplitl [H3]; · iexact H3
    isplitl [R3]; · iexact R3
    iexact K3
  iapply (chS_intro 4 c)
  isplitl [H4]; · iexact H4
  isplitl [R4]; · iexact R4
  iexact K4

end Cert.KernelIdeal.Ag
end
-- ==== Proof.KernelIdeal.Blocks.lean ====
module

public import proofs.«01_k».proof.Proof.KernelIdeal.Ghost
public import proofs.«01_k».proof.Proof.Gen.KernelIdeal.Launch
public import Idealize.ShloMosaic.Lib.Ring
public import Idealize.ShloMosaic.Lib.Layout

/-! # Buffers in pieces

The scratch buffers as slots, and the result as blocks of rows. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## The scratch buffers, slot by slot -/

/-- A family over the first numbers is one over `Fin`. -/
theorem fam_fin (n : ℕ) (A : ℕ → sProp 𝕄) : bigSep (Finset.range n) A = bigSep (Finset.univ : Finset (Fin n)) fun u => A u.val := by
  have e : Finset.range n = (Finset.univ : Finset (Fin n)).map Fin.valEmbedding := by
    ext x
    simp only [Finset.mem_range, Finset.mem_map, Finset.mem_univ, true_and, Fin.valEmbedding_apply]
    exact ⟨fun h => ⟨⟨x, h⟩, rfl⟩, fun ⟨u, hu⟩ => hu ▸ u.isLt⟩
  rw [e, bigSep_map]
  rfl

/-- The image of a union. -/
theorem map_cover {A B T : Type} [DecidableEq A] [DecidableEq B] [Fintype T] (e : A ↪ B) (I : T → Finset A) :
    (Finset.univ.biUnion I).map e = Finset.univ.biUnion fun t => (I t).map e := by
  ext x
  simp only [Finset.mem_map, Finset.mem_biUnion, Finset.mem_univ, true_and]
  exact ⟨fun ⟨a, ⟨t, h⟩, e⟩ => ⟨t, a, h, e⟩, fun ⟨t, a, h, e⟩ => ⟨a, ⟨t, h⟩, e⟩⟩

/-- A buffer cut into disjoint sets that cover it, at any contents, is its sets each at some contents. -/
theorem cut_eq {ℓ : Loc nD τ sig} {B : Type} [Fintype B] [DecidableEq B] (I : B → Finset (Idx ℓ))
    (hd : ∀ b b', b ≠ b' → Disjoint (I b) (I b')) (hc : Finset.univ.biUnion I = Finset.univ) (f₀ : Buf (Elt F) ℓ) :
    (iprop(∃ f, ℓ ↦{fullShare} f) : sProp 𝕄) = bigSep Finset.univ fun b => Release.slot ℓ (I b) := by
  refine ent_antisymm ?_ (Ring.pointsTo_blocks_join_exists I hd hc f₀)
  iintro ⟨%f, H⟩
  ihave H := (Entails.of_eq (Ring.pointsTo_blocks I hd hc f)) $$ H
  iapply (fam_mono Finset.univ (A := fun b => (ℓ ↦[I b]{fullShare} f : sProp 𝕄)) fun b _ => by
    unfold Release.slot
    iintro H
    iexists f
    iexact H) $$ H

theorem slot2_set (a : Memref sig .tc .vmem S2x256x1024 .f32) (s : ℕ) :
    ((slot2 a s).view.set : Finset a.view.ty.Idx) = (Rect.unit (s := S2x256x1024) ![s % 2, 0, 0] S1x256x1024.size (slot2_inb s)).set.map a.view.emb :=
  (View.set_reshape _ _).trans (View.set_slice _ _)
theorem slot4_set (a : Memref sig .tc .vmem S4x256x1024 .f32) (s : ℕ) :
    ((slot4 a s).view.set : Finset a.view.ty.Idx) = (Rect.unit (s := S4x256x1024) ![s % 4, 0, 0] S1x256x1024.size (slot4_inb s)).set.map a.view.emb :=
  (View.set_reshape _ _).trans (View.set_slice _ _)

include m in
/-- A whole buffer of two slots. -/
theorem slots2 (c : Dev nD) (a : Memref sig .tc .vmem S2x256x1024 .f32) (ha : a.view.set = Finset.univ) :
    (iprop(∃ f, a.view.loc (c : Thread nD τ) ↦{fullShare} f) : sProp 𝕄) = bigSep (Finset.range 2) fun u => slotF c (slot2 a u) := by
  rw [fam_fin]
  have hd := Ring.lead_disjoint (s := S2x256x1024) (NB := 2) 0 1 (fun b => ![b.val % 2, 0, 0]) S1x256x1024.size (fun b => slot2_inb b.val)
    (by decide) (by decide)
  have hc := Ring.lead_cover (s := S2x256x1024) (NB := 2) 0 1 (fun b => ![b.val % 2, 0, 0]) S1x256x1024.size (fun b => slot2_inb b.val)
    (by decide) (by decide) (by decide) (by decide) (by decide)
  refine cut_eq (ℓ := a.view.loc (c : Thread nD τ)) (fun u : Fin 2 => (slot2 a u.val).view.set) (fun b b' h => ?_) ?_ (m _)
  · rw [slot2_set, slot2_set]
    exact (Finset.disjoint_map _).2 (hd b b' h)
  · refine Eq.trans (b := (Finset.univ.biUnion fun b : Fin 2 => (Rect.unit (s := S2x256x1024) ![b.val % 2, 0, 0] S1x256x1024.size (slot2_inb b.val)).set).map a.view.emb) ?_ ?_
    · exact (Finset.biUnion_congr rfl fun b _ => slot2_set a b.val).trans (map_cover a.view.emb _).symm
    · rw [hc]; exact ha
include m in
/-- A whole buffer of four slots. -/
theorem slots4 (c : Dev nD) (a : Memref sig .tc .vmem S4x256x1024 .f32) (ha : a.view.set = Finset.univ) :
    (iprop(∃ f, a.view.loc (c : Thread nD τ) ↦{fullShare} f) : sProp 𝕄) = bigSep (Finset.range 4) fun u => slotF c (slot4 a u) := by
  rw [fam_fin]
  have hd := Ring.lead_disjoint (s := S4x256x1024) (NB := 4) 0 1 (fun b => ![b.val % 4, 0, 0]) S1x256x1024.size (fun b => slot4_inb b.val)
    (by decide) (by decide)
  have hc := Ring.lead_cover (s := S4x256x1024) (NB := 4) 0 1 (fun b => ![b.val % 4, 0, 0]) S1x256x1024.size (fun b => slot4_inb b.val)
    (by decide) (by decide) (by decide) (by decide) (by decide)
  refine cut_eq (ℓ := a.view.loc (c : Thread nD τ)) (fun u : Fin 4 => (slot4 a u.val).view.set) (fun b b' h => ?_) ?_ (m _)
  · rw [slot4_set, slot4_set]
    exact (Finset.disjoint_map _).2 (hd b b' h)
  · refine Eq.trans (b := (Finset.univ.biUnion fun b : Fin 4 => (Rect.unit (s := S4x256x1024) ![b.val % 4, 0, 0] S1x256x1024.size (slot4_inb b.val)).set).map a.view.emb) ?_ ?_
    · exact (Finset.biUnion_congr rfl fun b _ => slot4_set a b.val).trans (map_cover a.view.emb _).symm
    · rw [hc]; exact ha

theorem two_range (A : ℕ → sProp 𝕄) : bigSep (Finset.range 2) A = iprop(A 0 ∗ A 1) := by
  rw [bigSep_range_succ, bigSep_range_succ, Finset.range_zero, bigSep_empty]
  exact ent_antisymm (by iintro ⟨H1, H0, -⟩; isplitl [H0]; · iexact H0
                         iexact H1)
    (by iintro ⟨H0, H1⟩; isplitl [H1]; · iexact H1
        isplitl [H0]; · iexact H0
        iempintro)

include m in
/-- The scratch buffers at any contents are the channels' slots and the slots of the local copies. -/
theorem scratch_eq (c : Dev nD) : (Pipeline.scopedRest cfg0.spec c : sProp 𝕄) = iprop(mySlots c ∗ locSlots c) := by
  have e0 : (iprop(∃ f, (c : Thread nD τ).loc cc0_scratch0 ↦{fullShare} f) : sProp 𝕄) = iprop(slotF c (ysV 0) ∗ slotF c (ysV 1)) :=
    (slots2 m c (Memref.whole cc0_scratch0) (View.set_whole _)).trans (two_range _)
  have e6 : (iprop(∃ f, (c : Thread nD τ).loc cc0_scratch6 ↦{fullShare} f) : sProp 𝕄) = iprop(slotF c (lcV 0) ∗ slotF c (lcV 1)) :=
    (slots2 m c (Memref.whole cc0_scratch6) (View.set_whole _)).trans (two_range _)
  have e1 : (iprop(∃ f, (c : Thread nD τ).loc cc0_scratch1 ↦{fullShare} f) : sProp 𝕄) = bigSep (Finset.range (cW 0)) fun u => slotF c (dstV 0 u) :=
    slots4 m c (Memref.whole cc0_scratch1) (View.set_whole _)
  have e2 : (iprop(∃ f, (c : Thread nD τ).loc cc0_scratch2 ↦{fullShare} f) : sProp 𝕄) = bigSep (Finset.range (cW 1)) fun u => slotF c (dstV 1 u) :=
    slots4 m c (Memref.whole cc0_scratch2) (View.set_whole _)
  have e3 : (iprop(∃ f, (c : Thread nD τ).loc cc0_scratch3 ↦{fullShare} f) : sProp 𝕄) = bigSep (Finset.range (cW 2)) fun u => slotF c (dstV 2 u) :=
    slots4 m c (Memref.whole cc0_scratch3) (View.set_whole _)
  have e4 : (iprop(∃ f, (c : Thread nD τ).loc cc0_scratch4 ↦{fullShare} f) : sProp 𝕄) = bigSep (Finset.range (cW 3)) fun u => slotF c (dstV 3 u) :=
    slots2 m c (Memref.whole cc0_scratch4) (View.set_whole _)
  have e5 : (iprop(∃ f, (c : Thread nD τ).loc cc0_scratch5 ↦{fullShare} f) : sProp 𝕄) = bigSep (Finset.range (cW 4)) fun u => slotF c (dstV 4 u) :=
    slots2 m c (Memref.whole cc0_scratch5) (View.set_whole _)
  rw [scopedRest0_eq]
  unfold mySlots locSlots slotsF
  refine ent_antisymm ?_ ?_
  · iintro ⟨H0, H1, H2, H3, H4, H5, H6⟩
    isplitr [H0 H6]
    · isplitl [H1]; · iapply (Entails.of_eq e1) $$ H1
      isplitl [H2]; · iapply (Entails.of_eq e2) $$ H2
      isplitl [H3]; · iapply (Entails.of_eq e3) $$ H3
      isplitl [H4]; · iapply (Entails.of_eq e4) $$ H4
      iapply (Entails.of_eq e5) $$ H5
    · isplitl [H0]; · iapply (Entails.of_eq e0) $$ H0
      iapply (Entails.of_eq e6) $$ H6
  · iintro ⟨⟨H1, H2, H3, H4, H5⟩, H0, H6⟩
    isplitl [H0]; · iapply (Entails.of_eq e0.symm) $$ H0
    isplitl [H1]; · iapply (Entails.of_eq e1.symm) $$ H1
    isplitl [H2]; · iapply (Entails.of_eq e2.symm) $$ H2
    isplitl [H3]; · iapply (Entails.of_eq e3.symm) $$ H3
    isplitl [H4]; · iapply (Entails.of_eq e4.symm) $$ H4
    isplitl [H5]; · iapply (Entails.of_eq e5.symm) $$ H5
    iapply (Entails.of_eq e6.symm) $$ H6

theorem dstV_last (i : Fin 5) (u : ℕ) : dstV i (cN i - cW i + u) = dstV i u := by
  have h : ∀ n, dstV i (u + cW i * n) = dstV i u := fun n => by
    induction n with
    | zero => rfl
    | succ n ih => rw [Nat.mul_succ, ← Nat.add_assoc, dstV_add, ih]
  have e : cN i - cW i + u = u + cW i * 3 := by
    have : cN i - cW i = cW i * 3 := (by decide : ∀ i : Fin 5, cN i - cW i = cW i * 3) i
    omega
  rw [e, h]

/-- The slots kept at the end are the channel's slots. -/
theorem keep_all (i : Fin 5) (c : Dev nD) : bigSep (Finset.range (cN i)) (keep i c) ⊢ (slotsF i c : sProp 𝕄) := by
  have hW := cW_le i
  unfold slotsF
  refine BIBase.Entails.trans (bigSep_subset (t := (Finset.range (cW i)).map (addLeftEmbedding (cN i - cW i))) ?_) ?_
  · intro x hx
    simp only [Finset.mem_map, Finset.mem_range, addLeftEmbedding_apply] at hx ⊢
    obtain ⟨j, hj, rfl⟩ := hx
    omega
  · rw [bigSep_map]
    refine fam_mono _ fun u _ => ?_
    show keep i c (cN i - cW i + u) ⊢ _
    unfold keep
    rw [if_neg (by omega), dstV_last]

/-! ## The result, block by block -/

/-- The blocks of the result: sent along y, received along y, x, z, the diagonal ones, and the local ones. -/
def oB (c : Dev nD) (t k : ℕ) : HView := match t with
  | 0 => osV c k | 1 => oyV c k | 2 => oxV c k | 3 => ozV c k | 4 => odV c k
  | t + 5 => olV c t k
/-- The row offset of a block. -/
def oR (c : Dev nD) (t k : ℕ) : Fin 2 → ℕ := match t with
  | 0 => k0_off2 c (kw k) | 1 => k0_off9 c (kw k) | 2 => k0_off10 c (kw k) | 3 => k0_off11 c (kw k) | 4 => k0_off12 c (kw k)
  | 5 => k0_off4 c (kw k) | 6 => k0_off6 c (kw k) | _ => k0_off8 c (kw k)
/-- The eighth of the result the blocks of a kind fill. -/
def qh (c : Dev nD) (t : Fin 8) : ℕ := oR c t.val 0 0 / 4096

theorem oR_eq : ∀ (c : Dev nD) (t : Fin 8) (k : Fin 16), oR c t.val k.val 0 = 4096 * qh c t + 256 * k.val ∧ oR c t.val k.val 1 = 0 := by
  decide +kernel
theorem qh_lt : ∀ (c : Dev nD) (t : Fin 8), qh c t < 8 := by decide +kernel
theorem qh_inj : ∀ (c : Dev nD) (t t' : Fin 8), qh c t = qh c t' → t = t' := by decide +kernel
theorem qh_surj : ∀ (c : Dev nD) (q : Fin 8), ∃ t : Fin 8, qh c t = q.val := by decide +kernel
theorem oR_inb (c : Dev nD) (t : Fin 8) (k : Fin 16) : ∀ a, oR c t.val k.val a + S256x1024.size a ≤ S32768x1024.size a := by
  obtain ⟨h0, h1⟩ := oR_eq c t k
  have hq := qh_lt c t
  have hk := k.isLt
  intro a
  fin_cases a
  · show oR c t.val k.val 0 + 256 ≤ 32768
    omega
  · show oR c t.val k.val 1 + 1024 ≤ 1024
    omega
theorem oB_eq (c : Dev nD) (t : Fin 8) (k : Fin 16) : oB c t.val k.val = oAt (oR c t.val k.val) (oR_inb c t k) := by
  fin_cases t <;> rfl

theorem mem_oB (c : Dev nD) (t : Fin 8) (k : Fin 16) (i : S32768x1024.Idx) :
    i ∈ ((oAt (oR c t.val k.val) (oR_inb c t k)).view.set : Finset S32768x1024.Idx) ↔ (i 0).val / 256 = 16 * qh c t + k.val := by
  obtain ⟨h0, h1⟩ := oR_eq c t k
  have e : ((oAt (oR c t.val k.val) (oR_inb c t k)).view.set : Finset S32768x1024.Idx)
      = (Rect.unit (s := S32768x1024) (oR c t.val k.val) S256x1024.size (oR_inb c t k)).set := View.set_slice_whole main_v1 _
  rw [e, Rect.mem_set_unit]
  constructor
  · intro h
    have h2 := h 0
    have h3 : oR c t.val k.val 0 ≤ (i 0).val ∧ (i 0).val < oR c t.val k.val 0 + 256 := h2
    omega
  · intro h a
    fin_cases a
    · show oR c t.val k.val 0 ≤ (i 0).val ∧ (i 0).val < oR c t.val k.val 0 + 256
      omega
    · show oR c t.val k.val 1 ≤ (i 1).val ∧ (i 1).val < oR c t.val k.val 1 + 1024
      have := (i 1).isLt
      have h5 : (i 1).val < 1024 := this
      omega

/-- A block's elements. -/
def oI (c : Dev nD) (b : Fin 8 × Fin 16) : Finset (Idx ((c : Thread nD τ).loc main_v1)) :=
  (oAt (oR c b.1.val b.2.val) (oR_inb c b.1 b.2)).view.set
theorem oI_disj (c : Dev nD) (b b' : Fin 8 × Fin 16) (h : b ≠ b') : Disjoint (oI c b) (oI c b') := by
  rw [Finset.disjoint_left]
  intro i h1 h2
  have h1 := (mem_oB c b.1 b.2 i).1 h1
  have h2 := (mem_oB c b'.1 b'.2 i).1 h2
  have l1 := b.2.isLt
  have l2 := b'.2.isLt
  have e1 : qh c b.1 = qh c b'.1 := by omega
  have e2 : b.2.val = b'.2.val := by omega
  exact h (Prod.ext (qh_inj c _ _ e1) (Fin.ext e2))
/-- Every row lies in a block. -/
theorem oI_find (c : Dev nD) (r : ℕ) (hr : r < 32768) : ∃ b : Fin 8 × Fin 16, r / 256 = 16 * qh c b.1 + b.2.val := by
  obtain ⟨t, ht⟩ := qh_surj c ⟨r / 4096, by omega⟩
  have ht : qh c t = r / 4096 := ht
  refine ⟨(t, ⟨r / 256 % 16, Nat.mod_lt _ (by decide)⟩), ?_⟩
  show r / 256 = 16 * qh c t + r / 256 % 16
  omega
theorem oI_cover (c : Dev nD) : Finset.univ.biUnion (oI c) = Finset.univ := by
  ext i
  simp only [Finset.mem_biUnion, Finset.mem_univ, true_and, iff_true]
  obtain ⟨b, hb⟩ := oI_find c ((show S32768x1024.Idx from i) 0).val ((show S32768x1024.Idx from i) 0).isLt
  exact ⟨b, (mem_oB c b.1 b.2 i).2 hb⟩

/-- The family of blocks, by kind. -/
theorem out_fam (Ψ : ℕ → ℕ → sProp 𝕄) :
    (bigSep (Finset.univ : Finset (Fin 8 × Fin 16)) fun b => Ψ b.1.val b.2.val)
      = iprop(bigSep (Finset.range 16) (Ψ 0) ∗ bigSep (Finset.range 16) (Ψ 1) ∗ bigSep (Finset.range 16) (Ψ 2) ∗ bigSep (Finset.range 16) (Ψ 3)
        ∗ bigSep (Finset.range 16) (Ψ 4) ∗ bigSep (Finset.range 48) fun n => Ψ (n % 3 + 5) (n / 3)) := by
  have e : Finset.range 48 = (Finset.univ : Finset (Fin 3 × Fin 16)).map ⟨fun p => 3 * p.2.val + p.1.val, fun p p' h => by
      have h1 := p.1.isLt
      have h2 := p'.1.isLt
      have h3 : 3 * p.2.val + p.1.val = 3 * p'.2.val + p'.1.val := h
      exact Prod.ext (Fin.ext (by omega)) (Fin.ext (by omega))⟩ := by
    ext x
    simp only [Finset.mem_range, Finset.mem_map, Finset.mem_univ, true_and, Function.Embedding.coeFn_mk]
    constructor
    · intro h
      exact ⟨(⟨x % 3, Nat.mod_lt _ (by decide)⟩, ⟨x / 3, by omega⟩), by show 3 * (x / 3) + x % 3 = x; omega⟩
    · rintro ⟨p, rfl⟩
      have h1 := p.1.isLt
      have h2 := p.2.isLt
      show 3 * p.2.val + p.1.val < 48
      omega
  have e3 : (bigSep (Finset.range 48) fun n => Ψ (n % 3 + 5) (n / 3))
      = iprop(bigSep (Finset.range 16) (Ψ 5) ∗ bigSep (Finset.range 16) (Ψ 6) ∗ bigSep (Finset.range 16) (Ψ 7)) := by
    rw [e, bigSep_map, bigSep_univ_prod]
    refine Eq.trans (bigSep_univ_eq_bigSepL [0, 1, 2] (by decide) (by decide) _) ?_
    have h : ∀ t : Fin 3, (bigSep (Finset.univ : Finset (Fin 16)) fun k => Ψ ((3 * k.val + t.val) % 3 + 5) ((3 * k.val + t.val) / 3))
        = bigSep (Finset.range 16) (Ψ (t.val + 5)) := fun t => by
      rw [fam_fin]
      refine bigSep_congr fun k _ => ?_
      have h1 := t.isLt
      rw [show (3 * k.val + t.val) % 3 = t.val by omega, show (3 * k.val + t.val) / 3 = k.val by omega]
    have h0 := h 0
    have h1 := h 1
    have h2 := h 2
    exact congrArg₂ BI.sep h0 (congrArg₂ BI.sep h1 h2)
  rw [bigSep_univ_prod, e3, fam_fin, fam_fin, fam_fin, fam_fin, fam_fin, fam_fin, fam_fin, fam_fin]
  exact bigSep_univ_eq_bigSepL [0, 1, 2, 3, 4, 5, 6, 7] (by decide) (by decide) _

/-- The result at any contents is its blocks at any contents. -/
theorem out_open (c : Dev nD) (f : Buf (Elt F) ((c : Thread nD τ).loc main_v1)) :
    ((c : Thread nD τ).loc main_v1 ↦{fullShare} f : sProp 𝕄) ⊢ outF c := by
  have h : (iprop(∃ f, (c : Thread nD τ).loc main_v1 ↦{fullShare} f) : sProp 𝕄) ⊢ outF c := by
    refine BIBase.Entails.trans (Entails.of_eq (cut_eq (oI c) (oI_disj c) (oI_cover c) f)) ?_
    have e : (bigSep Finset.univ fun b => Release.slot ((c : Thread nD τ).loc main_v1) (oI c b))
        = (bigSep (Finset.univ : Finset (Fin 8 × Fin 16)) fun b => slotF c (oB c b.1.val b.2.val) : sProp 𝕄) :=
      bigSep_congr fun b _ => by rw [oB_eq]; rfl
    rw [e, out_fam fun t k => slotF c (oB c t k)]
    exact BIBase.Entails.rfl
  refine BIBase.Entails.trans ?_ h
  iintro H
  iexists f
  iexact H

/-! ### What the blocks hold -/

/-- The device a block's rows come from. -/
def sD (c : Dev nD) (t k : ℕ) : Dev nD := match t with
  | 1 => py c | 2 => py (px c) | 3 => py (pz c)
  | 4 => if k % 2 = 0 then py (pz (px c)) else py (px (pz c))
  | _ => c
/-- The rows of that device's argument. -/
def xB (c : Dev nD) (t k : ℕ) : HView := match t with
  | 0 => xsV c k | 1 => xsV (py c) k | 2 => xsV (py (px c)) k | 3 => xsV (py (pz c)) k | 4 => xsV (sD c 4 k) k
  | t + 5 => xlV c t k
def xR (c : Dev nD) (t k : ℕ) : Fin 2 → ℕ := match t with
  | 0 => k0_off1 c (kw k) | 1 => k0_off1 (py c) (kw k) | 2 => k0_off1 (py (px c)) (kw k) | 3 => k0_off1 (py (pz c)) (kw k)
  | 4 => k0_off1 (sD c 4 k) (kw k)
  | 5 => k0_off3 c (kw k) | 6 => k0_off5 c (kw k) | _ => k0_off7 c (kw k)
/-- A block's contents. -/
def vB (c : Dev nD) (t k : ℕ) : Chunk F := rdOf m (sD c t k) (xB c t k)

/-- The block lies in its device's argument where it lies in its half of the result, and the half is the device's. -/
theorem xR_eq : ∀ (c : Dev nD) (t : Fin 8) (k : Fin 16),
    16384 * ((Layout.meshBlock (r := 2) [2, 2, 4] ![[1], []] (sD c t.val k.val) (by decide) 0).val) + xR c t.val k.val 0 = 4096 * qh c t + 256 * k.val ∧ xR c t.val k.val 1 = 0 := by
  decide +kernel

theorem xR_inb (c : Dev nD) (t : Fin 8) (k : Fin 16) : ∀ a, xR c t.val k.val a + S256x1024.size a ≤ S16384x1024.size a := by
  fin_cases t
  · exact k0_off1_inb _ (fi k.val)
  · exact k0_off1_inb _ (fi k.val)
  · exact k0_off1_inb _ (fi k.val)
  · exact k0_off1_inb _ (fi k.val)
  · exact k0_off1_inb _ (fi k.val)
  · exact k0_off3_inb _ (fi k.val)
  · exact k0_off5_inb _ (fi k.val)
  · exact k0_off7_inb _ (fi k.val)
theorem xB_eq (c : Dev nD) (t : Fin 8) (k : Fin 16) : xB c t.val k.val = xAt (xR c t.val k.val) (xR_inb c t k) := by
  fin_cases t <;> rfl

theorem vB_diag (c : Dev nD) (k : ℕ) : val m (chD k) (nb (chD k) c) (k / 2) = vB m c 4 k := by
  unfold chD
  by_cases h : k % 2 = 0
  · rw [if_pos h]
    show chunk m (py (pz (px c))) (2 * (k / 2)) = rdOf m (sD c 4 k) (xsV (sD c 4 k) k)
    have hs : sD c 4 k = py (pz (px c)) := if_pos h
    rw [hs, show 2 * (k / 2) = k by omega]
    rfl
  · rw [if_neg h]
    show chunk m (py (px (pz c))) (2 * (k / 2) + 1) = rdOf m (sD c 4 k) (xsV (sD c 4 k) k)
    have hs : sD c 4 k = py (px (pz c)) := if_neg h
    rw [hs, show 2 * (k / 2) + 1 = k by omega]
    rfl

/-- What the result of a device holds. -/
def outOK (c : Dev nD) (g : Buf (Elt F) ((c : Thread nD τ).loc main_v1)) : Prop :=
  ∀ (t : Fin 8) (k : Fin 16) (j : S256x1024.Idx),
    (show S32768x1024.Idx → Elt F .f32 from g) ((Rect.unit (s := S32768x1024) (oR c t.val k.val) S256x1024.size (oR_inb c t k)).emb j)
      = (show S16384x1024.Idx → Elt F .f32 from m ((sD c t.val k.val : Thread nD τ).loc main_arg0))
        ((Rect.unit (s := S16384x1024) (xR c t.val k.val) S256x1024.size (xR_inb c t k)).emb j)

theorem out_close (c : Dev nD) : outC m c ⊢ (iprop(∃ g, ⌜outOK m c g⌝ ∗ (c : Thread nD τ).loc main_v1 ↦{fullShare} g) : sProp 𝕄) := by
  have e : outC m c = (bigSep (Finset.univ : Finset (Fin 8 × Fin 16)) fun b => slotC m c (oB c b.1.val b.2.val) (vB m c b.1.val b.2.val) fullShare : sProp 𝕄) := by
    rw [out_fam fun t k => slotC m c (oB c t k) (vB m c t k) fullShare]
    have hd : (bigSep (Finset.range 16) fun k => slotC m c (odV c k) (val m (chD k) (nb (chD k) c) (k / 2)) fullShare)
        = (bigSep (Finset.range 16) fun k => slotC m c (odV c k) (vB m c 4 k) fullShare : sProp 𝕄) :=
      bigSep_congr fun k _ => by rw [vB_diag]
    unfold outC
    rw [hd]
    rfl
  have e2 : (bigSep (Finset.univ : Finset (Fin 8 × Fin 16)) fun b => slotC m c (oB c b.1.val b.2.val) (vB m c b.1.val b.2.val) fullShare)
      = (bigSep (Finset.univ : Finset (Fin 8 × Fin 16)) fun b => (c : Thread nD τ).loc main_v1 ↦[oI c b]{fullShare}
          (oAt (oR c b.1.val b.2.val) (oR_inb c b.1 b.2)).view.write (Elt F) (m ((c : Thread nD τ).loc main_v1))
            (rdOf m (sD c b.1.val b.2.val) (xAt (xR c b.1.val b.2.val) (xR_inb c b.1 b.2))) Finset.univ : sProp 𝕄) :=
    bigSep_congr fun b _ => by unfold vB; rw [oB_eq, xB_eq]; rfl
  rw [e, e2]
  refine BIBase.Entails.trans (pointsTo_biUnion_join Finset.univ (oI c) _ (m _) fun b _ b' _ h => oI_disj c b b' h) ?_
  rw [oI_cover]
  iintro ⟨%g, %hg, H⟩
  iexists g
  isplitr; swap; · iexact H
  ipureintro
  intro t k j
  have hj : (oAt (oR c t.val k.val) (oR_inb c t k)).view.emb j ∈ oI c (t, k) := Finset.mem_map_of_mem _ (Finset.mem_univ j)
  exact (hg (t, k) (Finset.mem_univ _) _ hj).trans (View.write_emb_of_mem _ _ (Finset.mem_univ j))

end Cert.KernelIdeal.Ag
end
-- ==== Proof.KernelIdeal.BodyEq.lean ====
module

public import proofs.«01_k».proof.Proof.KernelIdeal.Phases

/-! # The printed body is the phases -/

@[expose] public section

noncomputable section

namespace Cert.KernelIdeal.Ag

open Idealize.ShloMosaic Idealize.ShloMosaic.TcCoe
open Idealize.SL Idealize.SL.Sem
open Cert.KernelIdeal.Gen

variable {F : FTy → Type} [FloatOps F]

set_option maxRecDepth 100000 in
set_option maxHeartbeats 0 in
/-- The printed body, at the whole buffers and the compiled semaphores, is the phases in order. -/
theorem body_eq (t : Fin cfg0.N) : (bodyAt0 (F := F) t : BProg F) = .op .deviceId fun d => bodyP d := by
  rfl

end Cert.KernelIdeal.Ag
end
-- ==== Proof.KernelIdeal.Run.lean ====
module

public import proofs.«01_k».proof.Proof.KernelIdeal.Fund
public import proofs.«01_k».proof.Proof.KernelIdeal.Credit
public import proofs.«01_k».proof.Proof.KernelIdeal.Blocks
public import proofs.«01_k».proof.Proof.KernelIdeal.BodyEq
public import Idealize.ShloMosaic.Lib.Pipeline.CollectiveSegs
public import Idealize.ShloMosaic.Lib.Quiescent

/-! # The run

The launch of the sixteen devices and what every final state holds. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## The body between launch and exit -/

/-- What a device starts from, apart from its scratch buffers. -/
def start (c : Dev nD) : sProp 𝕄 :=
  iprop(recs m ∗ (barTok c ∗ chS 0 c ∗ chS 1 c ∗ chS 2 c ∗ chS 3 c ∗ chS 4 c) ∗ locV c ∗ xW m c
    ∗ (c : Thread nD τ).loc main_v1 ↦{fullShare} m ((c : Thread nD τ).loc main_v1))
/-- What a device's buffers hold at the end. -/
def done (c : Dev nD) : sProp 𝕄 :=
  iprop(xW m c ∗ ∃ g, ⌜outOK m c g⌝ ∗ (c : Thread nD τ).loc main_v1 ↦{fullShare} g)
def Φ₀ (c : Dev nD) : sProp 𝕄 := iprop(start m c ∗ Pipeline.scopedRest cfg0.spec c)
def Φ₁ (c : Dev nD) : sProp 𝕄 :=
  iprop(done m c ∗ (Pipeline.ownSems0 osem c ∗ unscopedSems0 c) ∗ Pipeline.scopedRest cfg0.spec c)

/-- A channel at the end: its counters at zero and its slots. -/
theorem chE_out (i : Fin 5) (c : Dev nD) :
    chE i c ⊢ (iprop(chF (fun sm => semVal ((c : Thread nD τ), sm) 0) i ∗ slotsF i c) : sProp 𝕄) := by
  unfold chE chF
  iintro ⟨H1, H2, H3, H4⟩
  isplitr [H3]
  · isplitl [H1]; · iexact H1
    isplitl [H2]; · iexact H2
    iexact H4
  iapply (keep_all i c) $$ H3

theorem body_end (c : Dev nD) : iprop(endAll m c ∗ semVal (barC c) 0) ⊢ Φ₁ m c := by
  have hs := all_sems (F := F) c
  rw [sems_split] at hs
  unfold endAll Φ₁ done
  rw [hs, scratch_eq m, localS_eq]
  unfold mySlots
  iintro ⟨⟨⟨H0, H1, H2, H3, H4⟩, HO, ⟨HV, HL⟩, HX⟩, HB⟩
  ihave H0 := (chE_out 0 c) $$ H0
  ihave H1 := (chE_out 1 c) $$ H1
  ihave H2 := (chE_out 2 c) $$ H2
  ihave H3 := (chE_out 3 c) $$ H3
  ihave H4 := (chE_out 4 c) $$ H4
  icases H0 with ⟨H0, S0⟩
  icases H1 with ⟨H1, S1⟩
  icases H2 with ⟨H2, S2⟩
  icases H3 with ⟨H3, S3⟩
  icases H4 with ⟨H4, S4⟩
  isplitl [HX HO]
  · isplitl [HX]; · iexact HX
    iapply (out_close m c) $$ HO
  isplitl [H0 H1 H2 H3 H4 HV HB]
  · isplitl [H0 H1 H2 H3 H4]
    · isplitl [H0]; · iexact H0
      isplitl [H1]; · iexact H1
      isplitl [H2]; · iexact H2
      isplitl [H3]; · iexact H3
      iexact H4
    isplitl [HV]; · unfold locV; iexact HV
    iexact HB
  isplitr [HL]
  · isplitl [S0]; · iexact S0
    isplitl [S1]; · iexact S1
    isplitl [S2]; · iexact S2
    isplitl [S3]; · iexact S3
    iexact S4
  iexact HL

/-- The body takes a device from its start to its end. -/
theorem body_run (c : Dev nD) (Q : PUnit → sProp 𝕄) :
    iprop(Φ₀ m c ∗ OW c 0 ∗ ((Φ₁ m c ∗ OW c 168) -∗ Q ⟨⟩)) ⊢ WPc c (bodyP c) Q := by
  unfold Φ₀ start
  rw [scratch_eq m]
  iintro ⟨⟨⟨Hr, ⟨HB, H0, H1, H2, H3, H4⟩, HV, HX, HO⟩, HM, HL⟩, HW, Hk⟩
  ihave HO := (out_open c (m ((c : Thread nD τ).loc main_v1))) $$ HO
  iapply (wp_bodyP m c Q)
  isplitl [Hr]; · iexact Hr
  isplitl [HB]; · iexact HB
  isplitl [HM]; · iexact HM
  isplitr [HW Hk]
  · unfold startAll
    rw [localS_eq]
    isplitl [H0 H1 H2 H3 H4]
    · isplitl [H0]; · iexact H0
      isplitl [H1]; · iexact H1
      isplitl [H2]; · iexact H2
      isplitl [H3]; · iexact H3
      iexact H4
    isplitl [HO]; · iexact HO
    isplitl [HV HL]
    · isplitl [HV]; · iexact HV
      iexact HL
    iexact HX
  isplitl [HW]; · iexact HW
  iintro ⟨HE, HS, HW⟩
  iapply Hk
  isplitr [HW]
  · iapply (body_end m c)
    isplitl [HE]; · iexact HE
    iexact HS
  iexact HW

/-! ## The launch -/

def dats (_ : Fin 1) (c : Dev nD) : Pipeline.Dat τ (Elt F) ℕ ℕ UU ℕ cfg0 c where
  A w := m ((cfg0.win w).arr.view.loc (c : Thread nD τ))
  after w _ := w.elim0
  Φ t := match t with
    | ⟨0, _⟩ => Φ₀ m c
    | ⟨_ + 1, _⟩ => Φ₁ m c
  q _ := fullShare
  owed t := match t with
    | ⟨0, _⟩ => O c 0
    | ⟨_ + 1, _⟩ => 0

/-- The body's obligation on a device. -/
theorem body_obligation (c : Dev nD) : Pipeline.BodyObligation (dats (F := F) m 0 c) (defs₀ (F := F)) Variants.none (0 : ℕ) Set.univ := fun t => by
  rw [fin_N0 t]
  have h0 : (Finset.univ : Finset (Fin cfg0.W)) = ∅ := rfl
  simp only [h0, bigSep_empty]
  show iprop(Φ₀ m c ∗ _) ⊢ wp frame (wpE (defs₀ (F := F)) Variants.none c none) Set.univ (bodyAt0 (F := F) t0_0) _
  rw [body_eq, wp_deviceId]
  iintro ⟨HP, HO, -⟩
  iapply (body_run m c _)
  isplitl [HP]; · iexact HP
  isplitl [HO]
  · unfold OW Pipeline.Dat.owesAt Pipeline.owesWithin
    icases HO with ⟨%W, -, HO⟩
    iexists W
    iexact HO
  iintro ⟨HP, HO⟩
  isplitl [HP]; · iapply (Entails.of_eq (show Φ₁ m c = (dats m 0 c).Φ t0_0.succ from rfl)) $$ HP
  isplitl [HO]
  · unfold OW Pipeline.Dat.owesAt Pipeline.owesWithin
    icases HO with ⟨%W, HO⟩
    iexists W
    isplitr; · ipureintro; exact fun _ _ => Or.inl trivial
    rw [O_end]
    iexact HO
  iempintro

theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ (|={Set.univ}=> iprop(start m c ∗ emp) : sProp 𝕄) := by
  unfold G' start
  rw [Pipeline.unscopedRestP_none, unscopedRest0_eq]
  iintro ⟨⟨HX, HV⟩, HL, HC, -, HR, HD, HS⟩
  imodintro
  isplitl; swap; · iempintro
  isplitl [HR HL]
  · iapply (recs_intro m)
    isplitl [HR]; · iexact HR
    unfold levs
    iexact HL
  isplitl [HD HC]
  · iapply (start_chans c)
    isplitl [HD]; · iexact HD
    iexact HC
  isplitl [HS]; · iexact HS
  isplitl [HX]; · unfold xW; iexact HX
  iexact HV

theorem phi_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨HS, -, HR⟩
  isplitl [HS]; · iexact HS
  iexact HR
theorem phi_exit (c : Dev nD) :
    (dats m 0 c).Φ (Fin.last cfg0.N) ⊢ iprop((unscopedSems0 c ∗ done m c) ∗ Pipeline.ownSems0 osem c ∗ Pipeline.scopedRest cfg0.spec c) := by
  rw [show (dats m 0 c).Φ (Fin.last cfg0.N) = Φ₁ m c from rfl]
  unfold Φ₁
  iintro ⟨HD, ⟨HO, HU⟩, HR⟩
  isplitl [HD HU]
  · isplitl [HU]; · iexact HU
    iexact HD
  isplitl [HO]; · iexact HO
  iexact HR

/-- A buffer held whole is what the memory holds. -/
theorem read_whole {ℓ : Loc nD τ sig} (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := ℕ) (Name := ℕ) (U := UU) (Lvl := ℕ) ({()} : Finset Unit) (fun _ => ℓ) (fun _ => f) s'
  rw [bigSep_singleton] at h
  refine BIBase.Entails.trans h ?_
  iintro ⟨%e, H⟩
  isplitr; · ipureintro; exact e () (Finset.mem_singleton_self _)
  iexact H

/-- What the final memory holds on a device. -/
def QY (c : Dev nD) (s : MemSt nD τ sig (Elt F)) : Prop :=
  (s.mem ((c : Thread nD τ).loc main_arg0) = m ((c : Thread nD τ).loc main_arg0) ∧ outOK m c (s.mem ((c : Thread nD τ).loc main_v1)))
    ∧ ∀ sm : SemLoc sig, sm.isScoped .tc = false → s.sem ((c.tc : Thread nD τ), sm) = 0

theorem final_read (c : Dev nD) (s' : Phys nD τ sig (Elt F)) :
    iprop((unscopedSems0 c ∗ done m c) ∗ emp ∗ SI s') ⊢ (|={Set.univ}=> iprop(⌜QY m c s'.mem⌝ ∗ SI s') : sProp 𝕄) := by
  unfold done xW
  iintro ⟨⟨HU, HX, ⟨%g, %hg, HV⟩⟩, -, HSI⟩
  ihave H := (read_whole _ s') $$ [HX HSI]
  · isplitl [HX]; · iexact HX
    iexact HSI
  icases H with ⟨%e1, HSI⟩
  ihave H := (read_whole _ s') $$ [HV HSI]
  · isplitl [HV]; · iexact HV
    iexact HSI
  icases H with ⟨%e2, HSI⟩
  imod (Pipeline.unscopedSems0_read (X := unscopedSems0 c) (c := c) fupd_intro s') $$ [HU HSI] with ⟨%e3, HSI⟩
  · isplitl [HU]; · iexact HU
    iexact HSI
  imodintro
  isplitr
  · ipureintro
    exact ⟨⟨e1, e2.symm ▸ hg⟩, e3⟩
  iexact HSI

/-- From any memory with zero counters: every weakly fair execution on the sixteen devices terminates, and at the end each device's argument
    is unchanged, its result holds the rows of all arguments, and every counter is zero. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0)
      ∧ outOK m c (r.2.mem ((c : Thread nD τ).loc main_v1))) ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ Variants.none m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := fun c => O c 0) (howed₀ := fun _ => rfl) (howedN := fun _ => rfl)
    (L := L) (lv := lv) (hL := L_of_ne) (hwaits := fun c => Pipeline.cellsWaits_intro cfgs (dats m) (0 : ℕ) 0 c fun w s t => w.elim0)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => iprop(unscopedSems0 c ∗ done m c)) (Z := fun _ => iprop(emp))
    (hX := start_intro m ρ) (hin := phi_intro m) (hout := phi_exit m)
    (QY := QY m) (hY := final_read m)
    (hQ := fun _ h hs => ⟨fun c => (h c).2.2.1, sem_eq_zero hs fun c => (h c).2.2.2⟩)

end Cert.KernelIdeal.Ag
end
-- ==== Proof.KernelIdeal.Value.lean ====
module

public import proofs.«01_k».proof.Proof.KernelIdeal.Run
public import Idealize.ShloMosaic.Lib.Pipeline.ValueKit.Geometry

/-! # The value

The gathered array is the whole array. -/

@[expose] public section

set_option maxRecDepth 100000

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ)

/-! ## The gathered array -/

/-- The result of every device is the whole array of whose blocks the arguments are the parts. -/
theorem gathered (A : S32768x1024.Idx → Elt F .f32)
    (hm : ∀ c : Dev nD, m ((c.tc : Thread nD τ).loc main_arg0) = Layout.blockN ⟨2, ![16384, 1024]⟩ ⟨2, ![32768, 1024]⟩ (Layout.meshBlock [2, 2, 4] ![[1], []] c) A)
    (c : Dev nD) (g : Buf (Elt F) ((c : Thread nD τ).loc main_v1)) (h : outOK m c g) : g = A := by
  funext i
  change S32768x1024.Idx at i
  have hi1 : (i 1).val < 1024 := (i 1).isLt
  obtain ⟨⟨t, k⟩, hb⟩ := oI_find c (i 0).val (i 0).isLt
  have hb : (i 0).val / 256 = 16 * qh c t + k.val := hb
  obtain ⟨ho0, ho1⟩ := oR_eq c t k
  obtain ⟨hx0, hx1⟩ := xR_eq c t k
  have hj0 : (i 0).val % 256 < 256 := Nat.mod_lt _ (by decide)
  let j : S256x1024.Idx := fun a => match a with
    | ⟨0, _⟩ => ⟨(i 0).val % 256, hj0⟩
    | ⟨1, _⟩ => ⟨(i 1).val, hi1⟩
  have e := h t k j
  have ei : (Rect.unit (s := S32768x1024) (oR c t.val k.val) S256x1024.size (oR_inb c t k)).emb j = i := by
    funext a
    refine Fin.ext ((ValueKit.rect_emb_unit_val _ _ _ j a).trans ?_)
    fin_cases a
    · show oR c t.val k.val 0 + (i 0).val % 256 = (i 0).val
      omega
    · show oR c t.val k.val 1 + (i 1).val = (i 1).val
      omega
  rw [ei, hm] at e
  refine e.trans (congrArg A ?_)
  funext a
  refine Fin.ext ((Layout.TilesN.idx_val _ _ _ a).trans ?_)
  fin_cases a
  · have h0 := ValueKit.rect_emb_unit_val (s := S16384x1024) (xR c t.val k.val) S256x1024.size (xR_inb c t k) j 0
    have h1 : ((j 0).val) = (i 0).val % 256 := rfl
    show (Layout.meshBlock (r := 2) [2, 2, 4] ![[1], []] (sD c t.val k.val) (by decide) 0).val * 16384 + ((Rect.unit (s := S16384x1024) (xR c t.val k.val) S256x1024.size (xR_inb c t k)).emb j 0).val = (i 0).val
    rw [h0, h1]
    omega
  · have h0 := ValueKit.rect_emb_unit_val (s := S16384x1024) (xR c t.val k.val) S256x1024.size (xR_inb c t k) j 1
    have h1 : ((j 1).val) = (i 1).val := rfl
    show (Layout.meshBlock (r := 2) [2, 2, 4] ![[1], []] (sD c t.val k.val) (by decide) 1).val * 1024 + ((Rect.unit (s := S16384x1024) (xR c t.val k.val) S256x1024.size (xR_inb c t k)).emb j 1).val = (i 1).val
    rw [h0, h1, hx1]
    have h2 : (Layout.meshBlock (r := 2) [2, 2, 4] ![[1], []] (sD c t.val k.val) (by decide) 1).val < 1 := (Layout.meshBlock (r := 2) [2, 2, 4] ![[1], []] (sD c t.val k.val) (by decide) 1).isLt
    omega

end Cert.KernelIdeal.Ag
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Run
public import proofs.«01_k».proof.Proof.KernelIdeal.Value
public import Idealize.ShloMosaic.Lib.StableHlo.Run
public import Idealize.ShloMosaic.Lib.StableHlo.RunClose
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem

/-! ## The reference: the argument is the result -/

namespace Ref

open Cert.ReferenceIdeal Cert.ReferenceIdeal.Gen

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- The reference has no operation: every buffer ends as it began. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after [] (launchContents m d) (b : DevRef τ sig) :=
  run_seq scopedRefs_eq scopedSems_eq defs main (fun _ => []) (fun _ => rfl) (fun _ => trivial) m ρ

theorem run_arg (m : (ℓ : Loc nD τ sig) → Buf (Elt F) ℓ) (ρ : Dev nD → PrngReg) :
    θ_run defs (onTc (τ := τ) (main (F := F))) ⟨m, fun _ => 0, ρ⟩ fun r =>
      (∀ d : Dev nD, r.2.mem ((d.tc : Thread nD τ).loc main_arg0) = m ((d.tc : Thread nD τ).loc main_arg0)) ∧ r.2.sem = fun _ => 0 :=
  (θ_run defs _ _).mono (fun r h => ⟨fun d => h d main_arg0, sem_eq_zero_of_no_sems (by decide) r.2⟩) (run_main m ρ)

end Ref

/-! ## The claims -/

theorem frame_p : Cert.quiescent_Kernel := fun m ρ _ =>
  (θ_run Cert.Kernel.defs _ _).mono (fun _ h => ⟨fun c => (h.1 c).1, h.2⟩) (Cert.Kernel.Ag.run_main (F := Bits) m ρ)

theorem frame_pi : Cert.quiescent_KernelIdeal := fun m ρ _ =>
  (θ_run Cert.KernelIdeal.defs _ _).mono (fun _ h => ⟨fun c => (h.1 c).1, h.2⟩) (Cert.KernelIdeal.Ag.run_main (F := Ideal) m ρ)

theorem frame_ri : Cert.quiescent_ReferenceIdeal := fun m ρ _ => Ref.run_arg (F := Ideal) m ρ

/-- Every device's result is the reference's array. -/
theorem algebraic_pi : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun r h c => ⟨Cert.KernelIdeal.Ag.gathered m _ hm c _ (h.1 c).2, (h.1 c).1⟩) (Cert.KernelIdeal.Ag.run_main (F := Ideal) m ρ),
    (θ_run Cert.ReferenceIdeal.defs _ _).mono (fun r h => ⟨h.1 0, h.1 0⟩) (Ref.run_arg (F := Ideal) m' ρ')⟩

theorem claim : Cert.Claim := ⟨Cert.Kernel.Gen.facts, Cert.KernelIdeal.Gen.facts, Cert.ReferenceIdeal.Gen.facts,
  frame_p, frame_pi, frame_ri, trivial, algebraic_pi⟩

end Cert.Proof

end
